-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latents [hPre_finite_latents : Cert.Pre_finite_latents.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latents [hPre_finite_latents : Cert.Pre_finite_latents.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentIdeal_pre_finite_latents [hLatentIdeal : Cert.LatentIdeal.Facts] [hPre_finite_latents : Cert.Pre_finite_latents.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latents m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_LatentReferenceIdeal_pre_finite_latents [hLatentReferenceIdeal : Cert.LatentReferenceIdeal.Facts] [hPre_finite_latents : Cert.Pre_finite_latents.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latents m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v21) = v1 c
          ∧ r.2.mem ((c.tc : Thread Cert.InProjReferenceIdeal.nD Cert.InProjReferenceIdeal.τ).loc Cert.InProjReferenceIdeal.main_v22) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Latent_LatentIdeal : Prop :=
  IdealRules.named_const.Statement Cert.LatentIdeal.κ "inv_qk" .f32 0x3C2AAAAB#32 ((1 / 96 : ℝ) : EReal)

def algebraic_LatentIdeal_LatentReferenceIdeal_pre_finite_latents [hLatentIdeal : Cert.LatentIdeal.Facts] [hLatentReferenceIdeal : Cert.LatentReferenceIdeal.Facts] [hPre_finite_latents : Cert.Pre_finite_latents.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_latents m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v91_0)) (v1 : (c : Dev Cert.LatentIdeal.nD) → Buf (Elt Ideal) ((c.tc : Thread Cert.LatentIdeal.nD Cert.LatentIdeal.τ).loc Cert.LatentIdeal.main_v91_1)) (v2 : (c : Dev Cert.LatentIdeal.nD) → Buf (Elt Ideal) ((c.tc : Thread Cert.LatentIdeal.nD Cert.LatentIdeal.τ).loc Cert.LatentIdeal.main_v91_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v91_0) = v0 c
          ∧ r.2.mem ((c.tc : Thread Cert.LatentIdeal.nD Cert.LatentIdeal.τ).loc Cert.LatentIdeal.main_v91_1) = v1 c
          ∧ r.2.mem ((c.tc : Thread Cert.LatentIdeal.nD Cert.LatentIdeal.τ).loc Cert.LatentIdeal.main_v91_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v135) = v0 c
          ∧ r.2.mem ((c.tc : Thread Cert.LatentReferenceIdeal.nD Cert.LatentReferenceIdeal.τ).loc Cert.LatentReferenceIdeal.main_v138) = v1 c
          ∧ r.2.mem ((c.tc : Thread Cert.LatentReferenceIdeal.nD Cert.LatentReferenceIdeal.τ).loc Cert.LatentReferenceIdeal.main_v140) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v20) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hLatent : Cert.Latent.Facts) (hLatentIdeal : Cert.LatentIdeal.Facts) (hLatentReferenceIdeal : Cert.LatentReferenceIdeal.Facts) (hConv : Cert.Conv.Facts) (hConvIdeal : Cert.ConvIdeal.Facts) (hConvReferenceIdeal : Cert.ConvReferenceIdeal.Facts) (hPre_finite_scores : Cert.Pre_finite_scores.Facts) (hPre_finite_latents : Cert.Pre_finite_latents.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Latent (hLatent := hLatent)
    ∧ quiescent_LatentIdeal (hLatentIdeal := hLatentIdeal)
    ∧ quiescent_LatentIdeal_pre_finite_latents (hLatentIdeal := hLatentIdeal) (hPre_finite_latents := hPre_finite_latents)
    ∧ quiescent_LatentReferenceIdeal (hLatentReferenceIdeal := hLatentReferenceIdeal)
    ∧ quiescent_LatentReferenceIdeal_pre_finite_latents (hLatentReferenceIdeal := hLatentReferenceIdeal) (hPre_finite_latents := hPre_finite_latents)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Latent_LatentIdeal
    ∧ algebraic_LatentIdeal_LatentReferenceIdeal_pre_finite_latents (hLatentIdeal := hLatentIdeal) (hLatentReferenceIdeal := hLatentReferenceIdeal) (hPre_finite_latents := hPre_finite_latents)
    ∧ preserves_Conv_ConvIdeal
    ∧ algebraic_ConvIdeal_ConvReferenceIdeal (hConvIdeal := hConvIdeal) (hConvReferenceIdeal := hConvReferenceIdeal)
-- ==== Pre_finite_latents.lean ====
abbrev S2x4096x416 : Shape := ⟨3, ![2, 4096, 416]⟩
abbrev S256 : Shape := ⟨1, ![256]⟩
abbrev S256x576 : Shape := ⟨2, ![256, 576]⟩
abbrev S128 : Shape := ⟨1, ![128]⟩
abbrev S128x768 : Shape := ⟨2, ![128, 768]⟩
abbrev S96 : Shape := ⟨1, ![96]⟩
abbrev S_ : Shape := ⟨0, ![]⟩

class Facts : Prop where
  bcast_S_S2x4096x416 : S_.BroadcastsInDim S2x4096x416 (![] : Fin 0 → Fin S2x4096x416.rank)
  bcast_S_S256 : S_.BroadcastsInDim S256 (![] : Fin 0 → Fin S256.rank)
  bcast_S_S256x576 : S_.BroadcastsInDim S256x576 (![] : Fin 0 → Fin S256x576.rank)
  bcast_S_S128 : S_.BroadcastsInDim S128 (![] : Fin 0 → Fin S128.rank)
  bcast_S_S128x768 : S_.BroadcastsInDim S128x768 (![] : Fin 0 → Fin S128x768.rank)

variable [Facts]

def fn {F : FTy → Type} [FloatOps F] (main_arg0 : FVec F S2x4096x416 .f32) (main_arg1 : FVec F S256 .f32) (main_arg2 : FVec F S256x576 .f32) (main_arg3 : FVec F S128 .f32) (main_arg4 : FVec F S128x768 .f32) (main_arg5 : FVec F S96 .f32) (main_arg6 : FVec F S96 .f32) : IVec S2x4096x416 1 × IVec S256 1 × IVec S256x576 1 × IVec S128 1 × IVec S128x768 1 :=
  let main_v0 : FVec F S2x4096x416 .f32 := Host.absf main_arg0
  let main_cst : FVec F S_ .f32 := constant S_ .f32 0x7F800000#32
  let main_v1 : FVec F S2x4096x416 .f32 := broadcastInDim S2x4096x416 ![] bcast_S_S2x4096x416 main_cst
  let main_v2 : IVec S2x4096x416 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S256x576 .f32 := Host.absf main_arg2
  let main_cst_1 : FVec F S_ .f32 := constant S_ .f32 0x7F800000#32
  let main_v7 : FVec F S256x576 .f32 := broadcastInDim S256x576 ![] bcast_S_S256x576 main_cst_1
  let main_v8 : IVec S256x576 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x768 .f32 := Host.absf main_arg4
  let main_cst_3 : FVec F S_ .f32 := constant S_ .f32 0x7F800000#32
  let main_v13 : FVec F S128x768 .f32 := broadcastInDim S128x768 ![] bcast_S_S128x768 main_cst_3
  let main_v14 : IVec S128x768 1 := cmpf .olt main_v12 main_v13
  (main_v2, main_v5, main_v8, main_v11, main_v14)
-- ==== Pre_finite_scores.lean ====
abbrev S2x4096x6x96 : Shape := ⟨4, ![2, 4096, 6, 96]⟩
abbrev S2x4096x6x64 : Shape := ⟨4, ![2, 4096, 6, 64]⟩
abbrev S2x256x6x96 : Shape := ⟨4, ![2, 256, 6, 96]⟩
abbrev S2x256x6x64 : Shape := ⟨4, ![2, 256, 6, 64]⟩
abbrev S_ : Shape := ⟨0, ![]⟩

class Facts : Prop where
  bcast_S_S2x4096x6x96 : S_.BroadcastsInDim S2x4096x6x96 (![] : Fin 0 → Fin S2x4096x6x96.rank)
  bcast_S_S2x256x6x96 : S_.BroadcastsInDim S2x256x6x96 (![] : Fin 0 → Fin S2x256x6x96.rank)

variable [Facts]

def fn {F : FTy → Type} [FloatOps F] (main_arg0 : FVec F S2x4096x6x96 .f32) (main_arg1 : FVec F S2x4096x6x96 .f32) (main_arg2 : FVec F S2x4096x6x64 .f32) (main_arg3 : FVec F S2x256x6x96 .f32) (main_arg4 : FVec F S2x256x6x64 .f32) : IVec S2x4096x6x96 1 × IVec S2x4096x6x96 1 × IVec S2x256x6x96 1 :=
  let main_v0 : FVec F S2x4096x6x96 .f32 := Host.absf main_arg0
  let main_cst : FVec F S_ .f32 := constant S_ .f32 0x7F800000#32
  let main_v1 : FVec F S2x4096x6x96 .f32 := broadcastInDim S2x4096x6x96 ![] bcast_S_S2x4096x6x96 main_cst
  let main_v2 : IVec S2x4096x6x96 1 := cmpf .olt main_v0 main_v1
  let main_v3 : FVec F S2x4096x6x96 .f32 := Host.absf main_arg1
  let main_cst_0 : FVec F S_ .f32 := constant S_ .f32 0x7F800000#32
  let main_v4 : FVec F S2x4096x6x96 .f32 := broadcastInDim S2x4096x6x96 ![] bcast_S_S2x4096x6x96 main_cst_0
  let main_v5 : IVec S2x4096x6x96 1 := cmpf .olt main_v3 main_v4
  let main_v6 : FVec F S2x256x6x96 .f32 := Host.absf main_arg3
  let main_cst_1 : FVec F S_ .f32 := constant S_ .f32 0x7F800000#32
  let main_v7 : FVec F S2x256x6x96 .f32 := broadcastInDim S2x256x6x96 ![] bcast_S_S2x256x6x96 main_cst_1
  let main_v8 : IVec S2x256x6x96 1 := cmpf .olt main_v6 main_v7
  (main_v2, main_v5, main_v8)
-- ==== Kernel.lean ====
abbrev S2x4096x6x96 : Shape := ⟨4, ![2, 4096, 6, 96]⟩
abbrev S2x4096x6x64 : Shape := ⟨4, ![2, 4096, 6, 64]⟩
abbrev S2x256x6x96 : Shape := ⟨4, ![2, 256, 6, 96]⟩
abbrev S2x256x6x64 : Shape := ⟨4, ![2, 256, 6, 64]⟩
abbrev S_ : Shape := ⟨0, ![]⟩
abbrev S2x4096x6x128 : Shape := ⟨4, ![2, 4096, 6, 128]⟩
abbrev S2x4096x768 : Shape := ⟨3, ![2, 4096, 768]⟩
abbrev S2x4352x6x96 : Shape := ⟨4, ![2, 4352, 6, 96]⟩
abbrev S2x4352x6x128 : Shape := ⟨4, ![2, 4352, 6, 128]⟩
abbrev S2x4352x768 : Shape := ⟨3, ![2, 4352, 768]⟩
abbrev S2x4352x6x64 : Shape := ⟨4, ![2, 4352, 6, 64]⟩
abbrev S2x4352x384 : Shape := ⟨3, ![2, 4352, 384]⟩
abbrev S2x4096x384 : Shape := ⟨3, ![2, 4096, 384]⟩
abbrev S1x512x768 : Shape := ⟨3, ![1, 512, 768]⟩
abbrev S1x4352x768 : Shape := ⟨3, ![1, 4352, 768]⟩
abbrev S1x4352x384 : Shape := ⟨3, ![1, 4352, 384]⟩
abbrev S1x512x384 : Shape := ⟨3, ![1, 512, 384]⟩
abbrev S512x128 : Shape := ⟨2, ![512, 128]⟩
abbrev S1x4352x128 : Shape := ⟨3, ![1, 4352, 128]⟩
abbrev S4352x128 : Shape := ⟨2, ![4352, 128]⟩
abbrev S1x512x128 : Shape := ⟨3, ![1, 512, 128]⟩
abbrev S512x4352 : Shape := ⟨2, ![512, 4352]⟩
abbrev S512 : Shape := ⟨1, ![512]⟩
abbrev S512x1 : Shape := ⟨2, ![512, 1]⟩

abbrev nBuf : Space → Nat
  | .hbm => 23
  | .vmem => 8
  | .smem => 0
  | _ => 0

abbrev bufTy : (tb : Table) → Fin (tcTables nBuf tb) → BufTy
  | .hbm, ⟨0, _⟩ => ⟨S2x4096x6x96, .f32⟩
  | .hbm, ⟨1, _⟩ => ⟨S2x4096x6x96, .f32⟩
  | .hbm, ⟨2, _⟩ => ⟨S2x4096x6x64, .f32⟩
  | .hbm, ⟨3, _⟩ => ⟨S2x256x6x96, .f32⟩
  | .hbm, ⟨4, _⟩ => ⟨S2x256x6x64, .f32⟩
  | .hbm, ⟨5, _⟩ => ⟨S_, .f32⟩
  | .hbm, ⟨6, _⟩ => ⟨S2x4096x6x96, .f32⟩
  | .hbm, ⟨7, _⟩ => ⟨S2x4096x6x96, .f32⟩
  | .hbm, ⟨8, _⟩ => ⟨S_, .i32⟩
  | .hbm, ⟨9, _⟩ => ⟨S_, .f32⟩
  | .hbm, ⟨10, _⟩ => ⟨S2x4096x6x128, .f32⟩
  | .hbm, ⟨11, _⟩ => ⟨S2x4096x768, .f32⟩
  | .hbm, ⟨12, _⟩ => ⟨S2x4096x768, .bf16⟩
  | .hbm, ⟨13, _⟩ => ⟨S2x4352x6x96, .f32⟩
  | .hbm, ⟨14, _⟩ => ⟨S_, .i32⟩
  | .hbm, ⟨15, _⟩ => ⟨S_, .f32⟩
  | .hbm, ⟨16, _⟩ => ⟨S2x4352x6x128, .f32⟩
  | .hbm, ⟨17, _⟩ => ⟨S2x4352x768, .f32⟩
  | .hbm, ⟨18, _⟩ => ⟨S2x4352x768, .bf16⟩
  | .hbm, ⟨19, _⟩ => ⟨S2x4352x6x64, .f32⟩
  | .hbm, ⟨20, _⟩ => ⟨S2x4352x384, .f32⟩
  | .hbm, ⟨21, _⟩ => ⟨S2x4352x384, .bf16⟩
  | .hbm, ⟨22, _⟩ => ⟨S2x4096x384, .f32⟩
  | .local _ .vmem, ⟨0, _⟩ => ⟨S1x512x768, .bf16⟩
  | .local _ .vmem, ⟨1, _⟩ => ⟨S1x512x768, .bf16⟩
  | .local _ .vmem, ⟨2, _⟩ => ⟨S1x4352x768, .bf16⟩
  | .local _ .vmem, ⟨3, _⟩ => ⟨S1x4352x768, .bf16⟩
  | .local _ .vmem, ⟨4, _⟩ => ⟨S1x4352x384, .bf16⟩
  | .local _ .vmem, ⟨5, _⟩ => ⟨S1x4352x384, .bf16⟩
  | .local _ .vmem, ⟨6, _⟩ => ⟨S1x512x384, .f32⟩
  | .local _ .vmem, ⟨7, _⟩ => ⟨S1x512x384, .f32⟩
  | _, _ => ⟨S2x4096x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4096x6x96 : Shape := ⟨4, ![2, 4096, 6, 96]⟩
abbrev S2x4096x6x64 : Shape := ⟨4, ![2, 4096, 6, 64]⟩
abbrev S2x256x6x96 : Shape := ⟨4, ![2, 256, 6, 96]⟩
abbrev S2x256x6x64 : Shape := ⟨4, ![2, 256, 6, 64]⟩
abbrev S2x4352x6x96 : Shape := ⟨4, ![2, 4352, 6, 96]⟩
abbrev S2x4352x6x64 : Shape := ⟨4, ![2, 4352, 6, 64]⟩
abbrev S2x6x4096x4352 : Shape := ⟨4, ![2, 6, 4096, 4352]⟩
abbrev S_ : Shape := ⟨0, ![]⟩
abbrev S2x6x4096 : Shape := ⟨3, ![2, 6, 4096]⟩
abbrev S2x6x4096x1 : Shape := ⟨4, ![2, 6, 4096, 1]⟩
abbrev S2x6x64x4096 : Shape := ⟨4, ![2, 6, 64, 4096]⟩
abbrev S2x4096x384 : Shape := ⟨3, ![2, 4096, 384]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x6x96, .f32⟩
  | .hbm, ⟨1, _⟩ => ⟨S2x4096x6x96, .f32⟩
  | .hbm, ⟨2, _⟩ => ⟨S2x4096x6x64, .f32⟩
  | .hbm, ⟨3, _⟩ => ⟨S2x256x6x96, .f32⟩
  | .hbm, ⟨4, _⟩ => ⟨S2x256x6x64, .f32⟩
  | .hbm, ⟨5, _⟩ => ⟨S2x4352x6x96, .f32⟩
  | .hbm, ⟨6, _⟩ => ⟨S2x4352x6x64, .f32⟩
  | .hbm, ⟨7, _⟩ => ⟨S2x6x4096x4352, .f32⟩
  | .hbm, ⟨8, _⟩ => ⟨S_, .f32⟩
  | .hbm, ⟨9, _⟩ => ⟨S2x6x4096x4352, .f32⟩
  | .hbm, ⟨10, _⟩ => ⟨S2x6x4096x4352, .f32⟩
  | .hbm, ⟨11, _⟩ => ⟨S_, .f32⟩
  | .hbm, ⟨12, _⟩ => ⟨S2x6x4096, .f32⟩
  | .hbm, ⟨13, _⟩ => ⟨S_, .f32⟩
  | .hbm, ⟨14, _⟩ => ⟨S2x6x4096, .f32⟩
  | .hbm, ⟨15, _⟩ => ⟨S2x6x4096, .f32⟩
  | .hbm, ⟨16, _⟩ => ⟨S2x6x4096x1, .f32⟩
  | .hbm, ⟨17, _⟩ => ⟨S2x6x4096x4352, .f32⟩
  | .hbm, ⟨18, _⟩ => ⟨S2x6x4096x4352, .f32⟩
  | .hbm, ⟨19, _⟩ => ⟨S2x6x4096x4352, .f32⟩
  | .hbm, ⟨20, _⟩ => ⟨S_, .f32⟩
  | .hbm, ⟨21, _⟩ => ⟨S2x6x4096, .f32⟩
  | .hbm, ⟨22, _⟩ => ⟨S2x6x4096x1, .f32⟩
  | .hbm, ⟨23, _⟩ => ⟨S2x6x4096x4352, .f32⟩
  | .hbm, ⟨24, _⟩ => ⟨S2x6x4096x4352, .f32⟩
  | .hbm, ⟨25, _⟩ => ⟨S2x6x64x4096, .f32⟩
  | .hbm, ⟨26, _⟩ => ⟨S2x4096x6x64, .f32⟩
  | .hbm, ⟨27, _⟩ => ⟨S2x4096x384, .f32⟩
  | _, _ => ⟨S2x4096x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InProj.lean ====
abbrev S2x4096x1024 : Shape := ⟨3, ![2, 4096, 1024]⟩
abbrev S1024 : Shape := ⟨1, ![1024]⟩
abbrev S2x1x1024 : Shape := ⟨3, ![2, 1, 1024]⟩
abbrev S1024x2592 : Shape := ⟨2, ![1024, 2592]⟩
abbrev S1024x1408 : Shape := ⟨2, ![1024, 1408]⟩
abbrev S1024x416 : Shape := ⟨2, ![1024, 416]⟩
abbrev S1024x768 : Shape := ⟨2, ![1024, 768]⟩
abbrev S1x1024 : Shape := ⟨2, ![1, 1024]⟩
abbrev S2x4096x1408 : Shape := ⟨3, ![2, 4096, 1408]⟩
abbrev S2x4096x416 : Shape := ⟨3, ![2, 4096, 416]⟩
abbrev S2x4096x768 : Shape := ⟨3, ![2, 4096, 768]⟩
abbrev S1x512x1024 : Shape := ⟨3, ![1, 512, 1024]⟩
abbrev S1x1x1024 : Shape := ⟨3, ![1, 1, 1024]⟩
abbrev S1x512x1408 : Shape := ⟨3, ![1, 512, 1408]⟩
abbrev S1x512x416 : Shape := ⟨3, ![1, 512, 416]⟩
abbrev S1x512x768 : Shape := ⟨3, ![1, 512, 768]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩
abbrev S512x416 : Shape := ⟨2, ![512, 416]⟩
abbrev S512x768 : Shape := ⟨2, ![512, 768]⟩

abbrev nBuf : Space → Nat
  | .hbm => 15
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2592, .f32⟩
  | .hbm, ⟨5, _⟩ => ⟨S1024x1408, .f32⟩
  | .hbm, ⟨6, _⟩ => ⟨S1024x1408, .bf16⟩
  | .hbm, ⟨7, _⟩ => ⟨S1024x416, .f32⟩
  | .hbm, ⟨8, _⟩ => ⟨S1024x416, .bf16⟩
  | .hbm, ⟨9, _⟩ => ⟨S1024x768, .f32⟩
  | .hbm, ⟨10, _⟩ => ⟨S1024x768, .bf16⟩
  | .hbm, ⟨11, _⟩ => ⟨S1x1024, .f32⟩
  | .hbm, ⟨12, _⟩ => ⟨S2x4096x1408, .f32⟩
  | .hbm, ⟨13, _⟩ => ⟨S2x4096x416, .f32⟩
  | .hbm, ⟨14, _⟩ => ⟨S2x4096x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1408, .bf16⟩
  | .local _ .vmem, ⟨8, _⟩ => ⟨S1024x416, .bf16⟩
  | .local _ .vmem, ⟨9, _⟩ => ⟨S1024x768, .bf16⟩
  | .local _ .vmem, ⟨10, _⟩ => ⟨S1x512x1408, .f32⟩
  | .local _ .vmem, ⟨11, _⟩ => ⟨S1x512x1408, .f32⟩
  | .local _ .vmem, ⟨12, _⟩ => ⟨S1x512x416, .f32⟩
  | .local _ .vmem, ⟨13, _⟩ => ⟨S1x512x416, .f32⟩
  | .local _ .vmem, ⟨14, _⟩ => ⟨S1x512x768, .f32⟩
  | .local _ .vmem, ⟨15, _⟩ => ⟨S1x512x768, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x416 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x416 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjReferenceIdeal.lean ====
abbrev S2x4096x1024 : Shape := ⟨3, ![2, 4096, 1024]⟩
abbrev S1024 : Shape := ⟨1, ![1024]⟩
abbrev S2x1x1024 : Shape := ⟨3, ![2, 1, 1024]⟩
abbrev S1024x2592 : Shape := ⟨2, ![1024, 2592]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2592 : Shape := ⟨3, ![2, 4096, 2592]⟩
abbrev S2x4096x1408 : Shape := ⟨3, ![2, 4096, 1408]⟩
abbrev S2x4096x416 : Shape := ⟨3, ![2, 4096, 416]⟩
abbrev S2x4096x768 : Shape := ⟨3, ![2, 4096, 768]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2592, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x2592, .f32⟩
  | .hbm, ⟨29, _⟩ => ⟨S2x4096x1408, .f32⟩
  | .hbm, ⟨30, _⟩ => ⟨S2x4096x416, .f32⟩
  | .hbm, ⟨31, _⟩ => ⟨S2x4096x768, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutProj.lean ====
abbrev S2x4096x1024 : Shape := ⟨3, ![2, 4096, 1024]⟩
abbrev S2x1x1024 : Shape := ⟨3, ![2, 1, 1024]⟩
abbrev S2x4096x384 : Shape := ⟨3, ![2, 4096, 384]⟩
abbrev S2x4096x256 : Shape := ⟨3, ![2, 4096, 256]⟩
abbrev S1024x1024 : Shape := ⟨2, ![1024, 1024]⟩
abbrev S1x512x1024 : Shape := ⟨3, ![1, 512, 1024]⟩
abbrev S1x1x1024 : Shape := ⟨3, ![1, 1, 1024]⟩
abbrev S1x512x384 : Shape := ⟨3, ![1, 512, 384]⟩
abbrev S1x512x256 : Shape := ⟨3, ![1, 512, 256]⟩
abbrev S512x384 : Shape := ⟨2, ![512, 384]⟩
abbrev S384x1024 : Shape := ⟨2, ![384, 1024]⟩
abbrev S512x1024 : Shape := ⟨2, ![512, 1024]⟩
abbrev S512x256 : Shape := ⟨2, ![512, 256]⟩
abbrev S256x1024 : Shape := ⟨2, ![256, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S2x1x1024, .f32⟩
  | .hbm, ⟨2, _⟩ => ⟨S2x4096x384, .f32⟩
  | .hbm, ⟨3, _⟩ => ⟨S2x4096x384, .f32⟩
  | .hbm, ⟨4, _⟩ => ⟨S2x4096x256, .f32⟩
  | .hbm, ⟨5, _⟩ => ⟨S1024x1024, .f32⟩
  | .hbm, ⟨6, _⟩ => ⟨S1024x1024, .bf16⟩
  | .hbm, ⟨7, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S2x4096x1024 : Shape := ⟨3, ![2, 4096, 1024]⟩
abbrev S2x1x1024 : Shape := ⟨3, ![2, 1, 1024]⟩
abbrev S2x4096x384 : Shape := ⟨3, ![2, 4096, 384]⟩
abbrev S2x4096x256 : Shape := ⟨3, ![2, 4096, 256]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1x1024, .f32⟩
  | .hbm, ⟨2, _⟩ => ⟨S2x4096x384, .f32⟩
  | .hbm, ⟨3, _⟩ => ⟨S2x4096x384, .f32⟩
  | .hbm, ⟨4, _⟩ => ⟨S2x4096x256, .f32⟩
  | .hbm, ⟨5, _⟩ => ⟨S1024x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Latent.lean ====
abbrev S2x4096x416 : Shape := ⟨3, ![2, 4096, 416]⟩
abbrev S256 : Shape := ⟨1, ![256]⟩
abbrev S256x576 : Shape := ⟨2, ![256, 576]⟩
abbrev S128 : Shape := ⟨1, ![128]⟩
abbrev S128x768 : Shape := ⟨2, ![128, 768]⟩
abbrev S96 : Shape := ⟨1, ![96]⟩
abbrev S32x1 : Shape := ⟨2, ![32, 1]⟩
abbrev S256x6x96 : Shape := ⟨3, ![256, 6, 96]⟩
abbrev S_ : Shape := ⟨0, ![]⟩
abbrev S256x6x128 : Shape := ⟨3, ![256, 6, 128]⟩
abbrev S256x768 : Shape := ⟨2, ![256, 768]⟩
abbrev S128x6x128 : Shape := ⟨3, ![128, 6, 128]⟩
abbrev S128x6x64 : Shape := ⟨3, ![128, 6, 64]⟩
abbrev S128x384 : Shape := ⟨2, ![128, 384]⟩
abbrev S768 : Shape := ⟨1, ![768]⟩
abbrev S1x768 : Shape := ⟨2, ![1, 768]⟩
abbrev S32x768 : Shape := ⟨2, ![32, 768]⟩
abbrev S768x1 : Shape := ⟨2, ![768, 1]⟩
abbrev S768x768 : Shape := ⟨2, ![768, 768]⟩
abbrev S8 : Shape := ⟨1, ![8]⟩
abbrev S4096 : Shape := ⟨1, ![4096]⟩
abbrev S4096x1 : Shape := ⟨2, ![4096, 1]⟩
abbrev S4096x2 : Shape := ⟨2, ![4096, 2]⟩
abbrev S128x1 : Shape := ⟨2, ![128, 1]⟩
abbrev S4096x128 : Shape := ⟨2, ![4096, 128]⟩
abbrev S1x128 : Shape := ⟨2, ![1, 128]⟩
abbrev S1x4096x1x128 : Shape := ⟨4, ![1, 4096, 1, 128]⟩
abbrev S1x4096x6x128 : Shape := ⟨4, ![1, 4096, 6, 128]⟩
abbrev S4096x768 : Shape := ⟨2, ![4096, 768]⟩
abbrev S1x256 : Shape := ⟨2, ![1, 256]⟩
abbrev S6x128 : Shape := ⟨2, ![6, 128]⟩
abbrev S2x4096x768 : Shape := ⟨3, ![2, 4096, 768]⟩
abbrev S2x4096x384 : Shape := ⟨3, ![2, 4096, 384]⟩
abbrev S1x256x416 : Shape := ⟨3, ![1, 256, 416]⟩
abbrev S1x256x768 : Shape := ⟨3, ![1, 256, 768]⟩
abbrev S1x256x384 : Shape := ⟨3, ![1, 256, 384]⟩
abbrev S256x416 : Shape := ⟨2, ![256, 416]⟩
abbrev S256x256 : Shape := ⟨2, ![256, 256]⟩
abbrev S256x128 : Shape := ⟨2, ![256, 128]⟩
abbrev S256x32 : Shape := ⟨2, ![256, 32]⟩
abbrev S256x1 : Shape := ⟨2, ![256, 1]⟩
abbrev S256x384 : Shape := ⟨2, ![256, 384]⟩

abbrev nBuf : Space → Nat
  | .hbm => 229
  | .vmem => 21
  | .smem => 0
  | _ => 0

abbrev hbmTy0_0 (i : Nat) : BufTy := match i % 128 with
  | 0 => ⟨S2x4096x416, .f32⟩
  | 1 => ⟨S256, .f32⟩
  | 2 => ⟨S256x576, .f32⟩
  | 3 => ⟨S128, .f32⟩
  | 4 => ⟨S128x768, .f32⟩
  | 5 => ⟨S96, .f32⟩
  | 6 => ⟨S96, .f32⟩
  | 7 => ⟨S32x1, .i32⟩
  | 8 => ⟨S128, .i32⟩
  | 9 => ⟨S128, .i1⟩
  | 10 => ⟨S128, .i32⟩
  | 11 => ⟨S128, .i1⟩
  | 12 => ⟨S128, .i1⟩
  | 13 => ⟨S128, .i1⟩
  | 14 => ⟨S256x6x96, .f32⟩
  | 15 => ⟨S_, .i32⟩
  | 16 => ⟨S_, .f32⟩
  | 17 => ⟨S256x6x128, .f32⟩
  | 18 => ⟨S256x768, .f32⟩
  | 19 => ⟨S256x768, .bf16⟩
  | 20 => ⟨S128x6x128, .f32⟩
  | 21 => ⟨S128x6x64, .f32⟩
  | 22 => ⟨S128x384, .f32⟩
  | 23 => ⟨S128x6x64, .f32⟩
  | 24 => ⟨S_, .i32⟩
  | 25 => ⟨S_, .f32⟩
  | 26 => ⟨S128x6x128, .f32⟩
  | 27 => ⟨S128x768, .f32⟩
  | 28 => ⟨S128x768, .bf16⟩
  | 29 => ⟨S128x6x64, .f32⟩
  | 30 => ⟨S128x384, .f32⟩
  | 31 => ⟨S128x384, .bf16⟩
  | 32 => ⟨S768, .i32⟩
  | 33 => ⟨S1x768, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S1x768, .i32⟩
  | 41 => ⟨S1x768, .i32⟩
  | 42 => ⟨S_, .i32⟩
  | 43 => ⟨S1x768, .i32⟩
  | 44 => ⟨S1x768, .i1⟩
  | 45 => ⟨S_, .i32⟩
  | 46 => ⟨S1x768, .i32⟩
  | 47 => ⟨S1x768, .i1⟩
  | 48 => ⟨S_, .i32⟩
  | 49 => ⟨S_, .i1⟩
  | 50 => ⟨S1x768, .i1⟩
  | 51 => ⟨S1x768, .i1⟩
  | 52 => ⟨S1x768, .i1⟩
  | 53 => ⟨S1x768, .i32⟩
  | 54 => ⟨S1x768, .i32⟩
  | 55 => ⟨S1x768, .i32⟩
  | 56 => ⟨S_, .i32⟩
  | 57 => ⟨S1x768, .i32⟩
  | 58 => ⟨S1x768, .i32⟩
  | 59 => ⟨S32x768, .i32⟩
  | 60 => ⟨S32x768, .i32⟩
  | 61 => ⟨S32x768, .i1⟩
  | 62 => ⟨S32x768, .bf16⟩
  | 63 => ⟨S768x1, .i32⟩
  | 64 => ⟨S_, .i32⟩
  | 65 => ⟨S_, .i32⟩
  | 66 => ⟨S768x1, .i32⟩
  | 67 => ⟨S768x1, .i32⟩
  | 68 => ⟨S768x1, .i32⟩
  | 69 => ⟨S_, .i32⟩
  | 70 => ⟨S768x1, .i32⟩
  | 71 => ⟨S768x1, .i1⟩
  | 72 => ⟨S768x1, .i32⟩
  | 73 => ⟨S768x1, .i32⟩
  | 74 => ⟨S_, .i32⟩
  | 75 => ⟨S768x1, .i32⟩
  | 76 => ⟨S768x1, .i1⟩
  | 77 => ⟨S768x1, .i1⟩
  | 78 => ⟨S_, .i32⟩
  | 79 => ⟨S768x1, .i32⟩
  | 80 => ⟨S768x1, .i32⟩
  | 81 => ⟨S768x1, .i32⟩
  | 82 => ⟨S1x768, .i32⟩
  | 83 => ⟨S_, .i32⟩
  | 84 => ⟨S_, .i32⟩
  | 85 => ⟨S1x768, .i32⟩
  | 86 => ⟨S1x768, .i32⟩
  | 87 => ⟨S1x768, .i32⟩
  | 88 => ⟨S_, .i32⟩
  | 89 => ⟨S1x768, .i32⟩
  | 90 => ⟨S1x768, .i1⟩
  | 91 => ⟨S1x768, .i32⟩
  | 92 => ⟨S1x768, .i32⟩
  | 93 => ⟨S_, .i32⟩
  | 94 => ⟨S1x768, .i32⟩
  | 95 => ⟨S1x768, .i1⟩
  | 96 => ⟨S1x768, .i1⟩
  | 97 => ⟨S_, .i32⟩
  | 98 => ⟨S1x768, .i32⟩
  | 99 => ⟨S1x768, .i32⟩
  | 100 => ⟨S1x768, .i32⟩
  | 101 => ⟨S768x768, .i32⟩
  | 102 => ⟨S768x768, .i32⟩
  | 103 => ⟨S768x768, .i1⟩
  | 104 => ⟨S768x768, .bf16⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S4096, .i32⟩
  | 120 => ⟨S_, .i32⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i1⟩
  | _ => ⟨S2x4096x416, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S4096, .i1⟩
  | 6 => ⟨S_, .i32⟩
  | 7 => ⟨S4096, .i32⟩
  | 8 => ⟨S4096, .i32⟩
  | 9 => ⟨S4096, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i1⟩
  | 24 => ⟨S_, .i32⟩
  | 25 => ⟨S_, .i1⟩
  | 26 => ⟨S4096, .i1⟩
  | 27 => ⟨S4096, .i1⟩
  | 28 => ⟨S4096, .i1⟩
  | 29 => ⟨S4096, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096x2, .f32⟩
  | 36 => ⟨S_, .i32⟩
  | 37 => ⟨S128, .i32⟩
  | 38 => ⟨S128, .i32⟩
  | 39 => ⟨S128, .i32⟩
  | 40 => ⟨S128x1, .i32⟩
  | 41 => ⟨S4096x128, .f32⟩
  | 42 => ⟨S_, .i32⟩
  | 43 => ⟨S128, .i32⟩
  | 44 => ⟨S128, .i32⟩
  | 45 => ⟨S128, .i32⟩
  | 46 => ⟨S128x1, .i32⟩
  | 47 => ⟨S128, .f32⟩
  | 48 => ⟨S1x128, .f32⟩
  | 49 => ⟨S4096x128, .f32⟩
  | 50 => ⟨S4096x128, .f32⟩
  | 51 => ⟨S1x128, .i1⟩
  | 52 => ⟨S_, .i1⟩
  | 53 => ⟨S1x128, .i1⟩
  | 54 => ⟨S1x128, .i1⟩
  | 55 => ⟨S4096x128, .f32⟩
  | 56 => ⟨S_, .f32⟩
  | 57 => ⟨S_, .f32⟩
  | 58 => ⟨S4096x128, .i1⟩
  | 59 => ⟨S4096x128, .f32⟩
  | 60 => ⟨S4096x128, .f32⟩
  | 61 => ⟨S4096x128, .f32⟩
  | 62 => ⟨S_, .f32⟩
  | 63 => ⟨S_, .f32⟩
  | 64 => ⟨S128, .f32⟩
  | 65 => ⟨S128, .f32⟩
  | 66 => ⟨S128, .f32⟩
  | 67 => ⟨S1x128, .f32⟩
  | 68 => ⟨S1x128, .f32⟩
  | 69 => ⟨S4096x128, .f32⟩
  | 70 => ⟨S4096x128, .f32⟩
  | 71 => ⟨S_, .f32⟩
  | 72 => ⟨S_, .f32⟩
  | 73 => ⟨S4096x128, .i1⟩
  | 74 => ⟨S4096x128, .f32⟩
  | 75 => ⟨S4096x128, .f32⟩
  | 76 => ⟨S1x4096x1x128, .f32⟩
  | 77 => ⟨S1x4096x6x128, .f32⟩
  | 78 => ⟨S4096x768, .f32⟩
  | 79 => ⟨S1x4096x1x128, .f32⟩
  | 80 => ⟨S1x4096x6x128, .f32⟩
  | 81 => ⟨S4096x768, .f32⟩
  | 82 => ⟨S1x256, .f32⟩
  | 83 => ⟨S1x128, .f32⟩
  | 84 => ⟨S_, .i32⟩
  | 85 => ⟨S_, .f32⟩
  | 86 => ⟨S128, .f32⟩
  | 87 => ⟨S1x128, .f32⟩
  | 88 => ⟨S6x128, .f32⟩
  | 89 => ⟨S768, .f32⟩
  | 90 => ⟨S1x768, .f32⟩
  | 91 => ⟨S_, .i32⟩
  | 92 => ⟨S_, .f32⟩
  | 93 => ⟨S128, .f32⟩
  | 94 => ⟨S1x128, .f32⟩
  | 95 => ⟨S6x128, .f32⟩
  | 96 => ⟨S768, .f32⟩
  | 97 => ⟨S1x768, .f32⟩
  | 98 => ⟨S2x4096x768, .bf16⟩
  | 99 => ⟨S2x4096x768, .bf16⟩
  | 100 => ⟨S2x4096x384, .bf16⟩
  | _ => ⟨S2x4096x416, .f32⟩

abbrev hbmTy (i : Nat) : BufTy := match i / 128 with
  | 0 => hbmTy0_0 i
  | 1 => hbmTy0_1 i
  | _ => ⟨S2x4096x416, .f32⟩

abbrev bufTy : (tb : Table) → Fin (tcTables nBuf tb) → BufTy
  | .hbm, ⟨i, _⟩ => hbmTy i
  | .local _ .vmem, ⟨0, _⟩ => ⟨S1x256x416, .f32⟩
  | .local _ .vmem, ⟨1, _⟩ => ⟨S1x256x416, .f32⟩
  | .local _ .vmem, ⟨2, _⟩ => ⟨S1x256, .f32⟩
  | .local _ .vmem, ⟨3, _⟩ => ⟨S256x768, .bf16⟩
  | .local _ .vmem, ⟨4, _⟩ => ⟨S1x128, .f32⟩
  | .local _ .vmem, ⟨5, _⟩ => ⟨S128x768, .bf16⟩
  | .local _ .vmem, ⟨6, _⟩ => ⟨S128x384, .bf16⟩
  | .local _ .vmem, ⟨7, _⟩ => ⟨S32x768, .bf16⟩
  | .local _ .vmem, ⟨8, _⟩ => ⟨S1x768, .f32⟩
  | .local _ .vmem, ⟨9, _⟩ => ⟨S1x768, .f32⟩
  | .local _ .vmem, ⟨10, _⟩ => ⟨S768x768, .bf16⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S1x256x768, .bf16⟩
  | .local _ .vmem, ⟨16, _⟩ => ⟨S1x256x768, .bf16⟩
  | .local _ .vmem, ⟨17, _⟩ => ⟨S1x256x768, .bf16⟩
  | .local _ .vmem, ⟨18, _⟩ => ⟨S1x256x768, .bf16⟩
  | .local _ .vmem, ⟨19, _⟩ => ⟨S1x256x384, .bf16⟩
  | .local _ .vmem, ⟨20, _⟩ => ⟨S1x256x384, .bf16⟩
  | _, _ => ⟨S2x4096x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_v0 : Ref sig .tc := ⟨.hbm, 14, rfl⟩
abbrev main_c_6 : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_7 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_8 : Ref sig .tc := ⟨.hbm, 34, rfl⟩
abbrev main_call2_v0 : Ref sig .tc := ⟨.hbm, 35, rfl⟩
abbrev main_call2_c : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_1 : Ref sig .tc := ⟨.hbm, 42, rfl⟩
abbrev main_call2_v5 : Ref sig .tc := ⟨.hbm, 43, rfl⟩
abbrev main_call2_v6 : Ref sig .tc := ⟨.hbm, 44, rfl⟩
abbrev main_call2_c_2 : Ref sig .tc := ⟨.hbm, 45, rfl⟩
abbrev main_call2_v7 : Ref sig .tc := ⟨.hbm, 46, rfl⟩
abbrev main_call2_v8 : Ref sig .tc := ⟨.hbm, 47, rfl⟩
abbrev main_call2_c_3 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_v16 : Ref sig .tc := ⟨.hbm, 55, rfl⟩
abbrev main_c_9 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_10 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v24 : Ref sig .tc := ⟨.hbm, 81, rfl⟩
abbrev main_v25 : Ref sig .tc := ⟨.hbm, 82, rfl⟩
abbrev main_c_11 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_c : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_0 : Ref sig .tc := ⟨.hbm, 97, rfl⟩
abbrev main_call4_v12 : Ref sig .tc := ⟨.hbm, 98, rfl⟩
abbrev main_call4_v13 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst : Ref sig .tc := ⟨.hbm, 106, rfl⟩
abbrev main_v32 : Ref sig .tc := ⟨.hbm, 107, rfl⟩
abbrev main_v33 : Ref sig .tc := ⟨.hbm, 108, rfl⟩
abbrev main_cst_12 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_13 : Ref sig .tc := ⟨.hbm, 113, rfl⟩
abbrev main_v37 : Ref sig .tc := ⟨.hbm, 114, rfl⟩
abbrev main_v38 : Ref sig .tc := ⟨.hbm, 115, rfl⟩
abbrev main_cst_14 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_c_15 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_v6 : Ref sig .tc := ⟨.hbm, 127, rfl⟩
abbrev main_call5_v7 : Ref sig .tc := ⟨.hbm, 128, rfl⟩
abbrev main_call5_v8 : Ref sig .tc := ⟨.hbm, 129, rfl⟩
abbrev main_call5_c : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_0 : Ref sig .tc := ⟨.hbm, 134, rfl⟩
abbrev main_call5_v12 : Ref sig .tc := ⟨.hbm, 135, rfl⟩
abbrev main_call5_v13 : Ref sig .tc := ⟨.hbm, 136, rfl⟩
abbrev main_v42 : Ref sig .tc := ⟨.hbm, 137, rfl⟩
abbrev main_c_16 : Ref sig .tc := ⟨.hbm, 138, rfl⟩
abbrev main_call6_v0 : Ref sig .tc := ⟨.hbm, 139, rfl⟩
abbrev main_call6_c : Ref sig .tc := ⟨.hbm, 140, rfl⟩
abbrev main_call6_v1 : Ref sig .tc := ⟨.hbm, 141, rfl⟩
abbrev main_call6_c_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_c_1 : Ref sig .tc := ⟨.hbm, 146, rfl⟩
abbrev main_call6_v5 : Ref sig .tc := ⟨.hbm, 147, rfl⟩
abbrev main_call6_v6 : Ref sig .tc := ⟨.hbm, 148, rfl⟩
abbrev main_call6_c_2 : Ref sig .tc := ⟨.hbm, 149, rfl⟩
abbrev main_call6_v7 : Ref sig .tc := ⟨.hbm, 150, rfl⟩
abbrev main_call6_v8 : Ref sig .tc := ⟨.hbm, 151, rfl⟩
abbrev main_call6_c_3 : Ref sig .tc := ⟨.hbm, 152, rfl⟩
abbrev main_call6_v9 : Ref sig .tc := ⟨.hbm, 153, rfl⟩
abbrev main_call6_v10 : Ref sig .tc := ⟨.hbm, 154, rfl⟩
abbrev main_call6_v11 : Ref sig .tc := ⟨.hbm, 155, rfl⟩
abbrev main_call6_v12 : Ref sig .tc := ⟨.hbm, 156, rfl⟩
abbrev main_call6_v13 : Ref sig .tc := ⟨.hbm, 157, rfl⟩
abbrev main_call6_v14 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_c_17 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_c_18 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_c_19 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_cst_20 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_v65 : Ref sig .tc := ⟨.hbm, 188, rfl⟩
abbrev main_v66 : Ref sig .tc := ⟨.hbm, 189, rfl⟩
abbrev main_cst_21 : Ref sig .tc := ⟨.hbm, 190, rfl⟩
abbrev main_cst_22 : Ref sig .tc := ⟨.hbm, 191, rfl⟩
abbrev main_call8_v0 : Ref sig .tc := ⟨.hbm, 192, rfl⟩
abbrev main_call8_v1 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_cst_23 : Ref sig .tc := ⟨.hbm, 199, rfl⟩
abbrev main_call9_v0 : Ref sig .tc := ⟨.hbm, 200, rfl⟩
abbrev main_call9_v1 : Ref sig .tc := ⟨.hbm, 201, rfl⟩
abbrev main_call9_v2 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_c_24 : Ref sig .tc := ⟨.hbm, 212, rfl⟩
abbrev main_call10_v0 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_v85 : Ref sig .tc := ⟨.hbm, 218, rfl⟩
abbrev main_c_25 : Ref sig .tc := ⟨.hbm, 219, rfl⟩
abbrev main_call11_v0 : Ref sig .tc := ⟨.hbm, 220, rfl⟩
abbrev main_v86 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_v90 : Ref sig .tc := ⟨.hbm, 225, rfl⟩
abbrev main_v91_0 : Ref sig .tc := ⟨.hbm, 226, rfl⟩
abbrev main_v91_1 : Ref sig .tc := ⟨.hbm, 227, rfl⟩
abbrev main_v91_2 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== LatentIdeal.lean ====
variable {F : FTy → Type} [FloatOps F] [Named F]
def κ : String → Option EReal := fun
  | "inv_qk" => some ((1 / 96 : ℝ) : EReal)
  | _ => none
-- ==== LatentReferenceIdeal.lean ====
abbrev S2x4096x416 : Shape := ⟨3, ![2, 4096, 416]⟩
abbrev S256 : Shape := ⟨1, ![256]⟩
abbrev S256x576 : Shape := ⟨2, ![256, 576]⟩
abbrev S128 : Shape := ⟨1, ![128]⟩
abbrev S128x768 : Shape := ⟨2, ![128, 768]⟩
abbrev S96 : Shape := ⟨1, ![96]⟩
abbrev S2x4096x256 : Shape := ⟨3, ![2, 4096, 256]⟩
abbrev S2x4096x128 : Shape := ⟨3, ![2, 4096, 128]⟩
abbrev S2x4096x32 : Shape := ⟨3, ![2, 4096, 32]⟩
abbrev S_ : Shape := ⟨0, ![]⟩
abbrev S2x4096 : Shape := ⟨2, ![2, 4096]⟩
abbrev S2x4096x1 : Shape := ⟨3, ![2, 4096, 1]⟩
abbrev S1x1x256 : Shape := ⟨3, ![1, 1, 256]⟩
abbrev S2x4096x576 : Shape := ⟨3, ![2, 4096, 576]⟩
abbrev S2x4096x6x96 : Shape := ⟨4, ![2, 4096, 6, 96]⟩
abbrev S1x1x128 : Shape := ⟨3, ![1, 1, 128]⟩
abbrev S2x4096x768 : Shape := ⟨3, ![2, 4096, 768]⟩
abbrev S2x4096x6x128 : Shape := ⟨4, ![2, 4096, 6, 128]⟩
abbrev S2x4096x6x64 : Shape := ⟨4, ![2, 4096, 6, 64]⟩
abbrev S2x4096x1x32 : Shape := ⟨4, ![2, 4096, 1, 32]⟩
abbrev S2x4096x6x32 : Shape := ⟨4, ![2, 4096, 6, 32]⟩
abbrev S2x4096x6 : Shape := ⟨3, ![2, 4096, 6]⟩
abbrev S2x4096x6x1 : Shape := ⟨4, ![2, 4096, 6, 1]⟩
abbrev S1x1x1x96 : Shape := ⟨4, ![1, 1, 1, 96]⟩
abbrev S64 : Shape := ⟨1, ![64]⟩
abbrev S64x64 : Shape := ⟨2, ![64, 64]⟩
abbrev S8 : Shape := ⟨1, ![8]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S1x1x8 : Shape := ⟨3, ![1, 1, 8]⟩
abbrev S4096x2x8 : Shape := ⟨3, ![4096, 2, 8]⟩
abbrev S2x4096x6x2x16 : Shape := ⟨5, ![2, 4096, 6, 2, 16]⟩
abbrev S2x4096x6x2x8 : Shape := ⟨5, ![2, 4096, 6, 2, 8]⟩
abbrev S1x4096x1x2x8 : Shape := ⟨5, ![1, 4096, 1, 2, 8]⟩
abbrev S2x4096x384 : Shape := ⟨3, ![2, 4096, 384]⟩

abbrev nBuf : Space → Nat
  | .hbm => 169
  | .vmem => 0
  | .smem => 0
  | _ => 0

abbrev hbmTy0_0 (i : Nat) : BufTy := match i % 128 with
  | 0 => ⟨S2x4096x416, .f32⟩
  | 1 => ⟨S256, .f32⟩
  | 2 => ⟨S256x576, .f32⟩
  | 3 => ⟨S128, .f32⟩
  | 4 => ⟨S128x768, .f32⟩
  | 5 => ⟨S96, .f32⟩
  | 6 => ⟨S96, .f32⟩
  | 7 => ⟨S2x4096x256, .f32⟩
  | 8 => ⟨S2x4096x128, .f32⟩
  | 9 => ⟨S2x4096x32, .f32⟩
  | 10 => ⟨S2x4096x256, .f32⟩
  | 11 => ⟨S_, .f32⟩
  | 12 => ⟨S2x4096, .f32⟩
  | 13 => ⟨S2x4096x1, .f32⟩
  | 14 => ⟨S_, .f32⟩
  | 15 => ⟨S2x4096x1, .f32⟩
  | 16 => ⟨S2x4096x1, .f32⟩
  | 17 => ⟨S_, .f32⟩
  | 18 => ⟨S2x4096x1, .f32⟩
  | 19 => ⟨S2x4096x1, .f32⟩
  | 20 => ⟨S2x4096x1, .f32⟩
  | 21 => ⟨S2x4096x256, .f32⟩
  | 22 => ⟨S2x4096x256, .f32⟩
  | 23 => ⟨S1x1x256, .f32⟩
  | 24 => ⟨S2x4096x256, .f32⟩
  | 25 => ⟨S2x4096x256, .f32⟩
  | 26 => ⟨S2x4096x576, .f32⟩
  | 27 => ⟨S2x4096x6x96, .f32⟩
  | 28 => ⟨S2x4096x128, .f32⟩
  | 29 => ⟨S_, .f32⟩
  | 30 => ⟨S2x4096, .f32⟩
  | 31 => ⟨S2x4096x1, .f32⟩
  | 32 => ⟨S_, .f32⟩
  | 33 => ⟨S2x4096x1, .f32⟩
  | 34 => ⟨S2x4096x1, .f32⟩
  | 35 => ⟨S_, .f32⟩
  | 36 => ⟨S2x4096x1, .f32⟩
  | 37 => ⟨S2x4096x1, .f32⟩
  | 38 => ⟨S2x4096x1, .f32⟩
  | 39 => ⟨S2x4096x128, .f32⟩
  | 40 => ⟨S2x4096x128, .f32⟩
  | 41 => ⟨S1x1x128, .f32⟩
  | 42 => ⟨S2x4096x128, .f32⟩
  | 43 => ⟨S2x4096x128, .f32⟩
  | 44 => ⟨S2x4096x768, .f32⟩
  | 45 => ⟨S2x4096x6x128, .f32⟩
  | 46 => ⟨S2x4096x6x64, .f32⟩
  | 47 => ⟨S2x4096x1x32, .f32⟩
  | 48 => ⟨S2x4096x6x32, .f32⟩
  | 49 => ⟨S2x4096x6x96, .f32⟩
  | 50 => ⟨S2x4096x6x64, .f32⟩
  | 51 => ⟨S2x4096x6x96, .f32⟩
  | 52 => ⟨S_, .f32⟩
  | 53 => ⟨S2x4096x6, .f32⟩
  | 54 => ⟨S2x4096x6x1, .f32⟩
  | 55 => ⟨S_, .f32⟩
  | 56 => ⟨S2x4096x6x1, .f32⟩
  | 57 => ⟨S2x4096x6x1, .f32⟩
  | 58 => ⟨S_, .f32⟩
  | 59 => ⟨S2x4096x6x1, .f32⟩
  | 60 => ⟨S2x4096x6x1, .f32⟩
  | 61 => ⟨S2x4096x6x1, .f32⟩
  | 62 => ⟨S2x4096x6x96, .f32⟩
  | 63 => ⟨S2x4096x6x96, .f32⟩
  | 64 => ⟨S1x1x1x96, .f32⟩
  | 65 => ⟨S2x4096x6x96, .f32⟩
  | 66 => ⟨S2x4096x6x96, .f32⟩
  | 67 => ⟨S2x4096x6x96, .f32⟩
  | 68 => ⟨S_, .f32⟩
  | 69 => ⟨S2x4096x6, .f32⟩
  | 70 => ⟨S2x4096x6x1, .f32⟩
  | 71 => ⟨S_, .f32⟩
  | 72 => ⟨S2x4096x6x1, .f32⟩
  | 73 => ⟨S2x4096x6x1, .f32⟩
  | 74 => ⟨S_, .f32⟩
  | 75 => ⟨S2x4096x6x1, .f32⟩
  | 76 => ⟨S2x4096x6x1, .f32⟩
  | 77 => ⟨S2x4096x6x1, .f32⟩
  | 78 => ⟨S2x4096x6x96, .f32⟩
  | 79 => ⟨S2x4096x6x96, .f32⟩
  | 80 => ⟨S1x1x1x96, .f32⟩
  | 81 => ⟨S2x4096x6x96, .f32⟩
  | 82 => ⟨S2x4096x6x96, .f32⟩
  | 83 => ⟨S64, .i32⟩
  | 84 => ⟨S64, .i32⟩
  | 85 => ⟨S64x64, .i32⟩
  | 86 => ⟨S64x64, .i32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S4096, .i32⟩
  | 102 => ⟨S4096, .i32⟩
  | 103 => ⟨S4096x1, .i32⟩
  | 104 => ⟨S4096x1, .i32⟩
  | 105 => ⟨S4096x2, .i32⟩
  | 106 => ⟨S4096x2, .f32⟩
  | 107 => ⟨S4096x2x1, .f32⟩
  | 108 => ⟨S1x1x8, .f32⟩
  | 109 => ⟨S4096x2x8, .f32⟩
  | 110 => ⟨S4096x2x8, .f32⟩
  | 111 => ⟨S4096x2x8, .f32⟩
  | 112 => ⟨S4096x2x8, .f32⟩
  | 113 => ⟨S4096x2x8, .f32⟩
  | 114 => ⟨S2x4096x6x64, .f32⟩
  | 115 => ⟨S2x4096x6x32, .f32⟩
  | 116 => ⟨S2x4096x6x2x16, .f32⟩
  | 117 => ⟨S2x4096x6x2x8, .f32⟩
  | 118 => ⟨S2x4096x6x2x8, .f32⟩
  | 119 => ⟨S1x4096x1x2x8, .f32⟩
  | 120 => ⟨S1x4096x1x2x8, .f32⟩
  | 121 => ⟨S2x4096x6x2x8, .f32⟩
  | 122 => ⟨S2x4096x6x2x8, .f32⟩
  | 123 => ⟨S2x4096x6x2x8, .f32⟩
  | 124 => ⟨S2x4096x6x2x8, .f32⟩
  | 125 => ⟨S2x4096x6x2x8, .f32⟩
  | 126 => ⟨S2x4096x6x2x8, .f32⟩
  | 127 => ⟨S2x4096x6x2x8, .f32⟩
  | _ => ⟨S2x4096x416, .f32⟩

abbrev hbmTy0_1 (i : Nat) : BufTy := match i % 128 with
  | 0 => ⟨S2x4096x6x2x8, .f32⟩
  | 1 => ⟨S2x4096x6x2x8, .f32⟩
  | 2 => ⟨S2x4096x6x2x8, .f32⟩
  | 3 => ⟨S2x4096x6x2x16, .f32⟩
  | 4 => ⟨S2x4096x6x32, .f32⟩
  | 5 => ⟨S2x4096x6x96, .f32⟩
  | 6 => ⟨S2x4096x6x64, .f32⟩
  | 7 => ⟨S2x4096x6x32, .f32⟩
  | 8 => ⟨S2x4096x6x2x16, .f32⟩
  | 9 => ⟨S2x4096x6x2x8, .f32⟩
  | 10 => ⟨S2x4096x6x2x8, .f32⟩
  | 11 => ⟨S1x4096x1x2x8, .f32⟩
  | 12 => ⟨S1x4096x1x2x8, .f32⟩
  | 13 => ⟨S2x4096x6x2x8, .f32⟩
  | 14 => ⟨S2x4096x6x2x8, .f32⟩
  | 15 => ⟨S2x4096x6x2x8, .f32⟩
  | 16 => ⟨S2x4096x6x2x8, .f32⟩
  | 17 => ⟨S2x4096x6x2x8, .f32⟩
  | 18 => ⟨S2x4096x6x2x8, .f32⟩
  | 19 => ⟨S2x4096x6x2x8, .f32⟩
  | 20 => ⟨S2x4096x6x2x8, .f32⟩
  | 21 => ⟨S2x4096x6x2x8, .f32⟩
  | 22 => ⟨S2x4096x6x2x8, .f32⟩
  | 23 => ⟨S2x4096x6x2x16, .f32⟩
  | 24 => ⟨S2x4096x6x32, .f32⟩
  | 25 => ⟨S2x4096x6x96, .f32⟩
  | 26 => ⟨S_, .f32⟩
  | 27 => ⟨S2x4096x6x96, .f32⟩
  | 28 => ⟨S2x4096x6x96, .f32⟩
  | 29 => ⟨S_, .i32⟩
  | 30 => ⟨S_, .f32⟩
  | 31 => ⟨S2x4096x6x128, .f32⟩
  | 32 => ⟨S2x4096x768, .f32⟩
  | 33 => ⟨S2x4096x768, .bf16⟩
  | 34 => ⟨S_, .i32⟩
  | 35 => ⟨S_, .f32⟩
  | 36 => ⟨S2x4096x6x128, .f32⟩
  | 37 => ⟨S2x4096x768, .f32⟩
  | 38 => ⟨S2x4096x768, .bf16⟩
  | 39 => ⟨S2x4096x384, .f32⟩
  | 40 => ⟨S2x4096x384, .bf16⟩
  | _ => ⟨S2x4096x416, .f32⟩

abbrev hbmTy (i : Nat) : BufTy := match i / 128 with
  | 0 => hbmTy0_0 i
  | 1 => hbmTy0_1 i
  | _ => ⟨S2x4096x416, .f32⟩

abbrev bufTy : (tb : Table) → Fin (tcTables nBuf tb) → BufTy
  | .hbm, ⟨i, _⟩ => hbmTy i
  | _, _ => ⟨S2x4096x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_15 : Ref sig .tc := ⟨.hbm, 154, rfl⟩
abbrev main_v131 : Ref sig .tc := ⟨.hbm, 155, rfl⟩
abbrev main_v132 : Ref sig .tc := ⟨.hbm, 156, rfl⟩
abbrev main_c : Ref sig .tc := ⟨.hbm, 157, rfl⟩
abbrev main_call0_v0 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c_16 : Ref sig .tc := ⟨.hbm, 162, rfl⟩
abbrev main_call1_v0 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩

abbrev nD : Nat := 1
abbrev τ : Topo := Topo.v7x

variable {F : FTy → Type} [FloatOps F]
-- ==== Conv.lean ====
abbrev S2x4096x1408 : Shape := ⟨3, ![2, 4096, 1408]⟩
abbrev S3x1408 : Shape := ⟨2, ![3, 1408]⟩
abbrev S1x512x1408 : Shape := ⟨3, ![1, 512, 1408]⟩
abbrev S1x8x1408 : Shape := ⟨3, ![1, 8, 1408]⟩
abbrev S512x1408 : Shape := ⟨2, ![512, 1408]⟩
abbrev S1x1x1408 : Shape := ⟨3, ![1, 1, 1408]⟩
abbrev S1x1408 : Shape := ⟨2, ![1, 1408]⟩

abbrev nBuf : Space → Nat
  | .hbm => 3
  | .vmem => 9
  | .smem => 0
  | _ => 0

abbrev bufTy : (tb : Table) → Fin (tcTables nBuf tb) → BufTy
  | .hbm, ⟨0, _⟩ => ⟨S2x4096x1408, .f32⟩
  | .hbm, ⟨1, _⟩ => ⟨S3x1408, .f32⟩
  | .hbm, ⟨2, _⟩ => ⟨S2x4096x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x8x1408, .f32⟩
  | .local _ .vmem, ⟨3, _⟩ => ⟨S1x8x1408, .f32⟩
  | .local _ .vmem, ⟨4, _⟩ => ⟨S1x8x1408, .f32⟩
  | .local _ .vmem, ⟨5, _⟩ => ⟨S1x8x1408, .f32⟩
  | .local _ .vmem, ⟨6, _⟩ => ⟨S3x1408, .f32⟩
  | .local _ .vmem, ⟨7, _⟩ => ⟨S1x512x1408, .f32⟩
  | .local _ .vmem, ⟨8, _⟩ => ⟨S1x512x1408, .f32⟩
  | _, _ => ⟨S2x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvReferenceIdeal.lean ====
abbrev S2x4096x1408 : Shape := ⟨3, ![2, 4096, 1408]⟩
abbrev S3x1408 : Shape := ⟨2, ![3, 1408]⟩
abbrev S_ : Shape := ⟨0, ![]⟩
abbrev S2x4098x1408 : Shape := ⟨3, ![2, 4098, 1408]⟩
abbrev S1x1408 : Shape := ⟨2, ![1, 1408]⟩
abbrev S1408 : Shape := ⟨1, ![1408]⟩
abbrev S1x1x1408 : Shape := ⟨3, ![1, 1, 1408]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x1408, .f32⟩
  | .hbm, ⟨1, _⟩ => ⟨S3x1408, .f32⟩
  | .hbm, ⟨2, _⟩ => ⟨S_, .i32⟩
  | .hbm, ⟨3, _⟩ => ⟨S_, .f32⟩
  | .hbm, ⟨4, _⟩ => ⟨S2x4098x1408, .f32⟩
  | .hbm, ⟨5, _⟩ => ⟨S2x4096x1408, .f32⟩
  | .hbm, ⟨6, _⟩ => ⟨S1x1408, .f32⟩
  | .hbm, ⟨7, _⟩ => ⟨S1408, .f32⟩
  | .hbm, ⟨8, _⟩ => ⟨S1x1x1408, .f32⟩
  | .hbm, ⟨9, _⟩ => ⟨S2x4096x1408, .f32⟩
  | .hbm, ⟨10, _⟩ => ⟨S2x4096x1408, .f32⟩
  | .hbm, ⟨11, _⟩ => ⟨S2x4096x1408, .f32⟩
  | .hbm, ⟨12, _⟩ => ⟨S1x1408, .f32⟩
  | .hbm, ⟨13, _⟩ => ⟨S1408, .f32⟩
  | .hbm, ⟨14, _⟩ => ⟨S1x1x1408, .f32⟩
  | .hbm, ⟨15, _⟩ => ⟨S2x4096x1408, .f32⟩
  | .hbm, ⟨16, _⟩ => ⟨S2x4096x1408, .f32⟩
  | .hbm, ⟨17, _⟩ => ⟨S2x4096x1408, .f32⟩
  | .hbm, ⟨18, _⟩ => ⟨S2x4096x1408, .f32⟩
  | .hbm, ⟨19, _⟩ => ⟨S1x1408, .f32⟩
  | .hbm, ⟨20, _⟩ => ⟨S1408, .f32⟩
  | .hbm, ⟨21, _⟩ => ⟨S1x1x1408, .f32⟩
  | .hbm, ⟨22, _⟩ => ⟨S2x4096x1408, .f32⟩
  | .hbm, ⟨23, _⟩ => ⟨S2x4096x1408, .f32⟩
  | .hbm, ⟨24, _⟩ => ⟨S2x4096x1408, .f32⟩
  | _, _ => ⟨S2x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Proof.Softmax.lean ====
/-
  The arithmetic of one softmax-attention row on the extended reals.

  The kernel forms Σ_j e_j · v_j and divides by Σ_j e_j; the reference divides each e_j first and then sums. With
  finite scores the row's maximum is one of the scores, every e_j is a nonnegative real and their sum is a positive
  real, so the division is multiplication by one positive real, which distributes over a sum of ANY extended reals:
  the values v_j need not be finite.
-/
module

public import Idealize.ShloMosaic.PureOps.Ideal.Laws

@[expose] public section

namespace Cert.Proof.Softmax

open Idealize.ShloMosaic
open scoped BigOperators

/-- A nonnegative real factor distributes over a finite sum of extended reals. -/
theorem sum_mul_real {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, mul_comm, EReal.left_distrib_of_nonneg_of_ne_top
      (EReal.coe_nonneg.mpr hc) (EReal.coe_ne_top c), mul_comm _ (f a), mul_comm _ (∑ i ∈ S, f i), ih]

/-- A finite sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of a row's scores, as both programs fold it: from −∞. -/
noncomputable def rowMax {n : ℕ} (s : Fin n → EReal) : EReal := (Finset.univ : Finset (Fin n)).fold max ⊥ s

/-- A nonempty row's greatest score is one of its scores. -/
theorem rowMax_mem {n : ℕ} (hn : 0 < n) (s : Fin n → EReal) : ∃ j, rowMax s = s j := by
  haveI : Nonempty (Fin n) := ⟨⟨0, hn⟩⟩
  obtain ⟨j, -, hj⟩ := Finset.exists_mem_eq_sup (Finset.univ : Finset (Fin n)) Finset.univ_nonempty s
  exact ⟨j, hj⟩

/-- One attention row as the kernel computes it: the weighted values summed, then divided by the weights' sum. -/
noncomputable def sumThenDivide {n : ℕ} (s v : Fin n → EReal) : EReal :=
  Ideal.div (∑ j, Ideal.exp (s j - rowMax s) * v j) (∑ j, Ideal.exp (s j - rowMax s))

/-- One attention row as the reference computes it: each weight divided by the weights' sum, then summed. -/
noncomputable def divideThenSum {n : ℕ} (s v : Fin n → EReal) : EReal :=
  ∑ j, v j * Ideal.div (Ideal.exp (s j - rowMax s)) (∑ j, Ideal.exp (s j - rowMax s))

/-- For a nonempty row of finite scores the two are one number, whatever the values are. -/
theorem sumThenDivide_eq {n : ℕ} (hn : 0 < n) (s v : Fin n → EReal) (hs : ∀ j, ∃ r : ℝ, s j = (r : EReal)) :
    sumThenDivide s v = divideThenSum s v := by
  choose r hr using hs
  obtain ⟨j0, h0⟩ := rowMax_mem hn s
  have he : ∀ j, Ideal.exp (s j - rowMax s) = ((Real.exp (r j - r j0) : ℝ) : EReal) := fun j => by
    rw [h0, hr, hr, ← EReal.coe_sub, Ideal.exp_coe]
  have hpos : 0 < ∑ j, Real.exp (r j - r j0) :=
    Finset.sum_pos (fun j _ => Real.exp_pos _) ⟨⟨0, hn⟩, Finset.mem_univ _⟩
  have hinv : (0 : ℝ) ≤ 1 / ∑ j, Real.exp (r j - r j0) := (div_pos one_pos hpos).le
  unfold sumThenDivide divideThenSum
  simp only [he]
  rw [← coe_sum, Ideal.div_coe hpos.ne', sum_mul_real _ _ hinv]
  refine Finset.sum_congr rfl fun j _ => ?_
  rw [Ideal.div_coe hpos.ne', mul_comm _ (v j), mul_assoc]

/-- A score of a scaled query with a head padded to 128 lanes is the scaled score of the head's 96 lanes: the padding
    lanes add 0 · 0, and a nonnegative real scale comes out of the sum. -/
theorem padded_score (q k : Fin 96 → EReal) {c : ℝ} (hc : 0 ≤ c) :
    (∑ l : Fin 128, (if h : l.val < 96 then q ⟨l.val, h⟩ * (c : EReal) else 0) * (if h : l.val < 96 then k ⟨l.val, h⟩ else 0))
      = (∑ d : Fin 96, q d * k d) * (c : EReal) := by
  rw [sum_mul_real _ _ hc]
  rw [show (∑ l : Fin 128, (if h : l.val < 96 then q ⟨l.val, h⟩ * (c : EReal) else 0) * (if h : l.val < 96 then k ⟨l.val, h⟩ else 0))
      = ∑ l : Fin (96 + 32), (if h : l.val < 96 then q ⟨l.val, h⟩ * (c : EReal) else 0) * (if h : l.val < 96 then k ⟨l.val, h⟩ else 0) from rfl,
    Fin.sum_univ_add]
  rw [show (∑ i : Fin 32, (if h : (Fin.natAdd 96 i).val < 96 then q ⟨(Fin.natAdd 96 i).val, h⟩ * (c : EReal) else 0)
      * (if h : (Fin.natAdd 96 i).val < 96 then k ⟨(Fin.natAdd 96 i).val, h⟩ else 0)) = 0 from
    Finset.sum_eq_zero fun i _ => by rw [dif_neg (by simp), zero_mul], add_zero]
  refine Finset.sum_congr rfl fun d _ => ?_
  rw [dif_pos (by simpa using d.isLt), dif_pos (by simpa using d.isLt)]
  simp only [Fin.val_castAdd, Fin.eta]
  rw [mul_assoc, mul_comm (c : EReal), mul_assoc]

/-- A sum of products of reals is a real. -/
theorem real_sum_mul {ι : Type} (S : Finset ι) (f g : ι → EReal) (hf : ∀ i, ∃ r : ℝ, f i = (r : EReal))
    (hg : ∀ i, ∃ r : ℝ, g i = (r : EReal)) : ∃ r : ℝ, ∑ i ∈ S, f i * g i = (r : EReal) := by
  choose a ha using hf
  choose b hb using hg
  exact ⟨∑ i ∈ S, a i * b i, by simp only [ha, hb, ← EReal.coe_mul, coe_sum]⟩

/-- An extended real whose absolute value is below ⊤ is a real. -/
theorem real_of_abs_lt_top {x : EReal} (h : max x (-x) < ⊤) : ∃ r : ℝ, x = (r : EReal) := by
  induction x with
  | bot => simp at h
  | coe r => exact ⟨r, rfl⟩
  | top => simp at h

end Cert.Proof.Softmax

end
-- ==== Proof.Head.lean ====
/-
  One attention head of the kernel's body, read at an index.

  Each head's payload is the same text over the loaded blocks: the scores (queries times keys), each row's maximum, the
  exponentials of the differences (`weights`), the weights times the values, divided by the weights' sums (`head`). At
  row `r` and lane `l` it is `Softmax.sumThenDivide` of the row's scores and the lane's values.
-/
module

public import proofs.«01_k».proof.Proof.Gen.KernelIdeal.Skeleton
public import proofs.«01_k».proof.Proof.Softmax
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.Proof.Head

open Cert.KernelIdeal Cert.KernelIdeal.Gen Idealize.ShloMosaic Idealize.ShloMosaic.ValueIdx
open scoped BigOperators

/-- The f32 pattern of minus infinity is the least extended real. -/
theorem negInf : Ideal.ofBits .f32 0xFF800000#32 = ⊥ := by simp [Ideal.ofBits, Ideal.ieee]

/-- The exponentials of a block's scores less their row's maximum, as each head computes them. -/
def weights (q : FVec Ideal S512x128 .bf16) (k : FVec Ideal S4352x128 .bf16) : FVec Ideal S512x4352 .f32 :=
  exp (subf (matmul dot_S512x128_S4352x128_S512x4352_1_1_0_0_n_n none q k (constant S512x4352 .f32 0x00000000#32))
    (broadcastTo S512x4352 (shapeCast S512x1 (multiReduction .maximumf [1] S512
      (matmul dot_S512x128_S4352x128_S512x4352_1_1_0_0_n_n none q k (constant S512x4352 .f32 0x00000000#32))
      0xFF800000#32 reduces_S512x4352_S512 (.inl rfl) rfl) shapeCasts_S512_S512x1) broadcasts_S512x1_S512x4352))

/-- The weights times the values, divided by the weights' sums. -/
def head (v : FVec Ideal S4352x128 .bf16) (w : FVec Ideal S512x4352 .f32) : FVec Ideal S512x128 .f32 :=
  divf (matmul dot_S512x4352_S4352x128_S512x128_1_0_0_1_n_n none (truncf .bf16 w bitsLt_bf16_f32) v (constant S512x128 .f32 0x00000000#32))
    (broadcastTo S512x128 (shapeCast S512x1 (multiReduction .add [1] S512 w 0x00000000#32 reduces_S512x4352_S512 (.inl rfl) rfl)
      shapeCasts_S512_S512x1) broadcasts_S512x1_S512x128)

/-- A column of row values broadcast along the lanes reads its row. -/
theorem column_apply {n : ℕ} (x : FVec Ideal S512 .f32) (h : S512x1.Broadcasts ⟨2, ![512, n]⟩) (r : Fin 512) (c : Fin n) :
    broadcastTo (⟨2, ![512, n]⟩ : Shape) (shapeCast S512x1 x shapeCasts_S512_S512x1) h (ix2 r c) = x (ix1 r) := by
  rw [broadcastTo_apply _ h (ix2 r c) (ix2 r (0 : Fin 1)) (fun a => by
    match a with
    | ⟨0, _⟩ => rfl
    | ⟨1, _⟩ => rfl)]
  exact shapeCast_apply x shapeCasts_S512_S512x1 _ _ (by
    rw [Shape.rowMajor_val_two, Shape.rowMajor_val_one]
    show r.val = r.val * 1 + 0
    omega)

/-- A row of the score block with its column coordinate put back. -/
theorem lift_row (r : Fin 512) (j : Fin 4352) : reduces_S512x4352_S512.lift (ix1 r) j = ix2 r j := by
  funext a
  match a with
  | ⟨0, _⟩ => rfl
  | ⟨1, _⟩ => rfl

/-- A block's scores at a row and a key. -/
theorem score_apply (q : FVec Ideal S512x128 .bf16) (k : FVec Ideal S4352x128 .bf16) (r : Fin 512) (j : Fin 4352) :
    matmul dot_S512x128_S4352x128_S512x4352_1_1_0_0_n_n none q k (constant S512x4352 .f32 0x00000000#32) (ix2 r j)
      = ∑ l : Fin 128, q (ix2 r l) * k (ix2 j l) := by
  refine (Ideal.matmul_transposedRhs_apply (M := 512) (K := 128) (N := 4352) none q k _ r j).trans ?_
  rw [show (constant S512x4352 .f32 0x00000000#32 : FVec Ideal S512x4352 .f32) (ix2 r j) = 0 from Ideal.ofBits_zero_f32, zero_add]

/-- The weights at a row and a key. -/
theorem weights_apply (q : FVec Ideal S512x128 .bf16) (k : FVec Ideal S4352x128 .bf16) (r : Fin 512) (j : Fin 4352) :
    weights q k (ix2 r j) = Ideal.exp ((∑ l : Fin 128, q (ix2 r l) * k (ix2 j l))
      - Softmax.rowMax fun j' : Fin 4352 => ∑ l : Fin 128, q (ix2 r l) * k (ix2 j' l)) := by
  unfold weights
  refine congrArg Ideal.exp (congrArg₂ (· - ·) (score_apply q k r j) ?_)
  refine (column_apply _ broadcasts_S512x1_S512x4352 r j).trans ?_
  refine (Ideal.multiReduction_maximumf_single _ _ reduces_S512x4352_S512 _ _ (ix1 r)).trans ?_
  rw [Ideal.ofBits_def, negInf]
  unfold Softmax.rowMax
  exact congrArg (fun f : Fin 4352 → EReal => Finset.fold max ⊥ f Finset.univ)
    (funext fun j' => (congrArg _ (lift_row r j')).trans (score_apply q k r j'))

/-- A head's result at a row and a lane, from its weights. -/
theorem head_apply (v : FVec Ideal S4352x128 .bf16) (w : FVec Ideal S512x4352 .f32) (r : Fin 512) (l : Fin 128) :
    head v w (ix2 r l) = Ideal.div (∑ j : Fin 4352, w (ix2 r j) * v (ix2 j l)) (∑ j : Fin 4352, w (ix2 r j)) := by
  unfold head
  refine congrArg₂ Ideal.div ?_ ?_
  · refine (Ideal.matmul_plain_apply (M := 512) (K := 4352) (N := 128) none _ v _ r l).trans ?_
    rw [show (constant S512x128 .f32 0x00000000#32 : FVec Ideal S512x128 .f32) (ix2 r l) = 0 from Ideal.ofBits_zero_f32, zero_add]
    rfl
  · refine (column_apply _ broadcasts_S512x1_S512x128 r l).trans ?_
    refine (Ideal.multiReduction_add_single _ _ reduces_S512x4352_S512 _ _ (ix1 r)).trans ?_
    exact Finset.sum_congr rfl fun j _ => congrArg w (lift_row r j)

/-- One head's result at a row and a lane: the row's softmax attention over the lane's values. -/
theorem head_weights_apply (v : FVec Ideal S4352x128 .bf16) (q : FVec Ideal S512x128 .bf16) (k : FVec Ideal S4352x128 .bf16)
    (r : Fin 512) (l : Fin 128) :
    head v (weights q k) (ix2 r l) = Softmax.sumThenDivide (fun j : Fin 4352 => ∑ d : Fin 128, q (ix2 r d) * k (ix2 j d)) (fun j => v (ix2 j l)) := by
  rw [head_apply]
  simp only [weights_apply]
  rfl

end Cert.Proof.Head

end
-- ==== Proof.Block.lean ====
/-
  What the kernel's body leaves in its result block, index by index.

  The block is stored in three pieces of 128 lanes, each holding two heads of 64 lanes: the select on the lane keeps the
  even head below lane 64 and the odd head from lane 64 on. Lane `c` of the block therefore belongs to head `c / 64`,
  whose queries and keys are the 128 lanes from `128 * (c / 64)` on, and whose value lane is `c` itself.
-/
module

public import proofs.«01_k».proof.Proof.Gen.KernelIdeal.Frame
public import proofs.«01_k».proof.Proof.Head

@[expose] public section

noncomputable section

namespace Cert.Proof.Block

open Cert.KernelIdeal Cert.KernelIdeal.Gen Idealize.ShloMosaic Idealize.ShloMosaic.ValueIdx Cert.Proof.Head
open scoped BigOperators

/-- The lane of head `c / 64`'s query and key at position `d`. -/
def headLane (c : Fin 384) (d : Fin 128) : Fin 768 := ⟨128 * (c.val / 64) + d.val, by omega⟩

/-- The result block at row `r` and lane `c`: softmax attention of head `c / 64`, value lane `c`. -/
def attendBlock (x0 : Vec Ideal S1x512x768 .bf16) (x1 : Vec Ideal S1x4352x768 .bf16) (x2 : Vec Ideal S1x4352x384 .bf16)
    (r : Fin 512) (c : Fin 384) : EReal :=
  Softmax.sumThenDivide
    (fun j : Fin 4352 => ∑ d : Fin 128, x0 (ix3 (0 : Fin 1) r (headLane c d)) * x1 (ix3 (0 : Fin 1) j (headLane c d)))
    (fun j => x2 (ix3 (0 : Fin 1) j c))

/-- Two heads side by side in one piece, chosen by the lane. -/
def pairOut (a b : FVec Ideal S512x128 .f32) : FVec Ideal S1x512x128 .f32 :=
  shapeCast S1x512x128 (select (cmpi .slt (iota .tc S512x128 32 [1] iota_S512x128_d1_w32) (broadcast S512x128 64#32)) a b)
    shapeCasts_S512x128_S1x512x128

/-- A lane's word is below 64 exactly where the lane is. -/
theorem lane_lt : ∀ l : Fin 128, IntOp.cmpi .slt (BitVec.ofNat 32 l.val) 64#32 = 1#1 ↔ l.val < 64 := by decide

/-- A piece at a row and a lane: the even head below lane 64, the odd head from there on. -/
theorem pairOut_apply (a b : FVec Ideal S512x128 .f32) (u : Fin 1) (r : Fin 512) (l : Fin 128) :
    pairOut a b (ix3 u r l) = if l.val < 64 then a (ix2 r l) else b (ix2 r l) := by
  unfold pairOut
  refine (shapeCast_ab_1ab_apply _ shapeCasts_S512x128_S1x512x128 u r l).trans ?_
  have hi : iota .tc S512x128 32 [1] iota_S512x128_d1_w32 (ix2 r l) = BitVec.ofNat 32 l.val :=
    iota_single_apply .tc S512x128 32 1 iota_S512x128_d1_w32 (ix2 r l)
  by_cases h : l.val < 64
  · rw [if_pos h]
    show Scalar.select (IntOp.cmpi .slt (iota .tc S512x128 32 [1] iota_S512x128_d1_w32 (ix2 r l)) 64#32) _ _ = _
    rw [hi, (lane_lt l).mpr h]; rfl
  · rw [if_neg h]
    show Scalar.select (IntOp.cmpi .slt (iota .tc S512x128 32 [1] iota_S512x128_d1_w32 (ix2 r l)) 64#32) _ _ = _
    rw [hi]
    exact if_neg fun e => h ((lane_lt l).mp e)

/-- A load of 128 lanes from lane `o` on, its unit axis dropped, read at a row and a lane. -/
theorem load_apply {R W : ℕ} {ε : EltTy} (x : Vec Ideal ⟨3, ![1, R, W]⟩ ε) (o : ℕ)
    (inb : ∀ a, (![0, 0, o] : Fin 3 → ℕ) a + (⟨3, ![1, R, 128]⟩ : Shape).size a ≤ (⟨3, ![1, R, W]⟩ : Shape).size a)
    (h : (⟨3, ![1, R, 128]⟩ : Shape).ShapeCasts ⟨2, ![R, 128]⟩) (r : Fin R) (l : Fin 128) (hl : o + l.val < W) :
    shapeCast ⟨2, ![R, 128]⟩ (View.ld x (Rect.unit (s := ⟨3, ![1, R, W]⟩) ![0, 0, o] (⟨3, ![1, R, 128]⟩ : Shape).size inb)) h (ix2 r l)
      = x (ix3 (0 : Fin 1) r ⟨o + l.val, hl⟩) := by
  refine (shapeCast_1ab_ab_apply _ h r l).trans (congrArg x (funext fun a => Fin.ext ?_))
  match a with
  | ⟨0, _⟩ => rfl
  | ⟨1, _⟩ => show 0 + 1 * r.val = r.val; omega
  | ⟨2, _⟩ => show o + 1 * l.val = o + l.val; omega

/-- One head of a piece, from the loaded lanes. -/
theorem head_load (x0 : Vec Ideal S1x512x768 .bf16) (x1 : Vec Ideal S1x4352x768 .bf16) (x2 : Vec Ideal S1x4352x384 .bf16) (o oq : ℕ)
    (iv : ∀ a, (![0, 0, o] : Fin 3 → ℕ) a + S1x4352x128.size a ≤ S1x4352x384.size a)
    (iq : ∀ a, (![0, 0, oq] : Fin 3 → ℕ) a + S1x512x128.size a ≤ S1x512x768.size a)
    (ik : ∀ a, (![0, 0, oq] : Fin 3 → ℕ) a + S1x4352x128.size a ≤ S1x4352x768.size a)
    (r : Fin 512) (l : Fin 128) (hl : o + l.val < 384) (hq : oq = 128 * ((o + l.val) / 64)) :
    head (shapeCast S4352x128 (View.ld x2 (Rect.unit (s := S1x4352x384) ![0, 0, o] S1x4352x128.size iv)) shapeCasts_S1x4352x128_S4352x128)
      (weights (shapeCast S512x128 (View.ld x0 (Rect.unit (s := S1x512x768) ![0, 0, oq] S1x512x128.size iq)) shapeCasts_S1x512x128_S512x128)
        (shapeCast S4352x128 (View.ld x1 (Rect.unit (s := S1x4352x768) ![0, 0, oq] S1x4352x128.size ik)) shapeCasts_S1x4352x128_S4352x128)) (ix2 r l)
      = attendBlock x0 x1 x2 r ⟨o + l.val, hl⟩ := by
  rw [head_weights_apply]
  unfold attendBlock
  have e (d : Fin 128) : oq + d.val < 768 := by omega
  refine congrArg₂ Softmax.sumThenDivide (funext fun j => Finset.sum_congr rfl fun d _ => congrArg₂ (· * ·) ?_ ?_) (funext fun j => ?_)
  · refine (load_apply (R := 512) (W := 768) x0 oq iq shapeCasts_S1x512x128_S512x128 r d (e d)).trans (congrArg x0 (congrArg _ (Fin.ext ?_)))
    show oq + d.val = 128 * ((o + l.val) / 64) + d.val
    rw [hq]
  · refine (load_apply (R := 4352) (W := 768) x1 oq ik shapeCasts_S1x4352x128_S4352x128 j d (e d)).trans (congrArg x1 (congrArg _ (Fin.ext ?_)))
    show oq + d.val = 128 * ((o + l.val) / 64) + d.val
    rw [hq]
  · exact load_apply (R := 4352) (W := 384) x2 o iv shapeCasts_S1x4352x128_S4352x128 j l hl

/-- The result block as a function of its index. -/
def attendOut (x0 : Vec Ideal S1x512x768 .bf16) (x1 : Vec Ideal S1x4352x768 .bf16) (x2 : Vec Ideal S1x4352x384 .bf16) : Vec Ideal S1x512x384 .f32 :=
  fun y => attendBlock x0 x1 x2 (y 1) (y 2)

/-- A piece of two heads is the block's values at the piece's lanes. -/
theorem piece (x0 : Vec Ideal S1x512x768 .bf16) (x1 : Vec Ideal S1x4352x768 .bf16) (x2 : Vec Ideal S1x4352x384 .bf16) (o oq oq' : ℕ)
    (io : ∀ a, (![0, 0, o] : Fin 3 → ℕ) a + S1x512x128.size a ≤ S1x512x384.size a)
    (iv : ∀ a, (![0, 0, o] : Fin 3 → ℕ) a + S1x4352x128.size a ≤ S1x4352x384.size a)
    (iq : ∀ a, (![0, 0, oq] : Fin 3 → ℕ) a + S1x512x128.size a ≤ S1x512x768.size a)
    (ik : ∀ a, (![0, 0, oq] : Fin 3 → ℕ) a + S1x4352x128.size a ≤ S1x4352x768.size a)
    (iq' : ∀ a, (![0, 0, oq'] : Fin 3 → ℕ) a + S1x512x128.size a ≤ S1x512x768.size a)
    (ik' : ∀ a, (![0, 0, oq'] : Fin 3 → ℕ) a + S1x4352x128.size a ≤ S1x4352x768.size a)
    (h : oq = 2 * o) (h' : oq' = 2 * o + 128) (ho : 64 * (o / 64) = o) (x : S1x512x128.Idx) :
    pairOut
      (head (shapeCast S4352x128 (View.ld x2 (Rect.unit (s := S1x4352x384) ![0, 0, o] S1x4352x128.size iv)) shapeCasts_S1x4352x128_S4352x128)
        (weights (shapeCast S512x128 (View.ld x0 (Rect.unit (s := S1x512x768) ![0, 0, oq] S1x512x128.size iq)) shapeCasts_S1x512x128_S512x128)
          (shapeCast S4352x128 (View.ld x1 (Rect.unit (s := S1x4352x768) ![0, 0, oq] S1x4352x128.size ik)) shapeCasts_S1x4352x128_S4352x128)))
      (head (shapeCast S4352x128 (View.ld x2 (Rect.unit (s := S1x4352x384) ![0, 0, o] S1x4352x128.size iv)) shapeCasts_S1x4352x128_S4352x128)
        (weights (shapeCast S512x128 (View.ld x0 (Rect.unit (s := S1x512x768) ![0, 0, oq'] S1x512x128.size iq')) shapeCasts_S1x512x128_S512x128)
          (shapeCast S4352x128 (View.ld x1 (Rect.unit (s := S1x4352x768) ![0, 0, oq'] S1x4352x128.size ik')) shapeCasts_S1x4352x128_S4352x128))) x
      = attendOut x0 x1 x2 ((Rect.unit (s := S1x512x384) ![0, 0, o] S1x512x128.size io).emb x) := by
  have ho2 : o + 128 ≤ 384 := io 2
  have hl : (x 2).val < 128 := (x 2).isLt
  have hr : (Rect.unit (s := S1x512x384) ![0, 0, o] S1x512x128.size io).emb x 1 = (x 1 : Fin 512) :=
    Fin.ext (by rw [Rect.emb_apply]; show 0 + 1 * (x 1).val = (x 1).val; omega)
  have hc : (Rect.unit (s := S1x512x384) ![0, 0, o] S1x512x128.size io).emb x 2 = (⟨o + (x 2).val, by omega⟩ : Fin 384) :=
    Fin.ext (by rw [Rect.emb_apply]; show o + 1 * (x 2).val = o + (x 2).val; omega)
  unfold attendOut
  rw [hr, hc]
  conv_lhs => rw [eq_ix3 x]
  refine (pairOut_apply _ _ (x 0) (x 1) (x 2)).trans ?_
  by_cases h64 : (x 2).val < 64
  · rw [if_pos h64]
    exact head_load x0 x1 x2 o oq iv iq ik (x 1) (x 2) (by omega) (by omega)
  · rw [if_neg h64]
    exact head_load x0 x1 x2 o oq' iv iq' ik' (x 1) (x 2) (by omega) (by omega)

/-- The body's result block is that function. -/
theorem out_eq (x0 : Vec Ideal S1x512x768 .bf16) (x1 : Vec Ideal S1x4352x768 .bf16) (x2 : Vec Ideal S1x4352x384 .bf16) :
    out0_3 x0 x1 x2 = attendOut x0 x1 x2 := by
  funext y
  refine View.canon_apply_of_pieces (attendOut x0 x1 x2) _ (fun p hp => ?_) y (cover0_3 _ _ _ y)
  simp only [List.mem_cons, List.not_mem_nil, or_false] at hp
  rcases hp with rfl | rfl | rfl
  · exact fun x => piece x0 x1 x2 256 512 640 (by decide) (by decide) (by decide) (by decide) (by decide) (by decide) rfl rfl rfl x
  · exact fun x => piece x0 x1 x2 128 256 384 (by decide) (by decide) (by decide) (by decide) (by decide) (by decide) rfl rfl rfl x
  · exact fun x => piece x0 x1 x2 0 0 128 (by decide) (by decide) (by decide) (by decide) (by decide) (by decide) rfl rfl rfl x

end Cert.Proof.Block

end
-- ==== Proof.Entry.lean ====
/-
  What the host prepares before the kernel starts, read at an index: the queries scaled and padded to 128 lanes per
  head, the keys and values of the layer's own tokens followed by those of the context, heads laid side by side.
-/
module

public import proofs.«01_k».proof.Proof.Gen.KernelIdeal.Frame
public import Idealize.ShloMosaic.Lib.StableHlo.ReadAt
public import Idealize.ShloMosaic.Lib.Pipeline.ValueKit

@[expose] public section

noncomputable section

namespace Cert.Proof.Entry

open scoped BigOperators
open Cert.KernelIdeal Cert.KernelIdeal.Gen Idealize.ShloMosaic Idealize.ShloMosaic.TcCoe Idealize.SL.Sem

/-- The scale `96 ^ (-1/2)` as the program's float constant. -/
abbrev scale : EReal := Ideal.ofBits FTy.f32 0x3DD105EC#32

/-- The layer's tokens followed by the context's, at token `j`, head `h`, position `d`. -/
def joined {D : ℕ} (x : Vec Ideal ⟨4, ![2, 4096, 6, D]⟩ .f32) (y : Vec Ideal ⟨4, ![2, 256, 6, D]⟩ .f32)
    (b : Fin 2) (j : Fin 4352) (h : Fin 6) (d : Fin D) : EReal :=
  if hj : j.val < 4096 then x (ix4 b ⟨j.val, hj⟩ h d) else y (ix4 b ⟨j.val - 4096, by omega⟩ h d)

/-- The scaled score of query token `i` against token `j` in head `h` of sample `b`. -/
def score (q : Vec Ideal S2x4096x6x96 .f32) (k : Vec Ideal S2x4096x6x96 .f32) (kc : Vec Ideal S2x256x6x96 .f32)
    (b : Fin 2) (h : Fin 6) (i : Fin 4096) (j : Fin 4352) : EReal :=
  (∑ d : Fin 96, q (ix4 b i h d) * joined k kc b j h d) * scale

/-- The head of a result lane. -/
def headOf (l : Fin 384) : Fin 6 := ⟨l.val / 64, by omega⟩
/-- The position of a result lane in its head. -/
def posOf (l : Fin 384) : Fin 64 := ⟨l.val % 64, Nat.mod_lt _ (by decide)⟩

/-- A head's 96 positions padded with zeros to 128 lanes, at lane `l` of the six heads side by side. -/
def padded (f : Fin 6 → Fin 96 → EReal) (l : Fin 768) : EReal :=
  if h : l.val % 128 < 96 then f ⟨l.val / 128, by omega⟩ ⟨l.val % 128, h⟩ else 0

/-- The padding word is zero. -/
theorem pad_zero : FloatOps.sitofp (F := Ideal) FTy.f32 (0#32) = (0 : EReal) := by
  show ((((0#32 : BitVec 32).toInt : ℝ)) : EReal) = 0
  simp

/-- A padded head as the layout operations read it: the head's number is below six wherever the lane is. -/
theorem padded_eq (l : Fin 768) (g : (l.val / 128 < 6 ∧ l.val % 128 < 96) → EReal) (f : Fin 6 → Fin 96 → EReal) (z : EReal) (hz : z = 0)
    (hg : ∀ h : l.val / 128 < 6 ∧ l.val % 128 < 96, g h = f ⟨l.val / 128, h.1⟩ ⟨l.val % 128, h.2⟩) :
    (if h : l.val / 128 < 6 ∧ l.val % 128 < 96 then g h else z) = padded f l := by
  have hl : l.val / 128 < 6 := by omega
  unfold padded
  by_cases h : l.val % 128 < 96
  · rw [dif_pos ⟨hl, h⟩, dif_pos h, hg]
  · rw [dif_neg fun e => h e.2, dif_neg h, hz]

variable (m : (ℓ : Loc nD τ sig) → Buf (Elt Ideal) ℓ)

/-- The scaled query of token `i` of sample `b`. -/
def scaledQuery (x : Vec Ideal S2x4096x6x96 .f32) (b : Fin 2) (i : Fin 4096) (h : Fin 6) (d : Fin 96) : EReal := x (ix4 b i h d) * scale

/-- The staged queries: scaled, zero from lane 96 of each head on. -/
theorem query (c : Dev nD) (b : Fin 2) (i : Fin 4096) (l : Fin 768) :
    (V m c main_v4 : Vec Ideal S2x4096x768 .bf16) (ix3 b i l) = padded (scaledQuery (m ((c : Thread nD τ).loc main_arg0)) b i) l := by
  unfold V
  after_reads_at
  exact padded_eq l _ _ _ pad_zero fun h => rfl

/-- The staged keys: own tokens then context tokens, zero from lane 96 of each head on. -/
theorem key (c : Dev nD) (b : Fin 2) (j : Fin 4352) (l : Fin 768) :
    (V m c main_v8 : Vec Ideal S2x4352x768 .bf16) (ix3 b j l)
      = padded (joined (m ((c : Thread nD τ).loc main_arg1)) (m ((c : Thread nD τ).loc main_arg3)) b j) l := by
  unfold V
  after_reads_at
  after_reads_simp
  exact padded_eq l _ _ _ pad_zero fun h => rfl

/-- The staged values: own tokens then context tokens, 64 lanes per head. -/
theorem value (c : Dev nD) (b : Fin 2) (j : Fin 4352) (l : Fin 384) :
    (V m c main_v11 : Vec Ideal S2x4352x384 .bf16) (ix3 b j l)
      = joined (m ((c : Thread nD τ).loc main_arg2)) (m ((c : Thread nD τ).loc main_arg4)) b j (headOf l) (posOf l) := by
  unfold V
  after_reads_at
  unfold joined
  after_reads_simp
  rfl

end Cert.Proof.Entry

end
-- ==== Proof.KernelArr.lean ====
/-
  The kernel's result array as one function of its staged operands: every grid point (sample, block of 512 tokens)
  writes its own block of the array, the blocks cover it, and a block's rows and lanes are the array's.
-/
module

public import proofs.«01_k».proof.Proof.Block
public import proofs.«01_k».proof.Proof.Entry
public import proofs.«01_k».proof.Proof.Gen.KernelIdeal.Value

@[expose] public section

noncomputable section

namespace Cert.Proof.KernelArr

open Cert.KernelIdeal Cert.KernelIdeal.Gen Idealize.ShloMosaic Idealize.ShloMosaic.TcCoe Idealize.SL.Sem Cert.Proof.Block
open Idealize.ShloMosaic.Pipeline (Dat)
open scoped BigOperators

variable (m : (ℓ : Loc nD τ sig) → Buf (Elt Ideal) ℓ) (ρ : Dev nD → PrngReg)

/-- Attention over staged operands at sample `b`, token `i` and lane `l` of the heads side by side. -/
def attended (Q : Vec Ideal S2x4096x768 .bf16) (K : Vec Ideal S2x4352x768 .bf16) (W : Vec Ideal S2x4352x384 .bf16)
    (b : Fin 2) (i : Fin 4096) (l : Fin 384) : EReal :=
  Softmax.sumThenDivide (fun j : Fin 4352 => ∑ d : Fin 128, Q (ix3 b i (headLane l d)) * K (ix3 b j (headLane l d)))
    (fun j => W (ix3 b j l))

/-- The result array. -/
def result (c : Dev nD) : Vec Ideal S2x4096x384 .f32 :=
  fun y => attended (V m c main_v4) (V m c main_v8) (V m c main_v11) (y 0) (y 1) (y 2)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, 0, 0] :=
  (by decide +kernel : ∀ t : Fin grid0.N, win0_1.index t = ![(grid0.coords t 0).val, 0, 0])
theorem index2 : ∀ t : Fin cfg0.N, win0_2.index t = ![(grid0.coords t 0).val, 0, 0] :=
  (by decide +kernel : ∀ t : Fin grid0.N, win0_2.index t = ![(grid0.coords t 0).val, 0, 0])
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])

/-- The written blocks cover the result array. -/
theorem covers : (cfg0.win 3).Covers := by decide +kernel

/-- The sample a grid point works on. -/
def sample (t : Fin cfg0.N) : Fin 2 := ⟨(grid0.coords t 0).val, (grid0.coords t 0).isLt⟩
/-- The token a grid point's block has at row `r`. -/
def token (t : Fin cfg0.N) (r : Fin 512) : Fin 4096 :=
  ⟨(grid0.coords t 1).val * 512 + r.val, by have : (grid0.coords t 1).val < 8 := (grid0.coords t 1).isLt; omega⟩

/-- The query block of a grid point, of any array: its sample's tokens. -/
theorem query_read (X : Vec Ideal S2x4096x768 .bf16) (t : Fin cfg0.N) (r : Fin 512) (l : Fin 768) :
    ((win0_0.blk t).view.read (Elt Ideal) X : Vec Ideal S1x512x768 .bf16) (ix3 (0 : Fin 1) r l) = X (ix3 (sample t) (token t r) l) := by
  refine congrArg X (funext fun a => Fin.ext ?_)
  refine (Pipeline.Window.rect_emb_val win0_0 t _ a).trans ?_
  match a with
  | ⟨0, _⟩ => show win0_0.index t 0 * 1 + 0 = (grid0.coords t 0).val; rw [index0]; show (grid0.coords t 0).val * 1 + 0 = _; omega
  | ⟨1, _⟩ => show win0_0.index t 1 * 512 + r.val = (grid0.coords t 1).val * 512 + r.val; rw [index0]; rfl
  | ⟨2, _⟩ => show win0_0.index t 2 * 768 + l.val = l.val; rw [index0]; show 0 * 768 + l.val = l.val; omega

/-- The staged query block at a token and a lane. -/
theorem query_block (c : Dev nD) (t : Fin cfg0.N) (r : Fin 512) (l : Fin 768) :
    (iblk m c 0 t : Vec Ideal S1x512x768 .bf16) (ix3 (0 : Fin 1) r l) = (V m c main_v4 : Vec Ideal S2x4096x768 .bf16) (ix3 (sample t) (token t r) l) :=
  query_read (V m c main_v4) t r l

/-- The key block of a grid point, of any array: its sample's whole run of tokens. -/
theorem key_read (X : Vec Ideal S2x4352x768 .bf16) (t : Fin cfg0.N) (r : Fin 4352) (l : Fin 768) :
    ((win0_1.blk t).view.read (Elt Ideal) X : Vec Ideal S1x4352x768 .bf16) (ix3 (0 : Fin 1) r l) = X (ix3 (sample t) r l) := by
  refine congrArg X (funext fun a => Fin.ext ?_)
  refine (Pipeline.Window.rect_emb_val win0_1 t _ a).trans ?_
  match a with
  | ⟨0, _⟩ => show win0_1.index t 0 * 1 + 0 = (grid0.coords t 0).val; rw [index1]; show (grid0.coords t 0).val * 1 + 0 = _; omega
  | ⟨1, _⟩ => show win0_1.index t 1 * 4352 + r.val = r.val; rw [index1]; show 0 * 4352 + r.val = r.val; omega
  | ⟨2, _⟩ => show win0_1.index t 2 * 768 + l.val = l.val; rw [index1]; show 0 * 768 + l.val = l.val; omega

/-- The staged key block at a token and a lane. -/
theorem key_block (c : Dev nD) (t : Fin cfg0.N) (r : Fin 4352) (l : Fin 768) :
    (iblk m c 1 t : Vec Ideal S1x4352x768 .bf16) (ix3 (0 : Fin 1) r l) = (V m c main_v8 : Vec Ideal S2x4352x768 .bf16) (ix3 (sample t) r l) :=
  key_read (V m c main_v8) t r l

/-- The value block of a grid point, of any array: its sample's whole run of tokens. -/
theorem value_read (X : Vec Ideal S2x4352x384 .bf16) (t : Fin cfg0.N) (r : Fin 4352) (l : Fin 384) :
    ((win0_2.blk t).view.read (Elt Ideal) X : Vec Ideal S1x4352x384 .bf16) (ix3 (0 : Fin 1) r l) = X (ix3 (sample t) r l) := by
  refine congrArg X (funext fun a => Fin.ext ?_)
  refine (Pipeline.Window.rect_emb_val win0_2 t _ a).trans ?_
  match a with
  | ⟨0, _⟩ => show win0_2.index t 0 * 1 + 0 = (grid0.coords t 0).val; rw [index2]; show (grid0.coords t 0).val * 1 + 0 = _; omega
  | ⟨1, _⟩ => show win0_2.index t 1 * 4352 + r.val = r.val; rw [index2]; show 0 * 4352 + r.val = r.val; omega
  | ⟨2, _⟩ => show win0_2.index t 2 * 384 + l.val = l.val; rw [index2]; show 0 * 384 + l.val = l.val; omega

/-- The staged value block at a token and a lane. -/
theorem value_block (c : Dev nD) (t : Fin cfg0.N) (r : Fin 4352) (l : Fin 384) :
    (iblk m c 2 t : Vec Ideal S1x4352x384 .bf16) (ix3 (0 : Fin 1) r l) = (V m c main_v11 : Vec Ideal S2x4352x384 .bf16) (ix3 (sample t) r l) :=
  value_read (V m c main_v11) t r l

/-- Where a result block's element lies in the array. -/
theorem place (t : Fin cfg0.N) (y : S1x512x384.Idx) :
    (((cfg0.win 3).blk t).view.emb y : S2x4096x384.Idx) = ix3 (sample t) (token t (y 1)) (y 2) := by
  blk_ext [sample, token, index3 t]

/-- A grid point's block is attention over the staged operands at its sample and tokens. -/
theorem block_attended (c : Dev nD) (t : Fin cfg0.N) (y : S1x512x384.Idx) :
    attendOut (iblk m c 0 t) (iblk m c 1 t) (iblk m c 2 t) y
      = attended (V m c main_v4) (V m c main_v8) (V m c main_v11) (sample t) (token t (y 1)) (y 2) := by
  unfold attendOut attendBlock attended
  refine congrArg₂ Softmax.sumThenDivide (funext fun j => Finset.sum_congr rfl fun d _ => congrArg₂ (· * ·) ?_ ?_) (funext fun j => ?_)
  · exact query_block m c t (y 1) (headLane (y 2) d)
  · exact key_block m c t j (headLane (y 2) d)
  · exact value_block m c t j (y 2)

/-- After the run the result array is `result`. -/
theorem final (c : Dev nD) : (dats m 0 c).arrAt 3 cfg0.N = result m c := by
  refine (dats m 0 c).arrAt_eq_of_covers 3 _ covers fun t hf y => ?_
  blk_simp
  rw [after0_3, out_eq]
  exact (block_attended m c t y).trans (congrArg (result m c) (place t y)).symm

/-- A padded head at the lanes of the head that result lane `l` belongs to. -/
theorem padded_headLane (f : Fin 6 → Fin 96 → EReal) (l : Fin 384) (d : Fin 128) :
    Entry.padded f (headLane l d) = if h : d.val < 96 then f ⟨l.val / 64, by omega⟩ ⟨d.val, h⟩ else 0 := by
  have e : (headLane l d).val % 128 = d.val := by show (128 * (l.val / 64) + d.val) % 128 = d.val; omega
  have e' : (headLane l d).val / 128 = l.val / 64 := by show (128 * (l.val / 64) + d.val) / 128 = l.val / 64; omega
  unfold Entry.padded
  by_cases h : d.val < 96
  · rw [dif_pos (by rw [e]; exact h), dif_pos h]
    exact congrArg₂ f (Fin.ext e') (Fin.ext e)
  · rw [dif_neg (by rw [e]; exact h), dif_neg h]

/-- The scale is a nonnegative real. -/
theorem scale_real : ∃ r : ℝ, 0 ≤ r ∧ Entry.scale = r := by
  have h : ∃ r : ℝ, Entry.scale = r ∧ 0 ≤ r := by
    refine ⟨?_, ?_, ?_⟩
    rotate_left
    · unfold Entry.scale
      simp only [Ideal.ofBits, Ideal.ieee]
      rfl
    · rw [if_neg (by decide)]; positivity
  obtain ⟨r, e, hr⟩ := h
  exact ⟨r, hr, e⟩

/-- The result array at an index, over the arguments. -/
theorem result_apply (c : Dev nD) (b : Fin 2) (i : Fin 4096) (l : Fin 384) :
    result m c (ix3 b i l)
      = Softmax.sumThenDivide
          (Entry.score (m ((c : Thread nD τ).loc main_arg0)) (m ((c : Thread nD τ).loc main_arg1)) (m ((c : Thread nD τ).loc main_arg3)) b (Entry.headOf l) i)
          (fun j => Entry.joined (m ((c : Thread nD τ).loc main_arg2)) (m ((c : Thread nD τ).loc main_arg4)) b j (Entry.headOf l) (Entry.posOf l)) := by
  show attended (V m c main_v4) (V m c main_v8) (V m c main_v11) b i l = _
  unfold attended
  refine congrArg₂ Softmax.sumThenDivide (funext fun j => ?_) (funext fun j => Entry.value m c b j l)
  obtain ⟨r, hr, e⟩ := scale_real
  unfold Entry.score
  rw [e]
  refine Eq.trans (Finset.sum_congr rfl fun d _ => ?_) (Softmax.padded_score _ _ hr)
  rw [Entry.query, Entry.key, padded_headLane, padded_headLane]
  unfold Entry.scaledQuery
  rw [e]
  rfl

end Cert.Proof.KernelArr

end
-- ==== Proof.RefValue.lean ====
/-
  The reference at an index: softmax attention with each weight divided by the weights' sum before it multiplies the
  value.
-/
module

public import proofs.«01_k».proof.Proof.Entry
public import proofs.«01_k».proof.Proof.Softmax
public import proofs.«01_k».proof.Proof.Gen.ReferenceIdeal.Read
public import Idealize.ShloMosaic.Lib.IdealHost

@[expose] public section

noncomputable section

namespace Cert.Proof.RefValue

open scoped BigOperators
open Cert.ReferenceIdeal Cert.ReferenceIdeal.Read Idealize.ShloMosaic Cert.Proof.Entry

variable (q k : Vec Ideal S2x4096x6x96 .f32) (v : Vec Ideal S2x4096x6x64 .f32) (kc : Vec Ideal S2x256x6x96 .f32) (vc : Vec Ideal S2x256x6x64 .f32)

/-- The keys, own tokens first. -/
theorem keys_apply (b : Fin 2) (j : Fin 4352) (h : Fin 6) (d : Fin 96) : val_main_v0 (F := Ideal) k kc (ix4 b j h d) = joined k kc b j h d := by
  unfold val_main_v0
  pointwise
  rfl

/-- The values, own tokens first. -/
theorem values_apply (b : Fin 2) (j : Fin 4352) (h : Fin 6) (d : Fin 64) : val_main_v1 (F := Ideal) v vc (ix4 b j h d) = joined v vc b j h d := by
  unfold val_main_v1
  pointwise
  rfl

/-- The scaled scores. -/
theorem score_apply (b : Fin 2) (h : Fin 6) (i : Fin 4096) (j : Fin 4352) :
    val_main_v4 (F := Ideal) q k kc (ix4 b h i j) = score q k kc b h i j := by
  rw [val_main_v4_apply, val_main_v2_apply, val_main_v3_apply]
  unfold score
  refine congrArg₂ (· * ·) (Finset.sum_congr rfl fun d _ => congrArg₂ (· * ·) ?_ ?_) rfl
  · exact congrArg q (funext fun a => match a with | ⟨0, _⟩ => rfl | ⟨1, _⟩ => rfl | ⟨2, _⟩ => rfl | ⟨3, _⟩ => rfl)
  · refine Eq.trans (congrArg (val_main_v0 (F := Ideal) k kc) (?_ : ridx_main_v2 (ix4 b h i j) d = ix4 b j h d)) (keys_apply k kc b j h d)
    exact (funext fun a => match a with | ⟨0, _⟩ => rfl | ⟨1, _⟩ => rfl | ⟨2, _⟩ => rfl | ⟨3, _⟩ => rfl)

/-- The indices summed over at a row. -/
theorem lift_scores (h : S2x6x4096x4352.Reduces [3] S2x6x4096) (b : Fin 2) (g : Fin 6) (i : Fin 4096) (j : Fin 4352) :
    h.lift (ix3 b g i) j = ix4 b g i j :=
  funext fun a => Fin.ext (by
    match a with
    | ⟨0, _⟩ => rfl
    | ⟨1, _⟩ => rfl
    | ⟨2, _⟩ => rfl
    | ⟨3, _⟩ => rfl)

/-- The largest score of a row. -/
theorem max_apply (b : Fin 2) (h : Fin 6) (i : Fin 4096) :
    val_main_v7 (F := Ideal) q k kc (ix3 b h i) = Softmax.rowMax (score q k kc b h i) := by
  have hr : S2x6x4096x4352.Reduces [3] S2x6x4096 := by decide
  have e5 : val_main_v5 (F := Ideal) q k kc (ix3 b h i) = Softmax.rowMax (score q k kc b h i) := by
    unfold val_main_v5
    refine (Host.reduce_eq_fold_single (FloatOps.maximumf (F := Ideal) (φ := .f32)) _ _ Gen.reducesTo_S2x6x4096x4352_S2x6x4096_d3 hr Gen.h_S_ (ix3 b h i)).trans ?_
    have eb : (val_main_cst_0 (F := Ideal)) (Shape.Idx.first Gen.h_S_) = (⊥ : EReal) := by
      show Ideal.ofBits FTy.f32 0xFF800000#32 = ⊥
      simp [Ideal.ofBits, Ideal.ieee]
    rw [eb]
    exact congrArg (fun f : Fin 4352 → EReal => Finset.fold max ⊥ f Finset.univ)
      (funext fun j => (congrArg (val_main_v4 (F := Ideal) q k kc) (lift_scores hr b h i j)).trans (score_apply q k kc b h i j))
  rw [val_main_v7_apply, val_main_v6_apply, e5]
  have eb : (val_main_cst_1 (F := Ideal)) (idx_main_v6 (ix3 b h i)) = (⊥ : EReal) := by
    show Ideal.ofBits FTy.f32 0xFF800000#32 = ⊥
    simp [Ideal.ofBits, Ideal.ieee]
  rw [eb]
  exact max_eq_right bot_le

/-- The exponential of a score less the row's largest. -/
theorem exp_apply (b : Fin 2) (h : Fin 6) (i : Fin 4096) (j : Fin 4352) :
    val_main_v11 (F := Ideal) q k kc (ix4 b h i j) = Ideal.exp (score q k kc b h i j - Softmax.rowMax (score q k kc b h i)) := by
  have e9 : val_main_v9 (F := Ideal) q k kc (ix4 b h i j) = Softmax.rowMax (score q k kc b h i) := by
    rw [val_main_v9_apply, val_main_v8_apply]
    refine Eq.trans (congrArg (val_main_v7 (F := Ideal) q k kc) (?_ : _ = ix3 b h i)) (max_apply q k kc b h i)
    exact funext fun a => match a with | ⟨0, _⟩ => rfl | ⟨1, _⟩ => rfl | ⟨2, _⟩ => rfl
  rw [val_main_v11_apply, val_main_v10_apply, score_apply, e9]
  rfl

/-- The sum of a row's exponentials. -/
theorem sum_apply (b : Fin 2) (h : Fin 6) (i : Fin 4096) (j : Fin 4352) :
    val_main_v14 (F := Ideal) q k kc (ix4 b h i j) = ∑ j : Fin 4352, Ideal.exp (score q k kc b h i j - Softmax.rowMax (score q k kc b h i)) := by
  rw [val_main_v14_apply, val_main_v13_apply, val_main_v12_apply]
  have ez : (val_main_cst_2 (F := Ideal)) (Shape.Idx.first Gen.h_S_) = (0 : EReal) := by
    show Ideal.ofBits FTy.f32 0x00000000#32 = 0
    simp [Ideal.ofBits, Ideal.ieee]
  rw [ez, zero_add]
  refine Finset.sum_congr rfl fun j' _ => ?_
  refine Eq.trans (congrArg (val_main_v11 (F := Ideal) q k kc) (?_ : _ = ix4 b h i j')) (exp_apply q k kc b h i j')
  exact funext fun a => match a with | ⟨0, _⟩ => rfl | ⟨1, _⟩ => rfl | ⟨2, _⟩ => rfl | ⟨3, _⟩ => rfl

/-- The result's lane is its head and position. -/
theorem place (b : Fin 2) (i : Fin 4096) (l : Fin 384) : idx_main_v18 (ix3 b i l) = ix4 b i (headOf l) (posOf l) :=
  funext fun a => Fin.ext (by
    have hb := b.isLt
    have hi := i.isLt
    have hl := l.isLt
    match a with
    | ⟨0, _⟩ => show ((b.val * 4096 + i.val) * 384 + l.val) / 1572864 = b.val; omega
    | ⟨1, _⟩ => show ((b.val * 4096 + i.val) * 384 + l.val) / 384 % 4096 = i.val; omega
    | ⟨2, _⟩ => show ((b.val * 4096 + i.val) * 384 + l.val) / 64 % 6 = l.val / 64; omega
    | ⟨3, _⟩ => show ((b.val * 4096 + i.val) * 384 + l.val) % 64 = l.val % 64; omega)

/-- The reference's result at an index. -/
theorem result_apply (b : Fin 2) (i : Fin 4096) (l : Fin 384) :
    val_main_v18 (F := Ideal) q k v kc vc (ix3 b i l)
      = Softmax.divideThenSum (score q k kc b (headOf l) i) (fun j => joined v vc b j (headOf l) (posOf l)) := by
  rw [val_main_v18_apply, place, val_main_v17_apply, val_main_v16_apply]
  unfold Softmax.divideThenSum
  refine Finset.sum_congr rfl fun j _ => congrArg₂ (· * ·) ?_ ?_
  · refine Eq.trans (congrArg (val_main_v1 (F := Ideal) v vc) (?_ : _ = ix4 b j (headOf l) (posOf l))) (values_apply v vc b j _ _)
    exact funext fun a => match a with | ⟨0, _⟩ => rfl | ⟨1, _⟩ => rfl | ⟨2, _⟩ => rfl | ⟨3, _⟩ => rfl
  · refine Eq.trans (congrArg (val_main_v15 (F := Ideal) q k kc) (?_ : _ = ix4 b (headOf l) i j)) ?_
    · exact funext fun a => match a with | ⟨0, _⟩ => rfl | ⟨1, _⟩ => rfl | ⟨2, _⟩ => rfl | ⟨3, _⟩ => rfl
    · rw [val_main_v15_apply, exp_apply, sum_apply]
      rfl

end Cert.Proof.RefValue

end
-- ==== Proof.Attention.lean ====
/-
  The attention's claims: the frames, and that kernel and reference leave equal results where queries and keys are
  finite. A finite score makes the weights' sum a positive real, and dividing by it commutes with the sum over tokens.
-/
module

public import proofs.«01_k».proof.Defs
public import proofs.«01_k».proof.Proof.KernelArr
public import proofs.«01_k».proof.Proof.RefValue
public import proofs.«01_k».proof.Proof.Gen.Kernel.Frame
public import proofs.«01_k».proof.Proof.Gen.ReferenceIdeal.Run
public import Idealize.ShloMosaic.Lib.Quiescent

@[expose] public section

noncomputable section

namespace Cert.Proof.Attention

open Idealize.ShloMosaic Idealize.ShloMosaic.TcCoe Idealize.SL.Sem

/-- The precondition's shape relations. -/
theorem preFacts : Cert.Pre_finite_scores.Facts := ⟨by decide, by decide⟩

/-- An array whose absolute values compare below infinity holds reals. -/
theorem real_of_mask {s : Shape} (x : FVec Ideal s .f32) (t : FVec Ideal s .f32) (ht : ∀ i, t i = (⊤ : EReal))
    (h : cmpf .olt (Host.absf x) t = fun _ => 1#1) (i : s.Idx) : ∃ r : ℝ, x i = (r : EReal) := by
  have e : Ideal.cmp .olt (max (x i : EReal) (-(x i))) (t i) = 1#1 := congrFun h i
  rw [ht] at e
  refine Softmax.real_of_abs_lt_top ?_
  by_contra hn
  have : Ideal.cmp .olt (max (x i : EReal) (-(x i))) ⊤ = 0#1 := by
    simp only [Ideal.cmp]
    rw [decide_eq_false hn]; rfl
  rw [this] at e
  exact absurd e (by decide)

/-- Infinity's word is the top of the extended reals. -/
theorem inf_top : Ideal.ofBits FTy.f32 0x7F800000#32 = ⊤ := by simp [Ideal.ofBits, Ideal.ieee]

/-- Joined finite arrays are finite. -/
theorem joined_real {D : ℕ} (x : Vec Ideal ⟨4, ![2, 4096, 6, D]⟩ .f32) (y : Vec Ideal ⟨4, ![2, 256, 6, D]⟩ .f32)
    (hx : ∀ i, ∃ r : ℝ, x i = (r : EReal)) (hy : ∀ i, ∃ r : ℝ, y i = (r : EReal)) (b : Fin 2) (j : Fin 4352) (h : Fin 6) (d : Fin D) :
    ∃ r : ℝ, Entry.joined x y b j h d = (r : EReal) := by
  unfold Entry.joined
  split
  · exact hx _
  · exact hy _

/-- Scores of finite queries and keys are finite. -/
theorem score_real (q k : Vec Ideal Cert.KernelIdeal.S2x4096x6x96 .f32) (kc : Vec Ideal Cert.KernelIdeal.S2x256x6x96 .f32)
    (hq : ∀ i, ∃ r : ℝ, q i = (r : EReal)) (hk : ∀ i, ∃ r : ℝ, k i = (r : EReal)) (hkc : ∀ i, ∃ r : ℝ, kc i = (r : EReal))
    (b : Fin 2) (h : Fin 6) (i : Fin 4096) (j : Fin 4352) : ∃ r : ℝ, Entry.score q k kc b h i j = (r : EReal) := by
  obtain ⟨s, hs⟩ := Softmax.real_sum_mul Finset.univ (fun d : Fin 96 => q (ix4 b i h d)) (fun d => Entry.joined k kc b j h d)
    (fun d => hq _) (fun d => joined_real k kc hk hkc b j h d)
  obtain ⟨c, -, hc⟩ := KernelArr.scale_real
  refine ⟨s * c, ?_⟩
  unfold Entry.score
  rw [hc, hs]
  exact (EReal.coe_mul s c).symm

/-- The two results agree where queries and keys are finite. -/
theorem results_eq (m : (ℓ : Loc Cert.KernelIdeal.nD Cert.KernelIdeal.τ Cert.KernelIdeal.sig) → Buf (Elt Ideal) ℓ) (c : Dev Cert.KernelIdeal.nD)
    (hq : ∀ i, ∃ r : ℝ, (m ((c : Thread Cert.KernelIdeal.nD Cert.KernelIdeal.τ).loc Cert.KernelIdeal.main_arg0) : Vec Ideal Cert.KernelIdeal.S2x4096x6x96 .f32) i = (r : EReal))
    (hk : ∀ i, ∃ r : ℝ, (m ((c : Thread Cert.KernelIdeal.nD Cert.KernelIdeal.τ).loc Cert.KernelIdeal.main_arg1) : Vec Ideal Cert.KernelIdeal.S2x4096x6x96 .f32) i = (r : EReal))
    (hkc : ∀ i, ∃ r : ℝ, (m ((c : Thread Cert.KernelIdeal.nD Cert.KernelIdeal.τ).loc Cert.KernelIdeal.main_arg3) : Vec Ideal Cert.KernelIdeal.S2x256x6x96 .f32) i = (r : EReal)) :
    Cert.ReferenceIdeal.Read.val_main_v18 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
      = KernelArr.result m c := by
  funext y
  obtain ⟨b, i, l, rfl⟩ : ∃ (b : Fin 2) (i : Fin 4096) (l : Fin 384), y = ix3 b i l := ⟨y 0, y 1, y 2, ValueIdx.eq_ix3 y⟩
  rw [RefValue.result_apply, KernelArr.result_apply]
  exact (Softmax.sumThenDivide_eq (by decide) _ _ fun j => score_real _ _ _ hq hk hkc b (Entry.headOf l) i j).symm

/-- The value claim. -/
theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hagree
  refine ⟨fun c => KernelArr.result m c, ?_, ?_⟩
  · exact (θ_run Cert.KernelIdeal.defs _ _).mono (fun _ h c => ⟨(h c).1.trans (KernelArr.final m c), (h c).2⟩) (Cert.KernelIdeal.Value.run_blocks m g)
  · refine (θ_run Cert.ReferenceIdeal.defs _ _).mono (fun _ h c => ⟨(h c).1.trans ?_, (h c).2⟩) (Cert.ReferenceIdeal.Value.run (F := Ideal) m' g')
    rw [(hagree c).1, (hagree c).2.1, (hagree c).2.2.1, (hagree c).2.2.2.1, (hagree c).2.2.2.2]
    exact results_eq m c (real_of_mask _ _ (fun _ => inf_top) (hpre c).1) (real_of_mask _ _ (fun _ => inf_top) (hpre c).2.1)
      (real_of_mask _ _ (fun _ => inf_top) (hpre c).2.2)

/-- The reference's frame. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Attention

end
-- ==== Proof.Norm.lean ====
/-
  A token's row of 1024 entries normed by its root mean square, times a gain, then scaled and shifted by the
  modulation: the rows that the layer's products start from.
-/
module

public import Idealize.ShloMosaic.Lib.IdealHost

@[expose] public section

noncomputable section

namespace Cert.Proof.Norm

open Idealize.ShloMosaic
open scoped BigOperators

/-- The reciprocal root of a row's mean square, the small constant added. -/
def factor (x : Fin 1024 → EReal) : EReal :=
  Ideal.rsqrt (Ideal.div (∑ k : Fin 1024, x k * x k) (Ideal.ofBits FTy.f32 0x44800000#32) + Ideal.ofBits FTy.f32 0x358637BD#32)

/-- The normed row times the gain, times one plus the scale, plus the shift. -/
def modulated (x gain scale shift : Fin 1024 → EReal) (k : Fin 1024) : EReal :=
  x k * factor x * gain k * (Ideal.ofBits FTy.f32 0x3F800000#32 + scale k) + shift k

end Cert.Proof.Norm

end
-- ==== Proof.InProj.lean ====
/-
  The input projection: what the kernel's three result arrays hold, index by index. A grid point takes 512 tokens of
  one sample, norms and modulates each token's row, and multiplies it by each of three column blocks of the weight.
-/
module

public import proofs.«01_k».proof.Proof.Norm
public import proofs.«01_k».proof.Proof.Gen.InProjIdeal.Value
public import Idealize.ShloMosaic.Lib.MatmulPlain
public import Idealize.ShloMosaic.Lib.ValueLayout
public import Idealize.ShloMosaic.Lib.Pipeline.ValueKit
public import Idealize.ShloMosaic.Lib.StableHlo.ReadAt

@[expose] public section

noncomputable section

namespace Cert.Proof.InProj

open Cert.InProjIdeal Cert.InProjIdeal.Gen Idealize.ShloMosaic Idealize.ShloMosaic.TcCoe Idealize.SL.Sem
open Idealize.ShloMosaic.Pipeline (Dat)
open scoped BigOperators

/-- A row of the squares with its column coordinate put back. -/
theorem lift_row (r : Fin 512) (j : Fin 1024) : reduces_S512x1024_S512.lift (ix1 r) j = ix2 r j := by
  funext a
  match a with
  | ⟨0, _⟩ => rfl
  | ⟨1, _⟩ => rfl

/-- A column of row values broadcast along the lanes reads its row. -/
theorem column_apply (x : FVec Ideal S512x1 .f32) (r : Fin 512) (k : Fin 1024) :
    broadcastTo S512x1024 x broadcasts_S512x1_S512x1024 (ix2 r k) = x (ix2 r (0 : Fin 1)) :=
  broadcastTo_apply _ broadcasts_S512x1_S512x1024 (ix2 r k) (ix2 r (0 : Fin 1)) fun a => by
    match a with
    | ⟨0, _⟩ => rfl
    | ⟨1, _⟩ => rfl

/-- The modulated rows of a block. -/
theorem rows_apply (x : Vec Ideal S1x512x1024 .f32) (gain : Vec Ideal S1x1024 .f32) (scale shift : Vec Ideal S1x1x1024 .f32) (r : Fin 512) (k : Fin 1024) :
    k0_pay3 x gain scale shift (ix2 r k)
      = Norm.modulated (fun k => x (ix3 (0 : Fin 1) r k)) (fun k => gain (ix2 (0 : Fin 1) k)) (fun k => scale (ix3 (0 : Fin 1) (0 : Fin 1) k))
          (fun k => shift (ix3 (0 : Fin 1) (0 : Fin 1) k)) k := by
  unfold k0_pay3 Norm.modulated Norm.factor
  refine congrArg₂ (fun a b : EReal => a + b) (congrArg₂ (fun a b : EReal => a * b) (congrArg₂ (fun a b : EReal => a * b) (congrArg₂ (fun a b : EReal => a * b) ?_ ?_) ?_) ?_) ?_
  · exact ValueIdx.shapeCast_1ab_ab_apply _ shapeCasts_S1x512x1024_S512x1024 r k
  · refine (column_apply _ r k).trans (congrArg Ideal.rsqrt (congrArg₂ (fun a b : EReal => a + b) (congrArg₂ Ideal.div ?_ rfl) rfl))
    refine (shapeCast_apply _ shapeCasts_S512_S512x1 (ix2 r (0 : Fin 1)) (ix1 r) (by
      rw [Shape.rowMajor_val_two, Shape.rowMajor_val_one]
      show r.val = r.val * 1 + 0
      omega)).trans ?_
    refine (Ideal.multiReduction_add_single _ _ reduces_S512x1024_S512 _ _ (ix1 r)).trans ?_
    exact Finset.sum_congr rfl fun j _ => (congrArg _ (lift_row r j)).trans
      (congrArg₂ (· * ·) (ValueIdx.shapeCast_1ab_ab_apply _ shapeCasts_S1x512x1024_S512x1024 r j)
        (ValueIdx.shapeCast_1ab_ab_apply _ shapeCasts_S1x512x1024_S512x1024 r j))
  · refine (ValueIdx.broadcastTo_1b_ab_apply _ broadcasts_S1x1024_S512x1024 r k).trans ?_
    exact congrFun (shapeCast_self gain shapeCasts_S1x1024_S1x1024) _
  · refine (ValueIdx.broadcastTo_1b_ab_apply _ broadcasts_S1x1024_S512x1024 r k).trans (congrArg₂ (fun a b : EReal => a + b) rfl ?_)
    exact ValueIdx.shapeCast_1ab_ab_apply _ shapeCasts_S1x1x1024_S1x1024 0 k
  · refine (ValueIdx.broadcastTo_1b_ab_apply _ broadcasts_S1x1024_S512x1024 r k).trans ?_
    exact ValueIdx.shapeCast_1ab_ab_apply _ shapeCasts_S1x1x1024_S1x1024 0 k

/-- A block's modulated rows times a column of a weight. -/
def outBlock {N : ℕ} (x : Vec Ideal S1x512x1024 .f32) (gain : Vec Ideal S1x1024 .f32) (scale shift : Vec Ideal S1x1x1024 .f32)
    (w : Vec Ideal ⟨2, ![1024, N]⟩ .bf16) (r : Fin 512) (n : Fin N) : EReal :=
  ∑ k : Fin 1024, Norm.modulated (fun k => x (ix3 (0 : Fin 1) r k)) (fun k => gain (ix2 (0 : Fin 1) k)) (fun k => scale (ix3 (0 : Fin 1) (0 : Fin 1) k))
    (fun k => shift (ix3 (0 : Fin 1) (0 : Fin 1) k)) k * w (ix2 k n)

/-- The stored product of 1408 columns at a row and a column. -/
theorem pay1408_apply (x : Vec Ideal S1x512x1024 .f32) (gain : Vec Ideal S1x1024 .f32) (scale shift : Vec Ideal S1x1x1024 .f32)
    (w : Vec Ideal S1024x1408 .bf16) (u : Fin 1) (r : Fin 512) (n : Fin 1408) :
    k0_pay4 x gain scale shift w (ix3 u r n) = outBlock x gain scale shift w r n := by
  unfold k0_pay4
  refine (ValueIdx.shapeCast_ab_1ab_apply _ shapeCasts_S512x1408_S1x512x1408 u r n).trans ?_
  refine (Ideal.matmul_plain_apply (M := 512) (K := 1024) (N := 1408) none _ _ _ r n).trans ?_
  refine (congrArg (· + _) (Ideal.ofBits_zero_f32 : (constant S512x1408 .f32 0x00000000#32 : FVec Ideal S512x1408 .f32) (ix2 r n) = 0)).trans ((zero_add _).trans ?_)
  exact Finset.sum_congr rfl fun k _ => congrArg₂ (· * ·) (rows_apply x gain scale shift r k) (congrFun (shapeCast_self w shapeCasts_S1024x1408_S1024x1408) _)

/-- The stored product of 416 columns at a row and a column. -/
theorem pay416_apply (x : Vec Ideal S1x512x1024 .f32) (gain : Vec Ideal S1x1024 .f32) (scale shift : Vec Ideal S1x1x1024 .f32)
    (w : Vec Ideal S1024x416 .bf16) (u : Fin 1) (r : Fin 512) (n : Fin 416) :
    k0_pay1 (k0_pay3 x gain scale shift) w (ix3 u r n) = outBlock x gain scale shift w r n := by
  unfold k0_pay1
  refine (ValueIdx.shapeCast_ab_1ab_apply _ shapeCasts_S512x416_S1x512x416 u r n).trans ?_
  refine (Ideal.matmul_plain_apply (M := 512) (K := 1024) (N := 416) none _ _ _ r n).trans ?_
  refine (congrArg (· + _) (Ideal.ofBits_zero_f32 : (constant S512x416 .f32 0x00000000#32 : FVec Ideal S512x416 .f32) (ix2 r n) = 0)).trans ((zero_add _).trans ?_)
  exact Finset.sum_congr rfl fun k _ => congrArg₂ (· * ·) (rows_apply x gain scale shift r k) (congrFun (shapeCast_self w shapeCasts_S1024x416_S1024x416) _)

/-- The stored product of 768 columns at a row and a column. -/
theorem pay768_apply (x : Vec Ideal S1x512x1024 .f32) (gain : Vec Ideal S1x1024 .f32) (scale shift : Vec Ideal S1x1x1024 .f32)
    (w : Vec Ideal S1024x768 .bf16) (u : Fin 1) (r : Fin 512) (n : Fin 768) :
    k0_pay2 (k0_pay3 x gain scale shift) w (ix3 u r n) = outBlock x gain scale shift w r n := by
  unfold k0_pay2
  refine (ValueIdx.shapeCast_ab_1ab_apply _ shapeCasts_S512x768_S1x512x768 u r n).trans ?_
  refine (Ideal.matmul_plain_apply (M := 512) (K := 1024) (N := 768) none _ _ _ r n).trans ?_
  refine (congrArg (· + _) (Ideal.ofBits_zero_f32 : (constant S512x768 .f32 0x00000000#32 : FVec Ideal S512x768 .f32) (ix2 r n) = 0)).trans ((zero_add _).trans ?_)
  exact Finset.sum_congr rfl fun k _ => congrArg₂ (· * ·) (rows_apply x gain scale shift r k) (congrFun (shapeCast_self w shapeCasts_S1024x768_S1024x768) _)

/-- What the body leaves in the block of 1408 columns. -/
theorem out7_eq (x : Vec Ideal S1x512x1024 .f32) (gain : Vec Ideal S1x1024 .f32) (scale shift : Vec Ideal S1x1x1024 .f32)
    (w₁ : Vec Ideal S1024x1408 .bf16) (w₂ : Vec Ideal S1024x416 .bf16) (w₃ : Vec Ideal S1024x768 .bf16) :
    out0_7 x gain scale shift w₁ w₂ w₃ = fun y => outBlock x gain scale shift w₁ (y 1) (y 2) := by
  have hz : (![0, 0, 0] : Fin 3 → ℕ) = fun _ => 0 := by decide
  have hz' : (![0, 0] : Fin 2 → ℕ) = fun _ => 0 := by decide
  unfold out0_7
  rw [View.ld_unit_zero hz, View.ld_unit_zero hz', View.ld_unit_zero hz, View.ld_unit_zero hz, View.ld_unit_zero hz', View.canon_unit_zero hz]
  funext y
  exact (congrArg _ (ValueIdx.eq_ix3 y)).trans (pay1408_apply x gain scale shift w₁ (y 0) (y 1) (y 2))

/-- What the body leaves in the block of 416 columns. -/
theorem out8_eq (x : Vec Ideal S1x512x1024 .f32) (gain : Vec Ideal S1x1024 .f32) (scale shift : Vec Ideal S1x1x1024 .f32)
    (w₁ : Vec Ideal S1024x1408 .bf16) (w₂ : Vec Ideal S1024x416 .bf16) (w₃ : Vec Ideal S1024x768 .bf16) :
    out0_8 x gain scale shift w₁ w₂ w₃ = fun y => outBlock x gain scale shift w₂ (y 1) (y 2) := by
  have hz : (![0, 0, 0] : Fin 3 → ℕ) = fun _ => 0 := by decide
  have hz' : (![0, 0] : Fin 2 → ℕ) = fun _ => 0 := by decide
  unfold out0_8 k0_pay5
  rw [View.ld_unit_zero hz, View.ld_unit_zero hz', View.ld_unit_zero hz, View.ld_unit_zero hz, View.ld_unit_zero hz', View.canon_unit_zero hz]
  funext y
  exact (congrArg _ (ValueIdx.eq_ix3 y)).trans (pay416_apply x gain scale shift w₂ (y 0) (y 1) (y 2))

/-- What the body leaves in the block of 768 columns. -/
theorem out9_eq (x : Vec Ideal S1x512x1024 .f32) (gain : Vec Ideal S1x1024 .f32) (scale shift : Vec Ideal S1x1x1024 .f32)
    (w₁ : Vec Ideal S1024x1408 .bf16) (w₂ : Vec Ideal S1024x416 .bf16) (w₃ : Vec Ideal S1024x768 .bf16) :
    out0_9 x gain scale shift w₁ w₂ w₃ = fun y => outBlock x gain scale shift w₃ (y 1) (y 2) := by
  have hz : (![0, 0, 0] : Fin 3 → ℕ) = fun _ => 0 := by decide
  have hz' : (![0, 0] : Fin 2 → ℕ) = fun _ => 0 := by decide
  unfold out0_9 k0_pay5
  rw [View.ld_unit_zero hz, View.ld_unit_zero hz', View.ld_unit_zero hz, View.ld_unit_zero hz, View.ld_unit_zero hz', View.canon_unit_zero hz]
  funext y
  exact (congrArg _ (ValueIdx.eq_ix3 y)).trans (pay768_apply x gain scale shift w₃ (y 0) (y 1) (y 2))

variable (m : (ℓ : Loc nD τ sig) → Buf (Elt Ideal) ℓ)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0] :=
  (by decide +kernel : ∀ t : Fin grid0.N, win0_1.index t = ![0, 0])
theorem index2 : ∀ t : Fin cfg0.N, win0_2.index t = ![(grid0.coords t 0).val, 0, 0] :=
  (by decide +kernel : ∀ t : Fin grid0.N, win0_2.index t = ![(grid0.coords t 0).val, 0, 0])
theorem index3 : ∀ t : Fin cfg0.N, win0_3.index t = ![(grid0.coords t 0).val, 0, 0] :=
  (by decide +kernel : ∀ t : Fin grid0.N, win0_3.index t = ![(grid0.coords t 0).val, 0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])
theorem index8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem index9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])

/-- The sample a grid point works on. -/
def sample (t : Fin cfg0.N) : Fin 2 := ⟨(grid0.coords t 0).val, (grid0.coords t 0).isLt⟩
/-- The token a grid point's block has at row `r`. -/
def token (t : Fin cfg0.N) (r : Fin 512) : Fin 4096 :=
  ⟨(grid0.coords t 1).val * 512 + r.val, by have : (grid0.coords t 1).val < 8 := (grid0.coords t 1).isLt; omega⟩

/-- The tokens' block of a grid point, of any array. -/
theorem read0 (X : Vec Ideal S2x4096x1024 .f32) (t : Fin cfg0.N) (r : Fin 512) (l : Fin 1024) :
    ((win0_0.blk t).view.read (Elt Ideal) X : Vec Ideal S1x512x1024 .f32) (ix3 (0 : Fin 1) r l) = X (ix3 (sample t) (token t r) l) := by
  refine congrArg X (funext fun a => Fin.ext ?_)
  refine (Pipeline.Window.rect_emb_val win0_0 t _ a).trans ?_
  match a with
  | ⟨0, _⟩ => show win0_0.index t 0 * 1 + 0 = (grid0.coords t 0).val; rw [index0]; show (grid0.coords t 0).val * 1 + 0 = _; omega
  | ⟨1, _⟩ => show win0_0.index t 1 * 512 + r.val = (grid0.coords t 1).val * 512 + r.val; rw [index0]; rfl
  | ⟨2, _⟩ => show win0_0.index t 2 * 1024 + l.val = l.val; rw [index0]; show 0 * 1024 + l.val = l.val; omega

/-- The gain's block of a grid point, of any array: all of it. -/
theorem read1 (X : Vec Ideal S1x1024 .f32) (t : Fin cfg0.N) (k : Fin 1) (l : Fin 1024) :
    ((win0_1.blk t).view.read (Elt Ideal) X : Vec Ideal S1x1024 .f32) (ix2 k l) = X (ix2 k l) := by
  refine congrArg X (funext fun a => Fin.ext ?_)
  refine (Pipeline.Window.rect_emb_val win0_1 t _ a).trans ?_
  match a with
  | ⟨0, _⟩ => show win0_1.index t 0 * 1 + k.val = k.val; rw [index1]; show 0 * 1 + k.val = _; omega
  | ⟨1, _⟩ => show win0_1.index t 1 * 1024 + l.val = l.val; rw [index1]; show 0 * 1024 + l.val = l.val; omega

/-- The scale's block of a grid point, of any array. -/
theorem read2 (X : Vec Ideal S2x1x1024 .f32) (t : Fin cfg0.N) (l : Fin 1024) :
    ((win0_2.blk t).view.read (Elt Ideal) X : Vec Ideal S1x1x1024 .f32) (ix3 (0 : Fin 1) (0 : Fin 1) l) = X (ix3 (sample t) (0 : Fin 1) l) := by
  refine congrArg X (funext fun a => Fin.ext ?_)
  refine (Pipeline.Window.rect_emb_val win0_2 t _ a).trans ?_
  match a with
  | ⟨0, _⟩ => show win0_2.index t 0 * 1 + 0 = (grid0.coords t 0).val; rw [index2]; show (grid0.coords t 0).val * 1 + 0 = _; omega
  | ⟨1, _⟩ => show win0_2.index t 1 * 1 + 0 = 0; rw [index2]; rfl
  | ⟨2, _⟩ => show win0_2.index t 2 * 1024 + l.val = l.val; rw [index2]; show 0 * 1024 + l.val = l.val; omega

/-- The shift's block of a grid point, of any array. -/
theorem read3 (X : Vec Ideal S2x1x1024 .f32) (t : Fin cfg0.N) (l : Fin 1024) :
    ((win0_3.blk t).view.read (Elt Ideal) X : Vec Ideal S1x1x1024 .f32) (ix3 (0 : Fin 1) (0 : Fin 1) l) = X (ix3 (sample t) (0 : Fin 1) l) := by
  refine congrArg X (funext fun a => Fin.ext ?_)
  refine (Pipeline.Window.rect_emb_val win0_3 t _ a).trans ?_
  match a with
  | ⟨0, _⟩ => show win0_3.index t 0 * 1 + 0 = (grid0.coords t 0).val; rw [index3]; show (grid0.coords t 0).val * 1 + 0 = _; omega
  | ⟨1, _⟩ => show win0_3.index t 1 * 1 + 0 = 0; rw [index3]; rfl
  | ⟨2, _⟩ => show win0_3.index t 2 * 1024 + l.val = l.val; rw [index3]; show 0 * 1024 + l.val = l.val; omega

/-- The first weight's block of a grid point, of any array: all of it. -/
theorem read4 (X : Vec Ideal S1024x1408 .bf16) (t : Fin cfg0.N) (k : Fin 1024) (l : Fin 1408) :
    ((win0_4.blk t).view.read (Elt Ideal) X : Vec Ideal S1024x1408 .bf16) (ix2 k l) = X (ix2 k l) := by
  refine congrArg X (funext fun a => Fin.ext ?_)
  refine (Pipeline.Window.rect_emb_val win0_4 t _ a).trans ?_
  match a with
  | ⟨0, _⟩ => show win0_4.index t 0 * 1024 + k.val = k.val; rw [index4]; show 0 * 1024 + k.val = _; omega
  | ⟨1, _⟩ => show win0_4.index t 1 * 1408 + l.val = l.val; rw [index4]; show 0 * 1408 + l.val = l.val; omega

/-- The second weight's block of a grid point, of any array: all of it. -/
theorem read5 (X : Vec Ideal S1024x416 .bf16) (t : Fin cfg0.N) (k : Fin 1024) (l : Fin 416) :
    ((win0_5.blk t).view.read (Elt Ideal) X : Vec Ideal S1024x416 .bf16) (ix2 k l) = X (ix2 k l) := by
  refine congrArg X (funext fun a => Fin.ext ?_)
  refine (Pipeline.Window.rect_emb_val win0_5 t _ a).trans ?_
  match a with
  | ⟨0, _⟩ => show win0_5.index t 0 * 1024 + k.val = k.val; rw [index5]; show 0 * 1024 + k.val = _; omega
  | ⟨1, _⟩ => show win0_5.index t 1 * 416 + l.val = l.val; rw [index5]; show 0 * 416 + l.val = l.val; omega

/-- The third weight's block of a grid point, of any array: all of it. -/
theorem read6 (X : Vec Ideal S1024x768 .bf16) (t : Fin cfg0.N) (k : Fin 1024) (l : Fin 768) :
    ((win0_6.blk t).view.read (Elt Ideal) X : Vec Ideal S1024x768 .bf16) (ix2 k l) = X (ix2 k l) := by
  refine congrArg X (funext fun a => Fin.ext ?_)
  refine (Pipeline.Window.rect_emb_val win0_6 t _ a).trans ?_
  match a with
  | ⟨0, _⟩ => show win0_6.index t 0 * 1024 + k.val = k.val; rw [index6]; show 0 * 1024 + k.val = _; omega
  | ⟨1, _⟩ => show win0_6.index t 1 * 768 + l.val = l.val; rw [index6]; show 0 * 768 + l.val = l.val; omega

/-- The projection over whole arrays: the modulated row of a token times a column of the weight. -/
def projected (x : Vec Ideal S2x4096x1024 .f32) (gain : Vec Ideal S1024 .f32) (scale shift : Vec Ideal S2x1x1024 .f32)
    (w : Vec Ideal S1024x2592 .f32) (b : Fin 2) (i : Fin 4096) (n : Fin 2592) : EReal :=
  ∑ k : Fin 1024, Norm.modulated (fun k => x (ix3 b i k)) (fun k => gain (ix1 k)) (fun k => scale (ix3 b (0 : Fin 1) k))
    (fun k => shift (ix3 b (0 : Fin 1) k)) k * w (ix2 k n)

/-- The staged gain is the argument. -/
theorem gain_apply (c : Dev nD) (k : Fin 1024) :
    (V m c main_v6 : Vec Ideal S1x1024 .f32) (ix2 (0 : Fin 1) k) = (m ((c : Thread nD τ).loc main_arg1) : Vec Ideal S1024 .f32) (ix1 k) := by
  unfold V
  after_reads_at

/-- A block computed from blocks that read whole arrays is the projection of those arrays. -/
theorem block_eq {N : ℕ} (x : Vec Ideal S2x4096x1024 .f32) (gain : Vec Ideal S1024 .f32) (scale shift : Vec Ideal S2x1x1024 .f32)
    (w : Vec Ideal S1024x2592 .f32) (b : Fin 2) (i : Fin 4096) (r : Fin 512) (n : Fin N) (n' : Fin 2592)
    (x' : Vec Ideal S1x512x1024 .f32) (gain' : Vec Ideal S1x1024 .f32) (scale' shift' : Vec Ideal S1x1x1024 .f32) (w' : Vec Ideal ⟨2, ![1024, N]⟩ .bf16)
    (hx : ∀ l, x' (ix3 (0 : Fin 1) r l) = x (ix3 b i l)) (hg : ∀ l, gain' (ix2 (0 : Fin 1) l) = gain (ix1 l))
    (hs : ∀ l, scale' (ix3 (0 : Fin 1) (0 : Fin 1) l) = scale (ix3 b (0 : Fin 1) l))
    (ht : ∀ l, shift' (ix3 (0 : Fin 1) (0 : Fin 1) l) = shift (ix3 b (0 : Fin 1) l))
    (hw : ∀ k, w' (ix2 k n) = w (ix2 k n')) :
    outBlock x' gain' scale' shift' w' r n = projected x gain scale shift w b i n' := by
  unfold outBlock projected
  rw [funext hx, funext hg, funext hs, funext ht]
  exact Finset.sum_congr rfl fun k _ => congrArg (_ * ·) (hw k)

/-- The column of the whole weight that column `n` of the first result is. -/
def col7 (n : Fin 1408) : Fin 2592 := ⟨0 + n.val, by omega⟩

/-- The staged columns are the argument's. -/
theorem weight4 (c : Dev nD) (k : Fin 1024) (n : Fin 1408) :
    (V m c main_v1 : Vec Ideal S1024x1408 .bf16) (ix2 k n) = (m ((c : Thread nD τ).loc main_arg4) : Vec Ideal S1024x2592 .f32) (ix2 k (col7 n)) := by
  unfold V col7
  after_reads_at

/-- The first result array. -/
def result7 (c : Dev nD) : Vec Ideal S2x4096x1408 .f32 := fun y =>
  projected (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (col7 (y 2))

/-- The written blocks cover the first result array. -/
theorem covers7 : (cfg0.win 7).Covers := by decide +kernel

/-- Where an element of the first result's block lies in the array. -/
theorem place7 (t : Fin cfg0.N) (y : S1x512x1408.Idx) :
    (((cfg0.win 7).blk t).view.emb y : S2x4096x1408.Idx) = ix3 (sample t) (token t (y 1)) (y 2) := by
  blk_ext [sample, token, index7 t]

/-- A grid point's block is the projection at its sample and tokens. -/
theorem block7 (c : Dev nD) (t : Fin cfg0.N) (y : S1x512x1408.Idx) :
    outBlock (iblk m c 0 t) (iblk m c 1 t) (iblk m c 2 t) (iblk m c 3 t) (iblk m c 4 t : Vec Ideal S1024x1408 .bf16) (y 1) (y 2)
      = result7 m c (ix3 (sample t) (token t (y 1)) (y 2)) := by
  refine block_eq _ _ _ _ _ _ _ _ _ _ _ _ _ _ _ (fun l => ?_) (fun l => ?_) (fun l => ?_) (fun l => ?_) (fun k => ?_)
  · exact (read0 (V m c main_arg0) t (y 1) l).trans (congrFun (V_main_arg0 m c) _)
  · exact (read1 (V m c main_v6) t 0 l).trans (gain_apply m c l)
  · exact (read2 (V m c main_arg2) t l).trans (congrFun (V_main_arg2 m c) _)
  · exact (read3 (V m c main_arg3) t l).trans (congrFun (V_main_arg3 m c) _)
  · exact (read4 (V m c main_v1) t k (y 2)).trans (weight4 m c k (y 2))

/-- After the run the first result array is `result7`. -/
theorem final7 (c : Dev nD) : (dats m 0 c).arrAt 7 cfg0.N = result7 m c := by
  refine (dats m 0 c).arrAt_eq_of_covers 7 _ covers7 fun t hf y => ?_
  blk_simp
  rw [after0_7, out7_eq]
  exact (block7 m c t y).trans (congrArg (result7 m c) (place7 t y)).symm

/-- The column of the whole weight that column `n` of the second result is. -/
def col8 (n : Fin 416) : Fin 2592 := ⟨1408 + n.val, by omega⟩

/-- The staged columns are the argument's. -/
theorem weight5 (c : Dev nD) (k : Fin 1024) (n : Fin 416) :
    (V m c main_v3 : Vec Ideal S1024x416 .bf16) (ix2 k n) = (m ((c : Thread nD τ).loc main_arg4) : Vec Ideal S1024x2592 .f32) (ix2 k (col8 n)) := by
  unfold V col8
  after_reads_at

/-- The second result array. -/
def result8 (c : Dev nD) : Vec Ideal S2x4096x416 .f32 := fun y =>
  projected (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (col8 (y 2))

/-- The written blocks cover the second result array. -/
theorem covers8 : (cfg0.win 8).Covers := by decide +kernel

/-- Where an element of the second result's block lies in the array. -/
theorem place8 (t : Fin cfg0.N) (y : S1x512x416.Idx) :
    (((cfg0.win 8).blk t).view.emb y : S2x4096x416.Idx) = ix3 (sample t) (token t (y 1)) (y 2) := by
  blk_ext [sample, token, index8 t]

/-- A grid point's block is the projection at its sample and tokens. -/
theorem block8 (c : Dev nD) (t : Fin cfg0.N) (y : S1x512x416.Idx) :
    outBlock (iblk m c 0 t) (iblk m c 1 t) (iblk m c 2 t) (iblk m c 3 t) (iblk m c 5 t : Vec Ideal S1024x416 .bf16) (y 1) (y 2)
      = result8 m c (ix3 (sample t) (token t (y 1)) (y 2)) := by
  refine block_eq _ _ _ _ _ _ _ _ _ _ _ _ _ _ _ (fun l => ?_) (fun l => ?_) (fun l => ?_) (fun l => ?_) (fun k => ?_)
  · exact (read0 (V m c main_arg0) t (y 1) l).trans (congrFun (V_main_arg0 m c) _)
  · exact (read1 (V m c main_v6) t 0 l).trans (gain_apply m c l)
  · exact (read2 (V m c main_arg2) t l).trans (congrFun (V_main_arg2 m c) _)
  · exact (read3 (V m c main_arg3) t l).trans (congrFun (V_main_arg3 m c) _)
  · exact (read5 (V m c main_v3) t k (y 2)).trans (weight5 m c k (y 2))

/-- After the run the second result array is `result8`. -/
theorem final8 (c : Dev nD) : (dats m 0 c).arrAt 8 cfg0.N = result8 m c := by
  refine (dats m 0 c).arrAt_eq_of_covers 8 _ covers8 fun t hf y => ?_
  blk_simp
  rw [after0_8, out8_eq]
  exact (block8 m c t y).trans (congrArg (result8 m c) (place8 t y)).symm

/-- The column of the whole weight that column `n` of the third result is. -/
def col9 (n : Fin 768) : Fin 2592 := ⟨1824 + n.val, by omega⟩

/-- The staged columns are the argument's. -/
theorem weight6 (c : Dev nD) (k : Fin 1024) (n : Fin 768) :
    (V m c main_v5 : Vec Ideal S1024x768 .bf16) (ix2 k n) = (m ((c : Thread nD τ).loc main_arg4) : Vec Ideal S1024x2592 .f32) (ix2 k (col9 n)) := by
  unfold V col9
  after_reads_at

/-- The third result array. -/
def result9 (c : Dev nD) : Vec Ideal S2x4096x768 .f32 := fun y =>
  projected (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (col9 (y 2))

/-- The written blocks cover the third result array. -/
theorem covers9 : (cfg0.win 9).Covers := by decide +kernel

/-- Where an element of the third result's block lies in the array. -/
theorem place9 (t : Fin cfg0.N) (y : S1x512x768.Idx) :
    (((cfg0.win 9).blk t).view.emb y : S2x4096x768.Idx) = ix3 (sample t) (token t (y 1)) (y 2) := by
  blk_ext [sample, token, index9 t]

/-- A grid point's block is the projection at its sample and tokens. -/
theorem block9 (c : Dev nD) (t : Fin cfg0.N) (y : S1x512x768.Idx) :
    outBlock (iblk m c 0 t) (iblk m c 1 t) (iblk m c 2 t) (iblk m c 3 t) (iblk m c 6 t : Vec Ideal S1024x768 .bf16) (y 1) (y 2)
      = result9 m c (ix3 (sample t) (token t (y 1)) (y 2)) := by
  refine block_eq _ _ _ _ _ _ _ _ _ _ _ _ _ _ _ (fun l => ?_) (fun l => ?_) (fun l => ?_) (fun l => ?_) (fun k => ?_)
  · exact (read0 (V m c main_arg0) t (y 1) l).trans (congrFun (V_main_arg0 m c) _)
  · exact (read1 (V m c main_v6) t 0 l).trans (gain_apply m c l)
  · exact (read2 (V m c main_arg2) t l).trans (congrFun (V_main_arg2 m c) _)
  · exact (read3 (V m c main_arg3) t l).trans (congrFun (V_main_arg3 m c) _)
  · exact (read6 (V m c main_v5) t k (y 2)).trans (weight6 m c k (y 2))

/-- After the run the third result array is `result9`. -/
theorem final9 (c : Dev nD) : (dats m 0 c).arrAt 9 cfg0.N = result9 m c := by
  refine (dats m 0 c).arrAt_eq_of_covers 9 _ covers9 fun t hf y => ?_
  blk_simp
  rw [after0_9, out9_eq]
  exact (block9 m c t y).trans (congrArg (result9 m c) (place9 t y)).symm

end Cert.Proof.InProj

end
-- ==== Proof.InProjClaim.lean ====
/-
  The input projection's claims: the reference multiplies the modulated rows by the whole weight and cuts the product
  into its three column blocks; no input is excluded.
-/
module

public import proofs.«01_k».proof.Defs
public import proofs.«01_k».proof.Proof.InProj
public import proofs.«01_k».proof.Proof.Gen.InProj.Frame
public import proofs.«01_k».proof.Proof.Gen.InProjReferenceIdeal.Run
public import proofs.«01_k».proof.Proof.Gen.InProjReferenceIdeal.Read
public import Idealize.ShloMosaic.Lib.Quiescent

@[expose] public section

noncomputable section

namespace Cert.Proof.InProj

open Cert.InProjReferenceIdeal Cert.InProjReferenceIdeal.Read Idealize.ShloMosaic Idealize.ShloMosaic.TcCoe Idealize.SL.Sem
open scoped BigOperators

variable (x : Vec Ideal S2x4096x1024 .f32) (gain : Vec Ideal S1024 .f32) (scale shift : Vec Ideal S2x1x1024 .f32) (w : Vec Ideal S1024x2592 .f32)

/-- The reciprocal root of a token's mean square. -/
theorem factor_apply (b : Fin 2) (i : Fin 4096) (k : Fin 1024) :
    val_main_v8 (F := Ideal) x (ix3 b i k) = Norm.factor fun k => x (ix3 b i k) := by
  rw [val_main_v8_apply, val_main_v7_apply, val_main_v6_apply, val_main_v5_apply, val_main_v4_apply, val_main_v3_apply, val_main_v2_apply, val_main_v1_apply]
  unfold Norm.factor
  refine congrArg Ideal.rsqrt (congrArg₂ (· + ·) (congrArg₂ Ideal.div ?_ rfl) rfl)
  refine (congrArg (· + _) (Ideal.ofBits_zero_f32 : (val_main_cst (F := Ideal)) (Shape.Idx.first Gen.h_S_) = 0)).trans ((zero_add _).trans ?_)
  refine Finset.sum_congr rfl fun j _ => ?_
  have e : idx_main_v1 (idx_main_v2 (idx_main_v8 (ix3 b i k))) j = ix3 b i j :=
    funext fun a => match a with | ⟨0, _⟩ => rfl | ⟨1, _⟩ => rfl | ⟨2, _⟩ => rfl
  exact congrArg (fun p => x p * x p) e

/-- The modulated rows. -/
theorem modulated_apply (b : Fin 2) (i : Fin 4096) (k : Fin 1024) :
    val_main_v18 (F := Ideal) x gain scale shift (ix3 b i k)
      = Norm.modulated (fun k => x (ix3 b i k)) (fun k => gain (ix1 k)) (fun k => scale (ix3 b (0 : Fin 1) k)) (fun k => shift (ix3 b (0 : Fin 1) k)) k := by
  rw [val_main_v18_apply, val_main_v17_apply, val_main_v16_apply, val_main_v15_apply, val_main_v14_apply, val_main_v13_apply, val_main_v12_apply,
    val_main_v11_apply, val_main_v10_apply, val_main_v9_apply, factor_apply]
  unfold Norm.modulated
  refine congrArg₂ (· + ·) (congrArg₂ (· * ·) (congrArg₂ (· * ·) rfl ?_) (congrArg₂ (· + ·) rfl ?_)) ?_
  · exact congrArg gain (funext fun a => match a with | ⟨0, _⟩ => rfl)
  · exact congrArg scale (funext fun a => match a with | ⟨0, _⟩ => rfl | ⟨1, _⟩ => rfl | ⟨2, _⟩ => rfl)
  · exact congrArg shift (funext fun a => match a with | ⟨0, _⟩ => rfl | ⟨1, _⟩ => rfl | ⟨2, _⟩ => rfl)

/-- The whole product at an index. -/
theorem product_apply (b : Fin 2) (i : Fin 4096) (n : Fin 2592) :
    val_main_v19 (F := Ideal) x gain scale shift w (ix3 b i n) = projected x gain scale shift w b i n := by
  rw [val_main_v19_apply]
  unfold projected
  refine Finset.sum_congr rfl fun k _ => congrArg₂ (· * ·) ?_ ?_
  · refine Eq.trans (congrArg (val_main_v18 (F := Ideal) x gain scale shift) (?_ : _ = ix3 b i k)) (modulated_apply x gain scale shift b i k)
    exact funext fun a => match a with | ⟨0, _⟩ => rfl | ⟨1, _⟩ => rfl | ⟨2, _⟩ => rfl
  · exact congrArg w (funext fun a => match a with | ⟨0, _⟩ => rfl | ⟨1, _⟩ => rfl)

/-- The first results agree. -/
theorem results_eq7 (m : (ℓ : Loc Cert.InProjIdeal.nD Cert.InProjIdeal.τ Cert.InProjIdeal.sig) → Buf (Elt Ideal) ℓ) (c : Dev Cert.InProjIdeal.nD) :
    val_main_v20 (F := Ideal)
        (m ((c : Thread Cert.InProjIdeal.nD Cert.InProjIdeal.τ).loc Cert.InProjIdeal.main_arg0))
        (m ((c : Thread Cert.InProjIdeal.nD Cert.InProjIdeal.τ).loc Cert.InProjIdeal.main_arg1))
        (m ((c : Thread Cert.InProjIdeal.nD Cert.InProjIdeal.τ).loc Cert.InProjIdeal.main_arg2))
        (m ((c : Thread Cert.InProjIdeal.nD Cert.InProjIdeal.τ).loc Cert.InProjIdeal.main_arg3))
        (m ((c : Thread Cert.InProjIdeal.nD Cert.InProjIdeal.τ).loc Cert.InProjIdeal.main_arg4))
      = result7 m c := by
  funext y
  obtain ⟨b, i, n, rfl⟩ : ∃ (b : Fin 2) (i : Fin 4096) (n : Fin 1408), y = ix3 b i n := ⟨y 0, y 1, y 2, ValueIdx.eq_ix3 y⟩
  rw [val_main_v20_apply]
  refine Eq.trans (congrArg (val_main_v19 (F := Ideal) _ _ _ _ _) (?_ : _ = ix3 b i (col7 n))) (product_apply _ _ _ _ _ b i (col7 n))
  refine funext fun a => Fin.ext ?_
  match a with
  | ⟨0, _⟩ => rfl
  | ⟨1, _⟩ => rfl
  | ⟨2, _⟩ => show _ = 0 + n.val; show n.val = 0 + n.val; omega

/-- The second results agree. -/
theorem results_eq8 (m : (ℓ : Loc Cert.InProjIdeal.nD Cert.InProjIdeal.τ Cert.InProjIdeal.sig) → Buf (Elt Ideal) ℓ) (c : Dev Cert.InProjIdeal.nD) :
    val_main_v21 (F := Ideal)
        (m ((c : Thread Cert.InProjIdeal.nD Cert.InProjIdeal.τ).loc Cert.InProjIdeal.main_arg0))
        (m ((c : Thread Cert.InProjIdeal.nD Cert.InProjIdeal.τ).loc Cert.InProjIdeal.main_arg1))
        (m ((c : Thread Cert.InProjIdeal.nD Cert.InProjIdeal.τ).loc Cert.InProjIdeal.main_arg2))
        (m ((c : Thread Cert.InProjIdeal.nD Cert.InProjIdeal.τ).loc Cert.InProjIdeal.main_arg3))
        (m ((c : Thread Cert.InProjIdeal.nD Cert.InProjIdeal.τ).loc Cert.InProjIdeal.main_arg4))
      = result8 m c := by
  funext y
  obtain ⟨b, i, n, rfl⟩ : ∃ (b : Fin 2) (i : Fin 4096) (n : Fin 416), y = ix3 b i n := ⟨y 0, y 1, y 2, ValueIdx.eq_ix3 y⟩
  rw [val_main_v21_apply]
  refine Eq.trans (congrArg (val_main_v19 (F := Ideal) _ _ _ _ _) (?_ : _ = ix3 b i (col8 n))) (product_apply _ _ _ _ _ b i (col8 n))
  refine funext fun a => Fin.ext ?_
  match a with
  | ⟨0, _⟩ => rfl
  | ⟨1, _⟩ => rfl
  | ⟨2, _⟩ => show _ = 1408 + n.val; rfl

/-- The third results agree. -/
theorem results_eq9 (m : (ℓ : Loc Cert.InProjIdeal.nD Cert.InProjIdeal.τ Cert.InProjIdeal.sig) → Buf (Elt Ideal) ℓ) (c : Dev Cert.InProjIdeal.nD) :
    val_main_v22 (F := Ideal)
        (m ((c : Thread Cert.InProjIdeal.nD Cert.InProjIdeal.τ).loc Cert.InProjIdeal.main_arg0))
        (m ((c : Thread Cert.InProjIdeal.nD Cert.InProjIdeal.τ).loc Cert.InProjIdeal.main_arg1))
        (m ((c : Thread Cert.InProjIdeal.nD Cert.InProjIdeal.τ).loc Cert.InProjIdeal.main_arg2))
        (m ((c : Thread Cert.InProjIdeal.nD Cert.InProjIdeal.τ).loc Cert.InProjIdeal.main_arg3))
        (m ((c : Thread Cert.InProjIdeal.nD Cert.InProjIdeal.τ).loc Cert.InProjIdeal.main_arg4))
      = result9 m c := by
  funext y
  obtain ⟨b, i, n, rfl⟩ : ∃ (b : Fin 2) (i : Fin 4096) (n : Fin 768), y = ix3 b i n := ⟨y 0, y 1, y 2, ValueIdx.eq_ix3 y⟩
  rw [val_main_v22_apply]
  refine Eq.trans (congrArg (val_main_v19 (F := Ideal) _ _ _ _ _) (?_ : _ = ix3 b i (col9 n))) (product_apply _ _ _ _ _ b i (col9 n))
  refine funext fun a => Fin.ext ?_
  match a with
  | ⟨0, _⟩ => rfl
  | ⟨1, _⟩ => rfl
  | ⟨2, _⟩ => show _ = 1824 + n.val; rfl

/-- The value claim. -/
theorem algebraic : Cert.algebraic_InProjIdeal_InProjReferenceIdeal (hInProjIdeal := Cert.InProjIdeal.Gen.facts)
    (hInProjReferenceIdeal := Cert.InProjReferenceIdeal.Gen.facts) := by
  intro m g m' g' hpre hagree
  refine ⟨fun c => result7 m c, fun c => result8 m c, fun c => result9 m c, ?_, ?_⟩
  · exact (θ_run Cert.InProjIdeal.defs _ _).mono (fun _ h c => ⟨(h c).1.trans (final7 m c), (h c).2.1.trans (final8 m c), (h c).2.2.1.trans (final9 m c), (h c).2.2.2⟩)
      (Cert.InProjIdeal.Value.run_blocks m g)
  · refine (θ_run Cert.InProjReferenceIdeal.defs _ _).mono
      (fun _ h c => ⟨(h c).1.trans ?_, (h c).2.1.trans ?_, (h c).2.2.1.trans ?_, (h c).2.2.2⟩) (Cert.InProjReferenceIdeal.Value.run (F := Ideal) m' g')
    all_goals rw [(hagree c).1, (hagree c).2.1, (hagree c).2.2.1, (hagree c).2.2.2.1, (hagree c).2.2.2.2]
    · exact results_eq7 m c
    · exact results_eq8 m c
    · exact results_eq9 m c

/-- The reference's frame. -/
theorem reference_frame : Cert.quiescent_InProjReferenceIdeal (hInProjReferenceIdeal := Cert.InProjReferenceIdeal.Gen.facts) := fun m ρ _ =>
  (θ_run Cert.InProjReferenceIdeal.defs _ _).mono (fun r h => ⟨fun c => (h c).2.2.2, Idealize.ShloMosaic.sem_eq_zero_of_no_sems (by decide) r.2⟩)
    (Cert.InProjReferenceIdeal.Value.run (F := Ideal) m ρ)

end Cert.Proof.InProj

end
-- ==== Proof.OutProj.lean ====
/-
  The output projection: what the kernel's result array holds, index by index. A grid point takes 512 tokens of one
  sample, multiplies each of the three mixers' outputs by its own rows of the weight, adds the three products, scales
  by the gate and adds the residual.
-/
module

public import proofs.«01_k».proof.Proof.Gen.OutProjIdeal.Value
public import Idealize.ShloMosaic.Lib.MatmulPlain
public import Idealize.ShloMosaic.Lib.ValueLayout
public import Idealize.ShloMosaic.Lib.Pipeline.ValueKit
public import Idealize.ShloMosaic.Lib.StableHlo.ReadAt

@[expose] public section

noncomputable section

namespace Cert.Proof.OutProj

open Cert.OutProjIdeal Cert.OutProjIdeal.Gen Idealize.ShloMosaic Idealize.ShloMosaic.TcCoe Idealize.SL.Sem
open Idealize.ShloMosaic.Pipeline (Dat)
open scoped BigOperators

/-- Three rows, side by side, times one column of 1024 entries, as three products added. -/
def mixed (rw ml : Fin 384 → EReal) (hy : Fin 256 → EReal) (w : Fin 1024 → EReal) : EReal :=
  ((∑ k : Fin 384, rw k * w ⟨0 + k.val, by omega⟩) + ∑ k : Fin 384, ml k * w ⟨384 + k.val, by omega⟩)
    + ∑ k : Fin 256, hy k * w ⟨768 + k.val, by omega⟩

/-- The three rows side by side. -/
def joined (rw ml : Fin 384 → EReal) (hy : Fin 256 → EReal) (k : Fin 1024) : EReal :=
  if h : k.val < 384 then rw ⟨k.val, h⟩ else if h' : k.val - 384 < 384 then ml ⟨k.val - 384, h'⟩ else hy ⟨k.val - 384 - 384, by omega⟩

/-- The three products added are the product of the joined row. -/
theorem mixed_eq (rw ml : Fin 384 → EReal) (hy : Fin 256 → EReal) (w : Fin 1024 → EReal) :
    mixed rw ml hy w = ∑ k : Fin 1024, joined rw ml hy k * w k := by
  symm
  refine (Fin.sum_univ_add (a := 768) (b := 256) (fun k : Fin (768 + 256) => joined rw ml hy k * w k)).trans ?_
  refine (congrArg (· + _) (Fin.sum_univ_add (a := 384) (b := 384)
    (fun k : Fin (384 + 384) => joined rw ml hy (Fin.castAdd 256 k) * w (Fin.castAdd 256 k)))).trans ?_
  unfold mixed
  refine congrArg₂ (· + ·) (congrArg₂ (· + ·) ?_ ?_) ?_ <;>
    refine Finset.sum_congr rfl fun k _ => congrArg₂ (· * ·) ?_ (congrArg w (Fin.ext ?_))
  · exact dif_pos (show k.val < 384 from k.isLt)
  · show k.val = 0 + k.val; omega
  · have hk := k.isLt
    refine (dif_neg (show ¬ 384 + k.val < 384 by omega)).trans ((dif_pos (show 384 + k.val - 384 < 384 by omega)).trans (congrArg ml (Fin.ext ?_)))
    show 384 + k.val - 384 = k.val; omega
  · rfl
  · have hk := k.isLt
    refine (dif_neg (show ¬ 768 + k.val < 384 by omega)).trans ((dif_neg (show ¬ 768 + k.val - 384 < 384 by omega)).trans (congrArg hy (Fin.ext ?_)))
    show 768 + k.val - 384 - 384 = k.val; omega
  · rfl

/-- The word of zero in every entry of the accumulator. -/
theorem zero_apply (i : S512x1024.Idx) : (constant S512x1024 .f32 0x00000000#32 : FVec Ideal S512x1024 .f32) i = 0 :=
  Ideal.ofBits_zero_f32

/-- The rows of the weight from row `o` on, read at a row and a column. -/
theorem rows_apply {N : ℕ} (w : Vec Ideal S1024x1024 .bf16) (o : ℕ)
    (inb : ∀ a, (![o, 0] : Fin 2 → ℕ) a + (⟨2, ![N, 1024]⟩ : Shape).size a ≤ S1024x1024.size a)
    (h : (⟨2, ![N, 1024]⟩ : Shape).ShapeCasts ⟨2, ![N, 1024]⟩) (k : Fin N) (n : Fin 1024) (hk : o + k.val < 1024) :
    shapeCast ⟨2, ![N, 1024]⟩ (View.ld w (Rect.unit (s := S1024x1024) ![o, 0] (⟨2, ![N, 1024]⟩ : Shape).size inb)) h (ix2 k n)
      = w (ix2 ⟨o + k.val, hk⟩ n) := by
  refine (congrFun (shapeCast_self (View.ld w (Rect.unit (s := S1024x1024) ![o, 0] (⟨2, ![N, 1024]⟩ : Shape).size inb)) h) (ix2 k n)).trans ?_
  refine congrArg w (funext fun a => Fin.ext ?_)
  match a with
  | ⟨0, _⟩ => show o + 1 * k.val = o + k.val; omega
  | ⟨1, _⟩ => show 0 + 1 * n.val = n.val; omega

/-- The result block at a row and a lane. -/
def outBlock (x : Vec Ideal S1x512x1024 .f32) (g : Vec Ideal S1x1x1024 .f32) (rw ml : Vec Ideal S1x512x384 .f32) (hy : Vec Ideal S1x512x256 .f32)
    (w : Vec Ideal S1024x1024 .bf16) (r : Fin 512) (n : Fin 1024) : EReal :=
  x (ix3 (0 : Fin 1) r n) + g (ix3 (0 : Fin 1) (0 : Fin 1) n) * mixed (fun k => rw (ix3 (0 : Fin 1) r k)) (fun k => ml (ix3 (0 : Fin 1) r k))
    (fun k => hy (ix3 (0 : Fin 1) r k)) (fun k => w (ix2 k n))

/-- The stored value at a row and a lane. -/
theorem pay_apply (x : Vec Ideal S1x512x1024 .f32) (g : Vec Ideal S1x1x1024 .f32) (rw ml : Vec Ideal S1x512x384 .f32) (hy : Vec Ideal S1x512x256 .f32)
    (w : Vec Ideal S1024x1024 .bf16) (u : Fin 1) (r : Fin 512) (n : Fin 1024) :
    k0_pay1 rw (View.ld w r0_1) ml (View.ld w r0_2) hy (View.ld w r0_4) x g (ix3 u r n) = outBlock x g rw ml hy w r n := by
  unfold k0_pay1
  refine (ValueIdx.shapeCast_ab_1ab_apply _ shapeCasts_S512x1024_S1x512x1024 u r n).trans ?_
  unfold outBlock mixed
  refine congrArg₂ (· + ·) (ValueIdx.shapeCast_1ab_ab_apply _ shapeCasts_S1x512x1024_S512x1024 r n) (congrArg₂ (· * ·) ?_ (congrArg₂ (· + ·) (congrArg₂ (· + ·) ?_ ?_) ?_))
  · exact (ValueIdx.broadcastTo_1b_ab_apply _ broadcasts_S1x1024_S512x1024 r n).trans (ValueIdx.shapeCast_1ab_ab_apply _ shapeCasts_S1x1x1024_S1x1024 0 n)
  · refine (Ideal.matmul_plain_apply (M := 512) (K := 384) (N := 1024) none _ _ _ r n).trans ?_
    rw [zero_apply, zero_add]
    exact Finset.sum_congr rfl fun k _ => congrArg₂ (· * ·) (ValueIdx.shapeCast_1ab_ab_apply _ shapeCasts_S1x512x384_S512x384 r k)
      (rows_apply w 0 inb_S1024x1024_S384x1024_0_0 shapeCasts_S384x1024_S384x1024 k n _)
  · refine (Ideal.matmul_plain_apply (M := 512) (K := 384) (N := 1024) none _ _ _ r n).trans ?_
    rw [zero_apply, zero_add]
    exact Finset.sum_congr rfl fun k _ => congrArg₂ (· * ·) (ValueIdx.shapeCast_1ab_ab_apply _ shapeCasts_S1x512x384_S512x384 r k)
      (rows_apply w 384 inb_S1024x1024_S384x1024_384_0 shapeCasts_S384x1024_S384x1024 k n _)
  · refine (Ideal.matmul_plain_apply (M := 512) (K := 256) (N := 1024) none _ _ _ r n).trans ?_
    rw [zero_apply, zero_add]
    exact Finset.sum_congr rfl fun k _ => congrArg₂ (· * ·) (ValueIdx.shapeCast_1ab_ab_apply _ shapeCasts_S1x512x256_S512x256 r k)
      (rows_apply w 768 inb_S1024x1024_S256x1024_768_0 shapeCasts_S256x1024_S256x1024 k n _)

/-- What the body leaves in the result block. -/
theorem out_eq (x : Vec Ideal S1x512x1024 .f32) (g : Vec Ideal S1x1x1024 .f32) (rw ml : Vec Ideal S1x512x384 .f32) (hy : Vec Ideal S1x512x256 .f32)
    (w : Vec Ideal S1024x1024 .bf16) : out0_6 x g rw ml hy w = fun y => outBlock x g rw ml hy w (y 1) (y 2) := by
  have hz : (![0, 0, 0] : Fin 3 → ℕ) = fun _ => 0 := by decide
  unfold out0_6
  rw [View.ld_unit_zero hz, View.ld_unit_zero hz, View.ld_unit_zero hz, View.ld_unit_zero hz, View.ld_unit_zero hz, View.canon_unit_zero hz]
  funext y
  exact (congrArg _ (ValueIdx.eq_ix3 y)).trans (pay_apply x g rw ml hy w (y 0) (y 1) (y 2))

variable (m : (ℓ : Loc nD τ sig) → Buf (Elt Ideal) ℓ)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, 0, 0] :=
  (by decide +kernel : ∀ t : Fin grid0.N, win0_1.index t = ![(grid0.coords t 0).val, 0, 0])
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem index4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem index5 : ∀ t : Fin cfg0.N, win0_5.index t = ![0, 0] :=
  (by decide +kernel : ∀ t : Fin grid0.N, win0_5.index t = ![0, 0])
theorem index6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])

/-- The written blocks cover the result array. -/
theorem covers : (cfg0.win 6).Covers := by decide +kernel

/-- The sample a grid point works on. -/
def sample (t : Fin cfg0.N) : Fin 2 := ⟨(grid0.coords t 0).val, (grid0.coords t 0).isLt⟩
/-- The token a grid point's block has at row `r`. -/
def token (t : Fin cfg0.N) (r : Fin 512) : Fin 4096 :=
  ⟨(grid0.coords t 1).val * 512 + r.val, by have : (grid0.coords t 1).val < 8 := (grid0.coords t 1).isLt; omega⟩

/-- The residual's block of a grid point, of any array. -/
theorem read0 (X : Vec Ideal S2x4096x1024 .f32) (t : Fin cfg0.N) (r : Fin 512) (l : Fin 1024) :
    ((win0_0.blk t).view.read (Elt Ideal) X : Vec Ideal S1x512x1024 .f32) (ix3 (0 : Fin 1) r l) = X (ix3 (sample t) (token t r) l) := by
  refine congrArg X (funext fun a => Fin.ext ?_)
  refine (Pipeline.Window.rect_emb_val win0_0 t _ a).trans ?_
  match a with
  | ⟨0, _⟩ => show win0_0.index t 0 * 1 + 0 = (grid0.coords t 0).val; rw [index0]; show (grid0.coords t 0).val * 1 + 0 = _; omega
  | ⟨1, _⟩ => show win0_0.index t 1 * 512 + r.val = (grid0.coords t 1).val * 512 + r.val; rw [index0]; rfl
  | ⟨2, _⟩ => show win0_0.index t 2 * 1024 + l.val = l.val; rw [index0]; show 0 * 1024 + l.val = l.val; omega

/-- The gate's block of a grid point, of any array. -/
theorem read1 (X : Vec Ideal S2x1x1024 .f32) (t : Fin cfg0.N) (l : Fin 1024) :
    ((win0_1.blk t).view.read (Elt Ideal) X : Vec Ideal S1x1x1024 .f32) (ix3 (0 : Fin 1) (0 : Fin 1) l) = X (ix3 (sample t) (0 : Fin 1) l) := by
  refine congrArg X (funext fun a => Fin.ext ?_)
  refine (Pipeline.Window.rect_emb_val win0_1 t _ a).trans ?_
  match a with
  | ⟨0, _⟩ => show win0_1.index t 0 * 1 + 0 = (grid0.coords t 0).val; rw [index1]; show (grid0.coords t 0).val * 1 + 0 = _; omega
  | ⟨1, _⟩ => show win0_1.index t 1 * 1 + 0 = 0; rw [index1]; rfl
  | ⟨2, _⟩ => show win0_1.index t 2 * 1024 + l.val = l.val; rw [index1]; show 0 * 1024 + l.val = l.val; omega

/-- The first mixer's block of a grid point, of any array. -/
theorem read2 (X : Vec Ideal S2x4096x384 .f32) (t : Fin cfg0.N) (r : Fin 512) (l : Fin 384) :
    ((win0_2.blk t).view.read (Elt Ideal) X : Vec Ideal S1x512x384 .f32) (ix3 (0 : Fin 1) r l) = X (ix3 (sample t) (token t r) l) := by
  refine congrArg X (funext fun a => Fin.ext ?_)
  refine (Pipeline.Window.rect_emb_val win0_2 t _ a).trans ?_
  match a with
  | ⟨0, _⟩ => show win0_2.index t 0 * 1 + 0 = (grid0.coords t 0).val; rw [index2]; show (grid0.coords t 0).val * 1 + 0 = _; omega
  | ⟨1, _⟩ => show win0_2.index t 1 * 512 + r.val = (grid0.coords t 1).val * 512 + r.val; rw [index2]; rfl
  | ⟨2, _⟩ => show win0_2.index t 2 * 384 + l.val = l.val; rw [index2]; show 0 * 384 + l.val = l.val; omega

/-- The second mixer's block of a grid point, of any array. -/
theorem read3 (X : Vec Ideal S2x4096x384 .f32) (t : Fin cfg0.N) (r : Fin 512) (l : Fin 384) :
    ((win0_3.blk t).view.read (Elt Ideal) X : Vec Ideal S1x512x384 .f32) (ix3 (0 : Fin 1) r l) = X (ix3 (sample t) (token t r) l) := by
  refine congrArg X (funext fun a => Fin.ext ?_)
  refine (Pipeline.Window.rect_emb_val win0_3 t _ a).trans ?_
  match a with
  | ⟨0, _⟩ => show win0_3.index t 0 * 1 + 0 = (grid0.coords t 0).val; rw [index3]; show (grid0.coords t 0).val * 1 + 0 = _; omega
  | ⟨1, _⟩ => show win0_3.index t 1 * 512 + r.val = (grid0.coords t 1).val * 512 + r.val; rw [index3]; rfl
  | ⟨2, _⟩ => show win0_3.index t 2 * 384 + l.val = l.val; rw [index3]; show 0 * 384 + l.val = l.val; omega

/-- The third mixer's block of a grid point, of any array. -/
theorem read4 (X : Vec Ideal S2x4096x256 .f32) (t : Fin cfg0.N) (r : Fin 512) (l : Fin 256) :
    ((win0_4.blk t).view.read (Elt Ideal) X : Vec Ideal S1x512x256 .f32) (ix3 (0 : Fin 1) r l) = X (ix3 (sample t) (token t r) l) := by
  refine congrArg X (funext fun a => Fin.ext ?_)
  refine (Pipeline.Window.rect_emb_val win0_4 t _ a).trans ?_
  match a with
  | ⟨0, _⟩ => show win0_4.index t 0 * 1 + 0 = (grid0.coords t 0).val; rw [index4]; show (grid0.coords t 0).val * 1 + 0 = _; omega
  | ⟨1, _⟩ => show win0_4.index t 1 * 512 + r.val = (grid0.coords t 1).val * 512 + r.val; rw [index4]; rfl
  | ⟨2, _⟩ => show win0_4.index t 2 * 256 + l.val = l.val; rw [index4]; show 0 * 256 + l.val = l.val; omega

/-- The weight's block of a grid point, of any array: the whole weight. -/
theorem read5 (X : Vec Ideal S1024x1024 .bf16) (t : Fin cfg0.N) (k l : Fin 1024) :
    ((win0_5.blk t).view.read (Elt Ideal) X : Vec Ideal S1024x1024 .bf16) (ix2 k l) = X (ix2 k l) := by
  refine congrArg X (funext fun a => Fin.ext ?_)
  refine (Pipeline.Window.rect_emb_val win0_5 t _ a).trans ?_
  match a with
  | ⟨0, _⟩ => show win0_5.index t 0 * 1024 + k.val = k.val; rw [index5]; show 0 * 1024 + k.val = _; omega
  | ⟨1, _⟩ => show win0_5.index t 1 * 1024 + l.val = l.val; rw [index5]; show 0 * 1024 + l.val = l.val; omega

/-- Where a result block's element lies in the array. -/
theorem place (t : Fin cfg0.N) (y : S1x512x1024.Idx) :
    (((cfg0.win 6).blk t).view.emb y : S2x4096x1024.Idx) = ix3 (sample t) (token t (y 1)) (y 2) := by
  blk_ext [sample, token, index6 t]

/-- The projection over whole arrays at sample `b`, token `i`, lane `n`. -/
def projected (x : Vec Ideal S2x4096x1024 .f32) (g : Vec Ideal S2x1x1024 .f32) (rw ml : Vec Ideal S2x4096x384 .f32) (hy : Vec Ideal S2x4096x256 .f32)
    (w : Vec Ideal S1024x1024 .f32) (b : Fin 2) (i : Fin 4096) (n : Fin 1024) : EReal :=
  x (ix3 b i n) + g (ix3 b (0 : Fin 1) n) * mixed (fun k => rw (ix3 b i k)) (fun k => ml (ix3 b i k)) (fun k => hy (ix3 b i k)) (fun k => w (ix2 k n))

/-- The result array. -/
def result (c : Dev nD) : Vec Ideal S2x4096x1024 .f32 := fun y =>
  projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1) (y 2)

/-- The staged weight is the argument. -/
theorem weight (c : Dev nD) (k n : Fin 1024) :
    (V m c main_v0 : Vec Ideal S1024x1024 .bf16) (ix2 k n) = (m ((c : Thread nD τ).loc main_arg5) : Vec Ideal S1024x1024 .f32) (ix2 k n) := by
  unfold V
  after_reads_at

/-- A block computed from blocks that read whole arrays is the projection of those arrays. -/
theorem block_eq (x : Vec Ideal S2x4096x1024 .f32) (g : Vec Ideal S2x1x1024 .f32) (rw ml : Vec Ideal S2x4096x384 .f32) (hy : Vec Ideal S2x4096x256 .f32)
    (w : Vec Ideal S1024x1024 .f32) (b : Fin 2) (i : Fin 4096) (r : Fin 512) (n : Fin 1024)
    (x' : Vec Ideal S1x512x1024 .f32) (g' : Vec Ideal S1x1x1024 .f32) (rw' ml' : Vec Ideal S1x512x384 .f32) (hy' : Vec Ideal S1x512x256 .f32)
    (w' : Vec Ideal S1024x1024 .bf16)
    (hx : ∀ l, x' (ix3 (0 : Fin 1) r l) = x (ix3 b i l)) (hg : ∀ l, g' (ix3 (0 : Fin 1) (0 : Fin 1) l) = g (ix3 b (0 : Fin 1) l))
    (hrw : ∀ l, rw' (ix3 (0 : Fin 1) r l) = rw (ix3 b i l)) (hml : ∀ l, ml' (ix3 (0 : Fin 1) r l) = ml (ix3 b i l))
    (hhy : ∀ l, hy' (ix3 (0 : Fin 1) r l) = hy (ix3 b i l)) (hw : ∀ k l, w' (ix2 k l) = w (ix2 k l)) :
    outBlock x' g' rw' ml' hy' w' r n = projected x g rw ml hy w b i n := by
  unfold outBlock projected
  rw [hx, hg, funext hrw, funext hml, funext hhy, funext fun k => hw k n]

/-- A grid point's block is the projection at its sample and tokens. -/
theorem block_projected (c : Dev nD) (t : Fin cfg0.N) (y : S1x512x1024.Idx) :
    outBlock (iblk m c 0 t) (iblk m c 1 t) (iblk m c 2 t) (iblk m c 3 t) (iblk m c 4 t) (iblk m c 5 t) (y 1) (y 2)
      = result m c (ix3 (sample t) (token t (y 1)) (y 2)) := by
  refine block_eq _ _ _ _ _ _ _ _ _ _ _ _ _ _ _ _ (fun l => ?_) (fun l => ?_) (fun l => ?_) (fun l => ?_) (fun l => ?_) (fun k l => ?_)
  · exact (read0 (V m c main_arg0) t (y 1) l).trans (congrFun (V_main_arg0 m c) _)
  · exact (read1 (V m c main_arg1) t l).trans (congrFun (V_main_arg1 m c) _)
  · exact (read2 (V m c main_arg2) t (y 1) l).trans (congrFun (V_main_arg2 m c) _)
  · exact (read3 (V m c main_arg3) t (y 1) l).trans (congrFun (V_main_arg3 m c) _)
  · exact (read4 (V m c main_arg4) t (y 1) l).trans (congrFun (V_main_arg4 m c) _)
  · exact (read5 (V m c main_v0) t k l).trans (weight m c k l)

/-- After the run the result array is `result`. -/
theorem final (c : Dev nD) : (dats m 0 c).arrAt 6 cfg0.N = result m c := by
  refine (dats m 0 c).arrAt_eq_of_covers 6 _ covers fun t hf y => ?_
  blk_simp
  rw [after0_6, out_eq]
  exact (block_projected m c t y).trans (congrArg (result m c) (place t y)).symm

end Cert.Proof.OutProj

end
-- ==== Proof.OutProjClaim.lean ====
/-
  The output projection's claims: the reference multiplies the mixers' outputs side by side by the whole weight, which
  is the kernel's three products added; no input is excluded.
-/
module

public import proofs.«01_k».proof.Defs
public import proofs.«01_k».proof.Proof.OutProj
public import proofs.«01_k».proof.Proof.Gen.OutProj.Frame
public import proofs.«01_k».proof.Proof.Gen.OutProjReferenceIdeal.Run
public import proofs.«01_k».proof.Proof.Gen.OutProjReferenceIdeal.Read
public import Idealize.ShloMosaic.Lib.Quiescent

@[expose] public section

noncomputable section

namespace Cert.Proof.OutProj

open Cert.OutProjReferenceIdeal Cert.OutProjReferenceIdeal.Read Idealize.ShloMosaic Idealize.ShloMosaic.TcCoe Idealize.SL.Sem
open scoped BigOperators

/-- The mixers' outputs side by side, at an index. -/
theorem joined_apply (rw ml : Vec Ideal S2x4096x384 .f32) (hy : Vec Ideal S2x4096x256 .f32) (b : Fin 2) (i : Fin 4096) (k : Fin 1024) :
    val_main_v0 (F := Ideal) rw ml hy (ix3 b i k)
      = joined (fun k => rw (ix3 b i k)) (fun k => ml (ix3 b i k)) (fun k => hy (ix3 b i k)) k := by
  unfold val_main_v0
  pointwise
  unfold joined
  rfl

/-- The reference's result at an index. -/
theorem reference_apply (x : Vec Ideal S2x4096x1024 .f32) (g : Vec Ideal S2x1x1024 .f32) (rw ml : Vec Ideal S2x4096x384 .f32)
    (hy : Vec Ideal S2x4096x256 .f32) (w : Vec Ideal S1024x1024 .f32) (b : Fin 2) (i : Fin 4096) (n : Fin 1024) :
    val_main_v4 (F := Ideal) x g rw ml hy w (ix3 b i n) = projected x g rw ml hy w b i n := by
  rw [val_main_v4_apply, val_main_v3_apply, val_main_v2_apply, val_main_v1_apply]
  unfold projected
  rw [mixed_eq]
  refine congrArg₂ (· + ·) rfl (congrArg₂ (· * ·) ?_ (Finset.sum_congr rfl fun k _ => congrArg₂ (· * ·) ?_ ?_))
  · exact congrArg g (funext fun a => match a with | ⟨0, _⟩ => rfl | ⟨1, _⟩ => rfl | ⟨2, _⟩ => rfl)
  · refine Eq.trans (congrArg (val_main_v0 (F := Ideal) rw ml hy) (?_ : _ = ix3 b i k)) (joined_apply rw ml hy b i k)
    exact funext fun a => match a with | ⟨0, _⟩ => rfl | ⟨1, _⟩ => rfl | ⟨2, _⟩ => rfl
  · exact congrArg w (funext fun a => match a with | ⟨0, _⟩ => rfl | ⟨1, _⟩ => rfl)

/-- The two results agree. -/
theorem results_eq (m : (ℓ : Loc Cert.OutProjIdeal.nD Cert.OutProjIdeal.τ Cert.OutProjIdeal.sig) → Buf (Elt Ideal) ℓ) (c : Dev Cert.OutProjIdeal.nD) :
    val_main_v4 (F := Ideal)
        (m ((c : Thread Cert.OutProjIdeal.nD Cert.OutProjIdeal.τ).loc Cert.OutProjIdeal.main_arg0))
        (m ((c : Thread Cert.OutProjIdeal.nD Cert.OutProjIdeal.τ).loc Cert.OutProjIdeal.main_arg1))
        (m ((c : Thread Cert.OutProjIdeal.nD Cert.OutProjIdeal.τ).loc Cert.OutProjIdeal.main_arg2))
        (m ((c : Thread Cert.OutProjIdeal.nD Cert.OutProjIdeal.τ).loc Cert.OutProjIdeal.main_arg3))
        (m ((c : Thread Cert.OutProjIdeal.nD Cert.OutProjIdeal.τ).loc Cert.OutProjIdeal.main_arg4))
        (m ((c : Thread Cert.OutProjIdeal.nD Cert.OutProjIdeal.τ).loc Cert.OutProjIdeal.main_arg5))
      = result m c := by
  funext y
  obtain ⟨b, i, n, rfl⟩ : ∃ (b : Fin 2) (i : Fin 4096) (n : Fin 1024), y = ix3 b i n := ⟨y 0, y 1, y 2, ValueIdx.eq_ix3 y⟩
  exact reference_apply _ _ _ _ _ _ b i n

/-- The value claim. -/
theorem algebraic : Cert.algebraic_OutProjIdeal_OutProjReferenceIdeal (hOutProjIdeal := Cert.OutProjIdeal.Gen.facts)
    (hOutProjReferenceIdeal := Cert.OutProjReferenceIdeal.Gen.facts) := by
  intro m g m' g' hpre hagree
  refine ⟨fun c => result m c, ?_, ?_⟩
  · exact (θ_run Cert.OutProjIdeal.defs _ _).mono (fun _ h c => ⟨(h c).1.trans (final m c), (h c).2⟩) (Cert.OutProjIdeal.Value.run_blocks m g)
  · refine (θ_run Cert.OutProjReferenceIdeal.defs _ _).mono (fun _ h c => ⟨(h c).1.trans ?_, (h c).2⟩) (Cert.OutProjReferenceIdeal.Value.run (F := Ideal) m' g')
    rw [(hagree c).1, (hagree c).2.1, (hagree c).2.2.1, (hagree c).2.2.2.1, (hagree c).2.2.2.2.1, (hagree c).2.2.2.2.2]
    exact results_eq m c

/-- The reference's frame. -/
theorem reference_frame : Cert.quiescent_OutProjReferenceIdeal (hOutProjReferenceIdeal := Cert.OutProjReferenceIdeal.Gen.facts) := fun m ρ _ =>
  (θ_run Cert.OutProjReferenceIdeal.defs _ _).mono (fun r h => ⟨fun c => (h c).2, Idealize.ShloMosaic.sem_eq_zero_of_no_sems (by decide) r.2⟩)
    (Cert.OutProjReferenceIdeal.Value.run (F := Ideal) m ρ)

end Cert.Proof.OutProj

end
-- ==== Proof.LatentMath.lean ====
/-
  The latent up-projection's mathematics on extended reals: a head's 96 entries, normed by their root mean square and
  turned by the two axes' angles, and the same computed on the 768 lanes in which six heads of 128 lanes lie side by
  side, 32 lanes of each head holding zeros.
-/
module

public import proofs.«01_k».proof.Proof.Softmax

@[expose] public section

noncomputable section

namespace Cert.Proof.LatentMath

open Idealize.ShloMosaic
open scoped BigOperators

/-- The small constant under the root. -/
def eps : EReal := Ideal.ofBits FTy.f32 0x358637BD#32

/-- It is a positive real. -/
theorem eps_real : ∃ r : ℝ, 0 < r ∧ eps = (r : EReal) := by
  refine ⟨(8796093 / 8796093022208 : ℝ), by norm_num, ?_⟩
  unfold eps
  simp [Ideal.ofBits, Ideal.ieee]
  rw [← EReal.coe_mul]
  norm_num

/-- The reciprocal root of a row's mean square, the mean taken by dividing by the number a word names. -/
def factor {n : ℕ} (w : BitVec 32) (x : Fin n → EReal) : EReal :=
  Ideal.rsqrt (Ideal.div (∑ k : Fin n, x k * x k) (Ideal.ofBits FTy.f32 w) + eps)

/-- A row normed by its root mean square, times a gain. -/
def normed {n : ℕ} (w : BitVec 32) (x gain : Fin n → EReal) (k : Fin n) : EReal := x k * factor w x * gain k

/-- A row of reals has a real factor. -/
theorem factor_real {n : ℕ} (w : BitVec 32) (d : ℝ) (hd : 0 < d) (hw : Ideal.ofBits FTy.f32 w = (d : EReal)) (x : Fin n → EReal)
    (hx : ∀ k, ∃ r : ℝ, x k = (r : EReal)) : ∃ r : ℝ, factor w x = (r : EReal) := by
  choose r hr using hx
  obtain ⟨e, he, hE⟩ := eps_real
  have hs : (∑ k : Fin n, x k * x k) = ((∑ k : Fin n, r k * r k : ℝ) : EReal) := by
    rw [Softmax.coe_sum]
    exact Finset.sum_congr rfl fun k _ => by rw [hr k]; exact (EReal.coe_mul _ _).symm
  have h0 : 0 ≤ ∑ k : Fin n, r k * r k := Finset.sum_nonneg fun k _ => mul_self_nonneg _
  have hp : 0 < (∑ k : Fin n, r k * r k) * (1 / d) + e := by positivity
  unfold factor
  rw [hs, hw, hE, Ideal.div_coe hd.ne', ← EReal.coe_mul, ← EReal.coe_add, Ideal.rsqrt_coe, if_neg (not_lt.mpr hp.le), if_neg hp.ne']
  exact ⟨_, rfl⟩

/-- A row of reals times a gain of reals is normed to reals. -/
theorem normed_real {n : ℕ} (w : BitVec 32) (d : ℝ) (hd : 0 < d) (hw : Ideal.ofBits FTy.f32 w = (d : EReal)) (x gain : Fin n → EReal)
    (hx : ∀ k, ∃ r : ℝ, x k = (r : EReal)) (hg : ∀ k, ∃ r : ℝ, gain k = (r : EReal)) (k : Fin n) :
    ∃ r : ℝ, normed w x gain k = (r : EReal) := by
  obtain ⟨a, ha⟩ := hx k
  obtain ⟨f, hf⟩ := factor_real w d hd hw x hx
  obtain ⟨g, hg⟩ := hg k
  refine ⟨a * f * g, ?_⟩
  unfold normed
  rw [ha, hf, hg]
  norm_cast

/-- The entry of a row of 96 at a number below 96. -/
def ent (n : ℕ) : Fin 96 := ⟨n % 96, Nat.mod_lt _ (by decide)⟩

/-- The last 32 of a head's 96 entries turned: two axes of 16 entries each, of which entry `f` and entry `8 + f` turn
    together by the angle whose cosine and sine are given. -/
def turned (cs sn : Fin 2 → Fin 8 → EReal) (x : Fin 96 → EReal) (d : ℕ) : EReal :=
  let a : Fin 2 := ⟨(d - 64) / 16 % 2, Nat.mod_lt _ (by decide)⟩
  let f : Fin 8 := ⟨(d - 64) % 8, Nat.mod_lt _ (by decide)⟩
  if d < 64 then x (ent d)
  else if (d - 64) % 16 < 8 then x (ent d) * cs a f - x (ent (d + 8)) * sn a f
  else x (ent d) * cs a f + x (ent (d - 8)) * sn a f

/-- Six heads of 96 entries on 768 lanes. -/
def padded (x : Fin 6 → Fin 96 → EReal) (c : Fin 768) : EReal :=
  if c.val % 128 < 96 then x ⟨c.val / 128, by omega⟩ (ent (c.val % 128)) else 0

/-- The lane of a head's entry. -/
def laneOf (h : Fin 6) (l : Fin 128) : Fin 768 := ⟨l.val + 128 * h.val, by omega⟩

/-- A sum over the lanes of one head. -/
theorem sum_head (g : Fin 768 → EReal) (h : Fin 6) :
    (∑ c : Fin 768, g c * (if c.val / 128 = h.val then (1 : EReal) else 0)) = ∑ l : Fin 128, g (laneOf h l) := by
  refine ((Equiv.sum_comp (finProdFinEquiv (m := 6) (n := 128)) (fun c : Fin 768 => g c * (if c.val / 128 = h.val then (1 : EReal) else 0))).symm).trans ?_
  rw [Fintype.sum_prod_type, Finset.sum_eq_single h]
  · refine Finset.sum_congr rfl fun l _ => ?_
    have e : (finProdFinEquiv (h, l) : Fin (6 * 128)) = laneOf h l := Fin.ext rfl
    have e' : (laneOf h l).val / 128 = h.val := by show (l.val + 128 * h.val) / 128 = h.val; omega
    show g (finProdFinEquiv (h, l)) * (if (finProdFinEquiv (h, l) : Fin (6 * 128)).val / 128 = h.val then (1 : EReal) else 0) = _
    rw [e, if_pos e', mul_one]
  · intro h' _ hne
    refine Finset.sum_eq_zero fun l _ => ?_
    have : ¬ ((l.val + 128 * h'.val) / 128 = h.val) := fun e => hne (Fin.ext (by omega))
    show g _ * (if (l.val + 128 * h'.val) / 128 = h.val then (1 : EReal) else 0) = 0
    rw [if_neg this, mul_zero]
  · intro hn
    exact absurd (Finset.mem_univ h) hn

/-- The squares of a head's lanes add to the squares of its entries. -/
theorem sum_squares (x : Fin 6 → Fin 96 → EReal) (h : Fin 6) :
    (∑ l : Fin 128, padded x (laneOf h l) * padded x (laneOf h l)) = ∑ d : Fin 96, x h d * x h d := by
  have key : ∀ l : Fin 128, padded x (laneOf h l) = if l.val < 96 then x h (ent l.val) else 0 := fun l => by
    unfold padded
    have h1 : (laneOf h l).val % 128 = l.val := by show (l.val + 128 * h.val) % 128 = l.val; omega
    have h2 : (⟨(laneOf h l).val / 128, by omega⟩ : Fin 6) = h := Fin.ext (by show (l.val + 128 * h.val) / 128 = h.val; omega)
    rw [h2, h1]
  rw [Finset.sum_congr rfl fun l _ => by rw [key l]]
  refine (Fin.sum_univ_add (a := 96) (b := 32) (fun l : Fin 128 => (if l.val < 96 then x h (ent l.val) else 0) * (if l.val < 96 then x h (ent l.val) else 0))).trans ?_
  rw [Finset.sum_eq_zero (s := (Finset.univ : Finset (Fin 32))) (fun l _ => by
    show (if 96 + l.val < 96 then x h (ent (96 + l.val)) else 0) * _ = 0
    rw [if_neg (by omega), zero_mul]), add_zero]
  refine Finset.sum_congr rfl fun d _ => ?_
  show (if d.val < 96 then x h (ent d.val) else 0) * (if d.val < 96 then x h (ent d.val) else 0) = _
  have : ent d.val = d := Fin.ext (Nat.mod_eq_of_lt d.isLt)
  rw [if_pos d.isLt, this]

/-- What the lanes' computation does to a row: the mean square from the lanes that a table marks, in a main and a
    remaining part, the gain, and the turning by a cosine and a sine per lane with the lane eight away. -/
def laneNormed (H : Fin 768 → Fin 768 → EReal) (inv : EReal) (X G : Fin 768 → EReal) (c : Fin 768) : EReal :=
  X c * Ideal.rsqrt (((∑ k, X k * X k * H k c) + ∑ k, (X k * X k - X k * X k) * H k c) * inv + eps) * G c

/-- The turning on lanes. -/
def laneTurned (C S Y : Fin 768 → EReal) (c : Fin 768) : EReal :=
  Y c * C c + (if (c.val + 1728) % 16 < 8 then Y ⟨(c.val + 8) % 768, Nat.mod_lt _ (by decide)⟩ else Y ⟨(c.val + 760) % 768, Nat.mod_lt _ (by decide)⟩) * S c

/-- The number 96. -/
theorem word96 : Ideal.ofBits FTy.f32 0x42C00000#32 = ((96 : ℝ) : EReal) := by
  simp [Ideal.ofBits, Ideal.ieee]
  rw [← EReal.coe_mul]
  norm_num

/-- On real rows, the lanes' norm is the heads' norm. -/
theorem laneNormed_eq (H : Fin 768 → Fin 768 → EReal) (x : Fin 6 → Fin 96 → EReal) (g : Fin 96 → EReal) (G : Fin 768 → EReal)
    (hx : ∀ h d, ∃ r : ℝ, x h d = (r : EReal))
    (hH : ∀ k c : Fin 768, H k c = if k.val / 128 = c.val / 128 then 1 else 0)
    (hG : ∀ c : Fin 768, G c = if c.val % 128 < 96 then g (ent (c.val % 128)) else 0) (c : Fin 768) :
    laneNormed H ((1 / 96 : ℝ) : EReal) (padded x) G c = padded (fun h => normed 0x42C00000#32 (x h) g) c := by
  have hp : ∀ k, ∃ r : ℝ, padded x k = (r : EReal) := fun k => by
    unfold padded
    split
    · exact hx _ _
    · exact ⟨0, rfl⟩
  have hz : (∑ k, (padded x k * padded x k - padded x k * padded x k) * H k c) = 0 := Finset.sum_eq_zero fun k _ => by
    obtain ⟨r, hr⟩ := hp k
    rw [hr, ← EReal.coe_mul, ← EReal.coe_sub, sub_self, EReal.coe_zero, zero_mul]
  have hs : (∑ k, padded x k * padded x k * H k c)
      = ∑ d : Fin 96, x ⟨c.val / 128, by omega⟩ d * x ⟨c.val / 128, by omega⟩ d := by
    refine (Finset.sum_congr rfl fun k _ => by rw [hH]).trans ((sum_head (fun k => padded x k * padded x k) ⟨c.val / 128, by omega⟩).trans ?_)
    exact sum_squares x _
  unfold laneNormed
  rw [hz, hs, hG, add_zero]
  unfold padded
  by_cases hc : c.val % 128 < 96
  · rw [if_pos hc, if_pos hc, if_pos hc]
    unfold normed factor
    beta_reduce
    rw [word96, Ideal.div_coe (by norm_num : (96 : ℝ) ≠ 0)]
  · rw [if_neg hc, if_neg hc, if_neg hc, mul_zero]

/-- The lanes' turning is the heads' turning. -/
theorem laneTurned_eq (cs sn : Fin 2 → Fin 8 → EReal) (C S : Fin 768 → EReal) (y : Fin 6 → Fin 96 → EReal)
    (hC : ∀ c : Fin 768, C c = if 64 ≤ c.val % 128 ∧ c.val % 128 < 96
      then cs ⟨(c.val % 128 - 64) / 16 % 2, Nat.mod_lt _ (by decide)⟩ ⟨(c.val % 128 - 64) % 8, Nat.mod_lt _ (by decide)⟩ else 1)
    (hS : ∀ c : Fin 768, S c = if 64 ≤ c.val % 128 ∧ c.val % 128 < 96
      then sn ⟨(c.val % 128 - 64) / 16 % 2, Nat.mod_lt _ (by decide)⟩ ⟨(c.val % 128 - 64) % 8, Nat.mod_lt _ (by decide)⟩
        * (if (c.val % 128 - 64) % 16 < 8 then -1 else 1) else 0) (c : Fin 768) :
    laneTurned C S (padded y) c = if c.val % 128 < 96 then turned cs sn (y ⟨c.val / 128, by omega⟩) (c.val % 128) else 0 := by
  unfold laneTurned
  by_cases h96 : c.val % 128 < 96
  · have hc : padded y c = y ⟨c.val / 128, by omega⟩ (ent (c.val % 128)) := by unfold padded; rw [if_pos h96]
    rw [if_pos h96, hc]
    unfold turned
    by_cases h64 : c.val % 128 < 64
    · rw [(hC c).trans (if_neg (by omega)), (hS c).trans (if_neg (by omega)), mul_one, mul_zero, add_zero, if_pos h64]
    · rw [(hC c).trans (if_pos ⟨by omega, h96⟩), (hS c).trans (if_pos ⟨by omega, h96⟩), if_neg h64]
      by_cases h8 : (c.val % 128 - 64) % 16 < 8
      · have hu : padded y ⟨(c.val + 8) % 768, Nat.mod_lt _ (by decide)⟩ = y ⟨c.val / 128, by omega⟩ (ent (c.val % 128 + 8)) := by
          unfold padded
          rw [if_pos (show (c.val + 8) % 768 % 128 < 96 by omega)]
          refine congrArg₂ (fun a b => y a b) (Fin.ext ?_) (congrArg ent ?_)
          · show (c.val + 8) % 768 / 128 = c.val / 128; omega
          · show (c.val + 8) % 768 % 128 = _; omega
        rw [if_pos (show (c.val + 1728) % 16 < 8 by omega), if_pos h8, if_pos h8, hu, mul_neg, mul_one, mul_neg, sub_eq_add_neg]
      · have hu : padded y ⟨(c.val + 760) % 768, Nat.mod_lt _ (by decide)⟩ = y ⟨c.val / 128, by omega⟩ (ent (c.val % 128 - 8)) := by
          unfold padded
          rw [if_pos (show (c.val + 760) % 768 % 128 < 96 by omega)]
          refine congrArg₂ (fun a b => y a b) (Fin.ext ?_) (congrArg ent ?_)
          · show (c.val + 760) % 768 / 128 = c.val / 128; omega
          · show (c.val + 760) % 768 % 128 = _; omega
        rw [if_neg (show ¬ (c.val + 1728) % 16 < 8 by omega), if_neg h8, if_neg h8, hu, mul_one]
  · have hc : padded y c = 0 := by unfold padded; rw [if_neg h96]
    rw [if_neg h96, hc, (hC c).trans (if_neg (by omega)), (hS c).trans (if_neg (by omega)), mul_zero, zero_mul, add_zero]

/-- The product with a table that puts 32 numbers at lanes 64 to 95 of each head. -/
theorem sum_place (t : Fin 32 → EReal) (c : Fin 768) :
    (∑ j : Fin 32, t j * (if c.val % 128 = 64 + j.val then (1 : EReal) else 0))
      = if h : 64 ≤ c.val % 128 ∧ c.val % 128 < 96 then t ⟨c.val % 128 - 64, by omega⟩ else 0 := by
  by_cases h : 64 ≤ c.val % 128 ∧ c.val % 128 < 96
  · rw [dif_pos h, Finset.sum_eq_single ⟨c.val % 128 - 64, by omega⟩]
    · rw [if_pos (show c.val % 128 = 64 + (c.val % 128 - 64) by omega), mul_one]
    · intro j _ hj
      rw [if_neg (fun e => hj (Fin.ext (by show j.val = c.val % 128 - 64; omega))), mul_zero]
    · intro hn
      exact absurd (Finset.mem_univ _) hn
  · rw [dif_neg h]
    refine Finset.sum_eq_zero fun j _ => ?_
    rw [if_neg (fun e => h (by have := j.isLt; omega)), mul_zero]

end Cert.Proof.LatentMath

end
-- ==== Proof.LatentBlock.lean ====
/-
  What the latent up-projection's kernel writes for a block of tokens, at a row and a lane.
-/
module

public import proofs.«01_k».proof.Proof.LatentMath
public import proofs.«01_k».proof.Proof.Gen.LatentIdeal.Value
public import Idealize.ShloMosaic.Lib.MatmulPlain
public import Idealize.ShloMosaic.Lib.ValueLayout
public import Idealize.ShloMosaic.Lib.KernelVsHost
public import Idealize.ShloMosaic.Lib.Pipeline.Value
public import Idealize.ShloMosaic.Lib.Pipeline.ValueKit

@[expose] public section

noncomputable section

namespace Cert.Proof.LatentBlock

open Cert.LatentIdeal Cert.LatentIdeal.Gen Cert.Proof.LatentMath Idealize.ShloMosaic Idealize.ShloMosaic.TcCoe Idealize.SL.Sem
open scoped BigOperators

/-- Columns of a block's rows from an offset. -/
theorem cut_apply {N : ℕ} (o : ℕ) (v : Vec Ideal S1x256x416 .f32) (h : S256x416.Slices ![0, o] ⟨2, ![256, N]⟩) (r : Fin 256) (k : Fin N) (k' : Fin 416) (hk : k'.val = o + k.val) :
    extractStridedSlice (⟨2, ![256, N]⟩ : Shape) ![0, o] (k0_pay2 v) h (ix2 r k) = v (ix3 (0 : Fin 1) r k') := by
  refine (extractStridedSlice_apply _ (k0_pay2 v) h (ix2 r k) (ix2 r k') fun a => ?_).trans ?_
  · match a with
    | ⟨0, _⟩ => show r.val = 0 + r.val; omega
    | ⟨1, _⟩ => exact hk
  · exact ValueIdx.shapeCast_1ab_ab_apply _ shapeCasts_S1x256x416_S256x416 r k'

/-- A column of row values. -/
theorem column_apply {α : Type} (x : S256.Idx → α) (r : Fin 256) : shapeCast S256x1 x shapeCasts_S256_S256x1 (ix2 r (0 : Fin 1)) = x (ix1 r) :=
  shapeCast_apply _ shapeCasts_S256_S256x1 (ix2 r (0 : Fin 1)) (ix1 r) (by
    rw [Shape.rowMajor_val_two, Shape.rowMajor_val_one]
    show r.val = r.val * 1 + 0
    omega)

/-- The normed latent rows. -/
theorem latent_apply (v0 : Vec Ideal S1x256x416 .f32) (v29 : Vec Ideal S1x128 .f32) (r : Fin 256) (k : Fin 128) :
    k0_pay4 v0 v29 (ix2 r k)
      = normed 0x43000000#32 (fun k : Fin 128 => v0 (ix3 (0 : Fin 1) r ⟨256 + k.val, by omega⟩)) (fun k => v29 (ix2 (0 : Fin 1) k)) k := by
  unfold k0_pay4 normed factor
  refine congrArg₂ (fun a b : EReal => a * b) (congrArg₂ (fun a b : EReal => a * b) ?_ ?_) ?_
  · exact cut_apply 256 v0 _ r k _ rfl
  · refine (broadcastTo_apply _ broadcasts_S256x1_S256x128 (ix2 r k) (ix2 r (0 : Fin 1)) fun a => by
      match a with
      | ⟨0, _⟩ => rfl
      | ⟨1, _⟩ => rfl).trans ?_
    refine congrArg Ideal.rsqrt (congrArg₂ (fun a b : EReal => a + b) (congrArg₂ Ideal.div ?_ rfl) rfl)
    refine (column_apply _ r).trans ?_
    refine (Ideal.multiReduction_add_single _ _ reduces_S256x128_S256 _ _ (ix1 r)).trans ?_
    refine Finset.sum_congr rfl fun j _ => ?_
    refine (congrArg _ (show reduces_S256x128_S256.lift (ix1 r) j = ix2 r j from funext fun a => match a with | ⟨0, _⟩ => rfl | ⟨1, _⟩ => rfl)).trans ?_
    exact congrArg₂ (fun a b : EReal => a * b) (cut_apply 256 v0 _ r j _ rfl) (cut_apply 256 v0 _ r j _ rfl)
  · refine (ValueIdx.broadcastTo_1b_ab_apply _ broadcasts_S1x128_S256x128 r k).trans ?_
    exact congrFun (shapeCast_self v29 shapeCasts_S1x128_S1x128) _

/-- The query product. -/
theorem query_apply (v0 : Vec Ideal S1x256x416 .f32) (v15 : Vec Ideal S1x256 .f32) (w : Vec Ideal S256x768 .bf16) (r : Fin 256) (n : Fin 768) :
    k0_pay5 v0 v15 w (ix2 r n)
      = ∑ k : Fin 256, normed 0x43800000#32 (fun k : Fin 256 => v0 (ix3 (0 : Fin 1) r ⟨k.val, by omega⟩)) (fun k => v15 (ix2 (0 : Fin 1) k)) k * w (ix2 k n) := by
  unfold k0_pay5
  refine (Ideal.matmul_plain_apply (M := 256) (K := 256) (N := 768) none _ _ _ r n).trans ?_
  refine (congrArg (· + _) (Ideal.ofBits_zero_f32 : (constant S256x768 .f32 0x00000000#32 : FVec Ideal S256x768 .f32) (ix2 r n) = 0)).trans ((zero_add _).trans ?_)
  refine Finset.sum_congr rfl fun k _ => congrArg₂ (fun a b : EReal => a * b) ?_ (congrFun (shapeCast_self w shapeCasts_S256x768_S256x768) _)
  unfold normed factor
  refine congrArg₂ (fun a b : EReal => a * b) (congrArg₂ (fun a b : EReal => a * b) ?_ ?_) ?_
  · exact cut_apply 0 v0 _ r k _ (Nat.zero_add _).symm
  · refine (broadcastTo_apply _ broadcasts_S256x1_S256x256 (ix2 r k) (ix2 r (0 : Fin 1)) fun a => by
      match a with
      | ⟨0, _⟩ => rfl
      | ⟨1, _⟩ => rfl).trans ?_
    refine congrArg Ideal.rsqrt (congrArg₂ (fun a b : EReal => a + b) (congrArg₂ Ideal.div ?_ rfl) rfl)
    refine (column_apply _ r).trans ?_
    refine (Ideal.multiReduction_add_single _ _ reduces_S256x256_S256 _ _ (ix1 r)).trans ?_
    refine Finset.sum_congr rfl fun j _ => ?_
    refine (congrArg _ (show reduces_S256x256_S256.lift (ix1 r) j = ix2 r j from funext fun a => match a with | ⟨0, _⟩ => rfl | ⟨1, _⟩ => rfl)).trans ?_
    exact congrArg₂ (fun a b : EReal => a * b) (cut_apply 0 v0 _ r j _ (Nat.zero_add _).symm) (cut_apply 0 v0 _ r j _ (Nat.zero_add _).symm)
  · refine (ValueIdx.broadcastTo_1b_ab_apply _ broadcasts_S1x256_S256x256 r k).trans ?_
    exact congrFun (shapeCast_self v15 shapeCasts_S1x256_S1x256) _

/-- The key rows: the product on the first lanes, the shared part placed beside it. -/
theorem key_apply (v0 : Vec Ideal S1x256x416 .f32) (v29 : Vec Ideal S1x128 .f32) (w : Vec Ideal S128x768 .bf16) (p : Vec Ideal S32x768 .bf16) (r : Fin 256) (n : Fin 768) :
    k0_pay8 (k0_pay3 v0) (k0_pay6 v0 v29) (k0_pay7 w) p (ix2 r n)
      = (∑ k : Fin 128, normed 0x43000000#32 (fun k : Fin 128 => v0 (ix3 (0 : Fin 1) r ⟨256 + k.val, by omega⟩)) (fun k => v29 (ix2 (0 : Fin 1) k)) k * w (ix2 k n))
        + ((∑ j : Fin 32, v0 (ix3 (0 : Fin 1) r ⟨384 + j.val, by omega⟩) * p (ix2 j n))
          + ∑ j : Fin 32, (v0 (ix3 (0 : Fin 1) r ⟨384 + j.val, by omega⟩) - v0 (ix3 (0 : Fin 1) r ⟨384 + j.val, by omega⟩)) * p (ix2 j n)) := by
  have ht : ∀ j : Fin 32, k0_pay3 v0 (ix2 r j) = v0 (ix3 (0 : Fin 1) r ⟨384 + j.val, by omega⟩) := fun j => cut_apply 384 v0 slices_S256x416_o0_384_S256x32 r j _ rfl
  unfold k0_pay8
  refine congrArg₂ (fun a b : EReal => a + b) ?_ (congrArg₂ (fun a b : EReal => a + b) ?_ ?_)
  · refine (Ideal.matmul_plain_apply (M := 256) (K := 128) (N := 768) none _ _ _ r n).trans ?_
    refine (congrArg (· + _) (Ideal.ofBits_zero_f32 : (constant S256x768 .f32 0x00000000#32 : FVec Ideal S256x768 .f32) (ix2 r n) = 0)).trans ((zero_add _).trans ?_)
    exact Finset.sum_congr rfl fun k _ => congrArg₂ (fun a b : EReal => a * b) (latent_apply v0 v29 r k) (congrFun (shapeCast_self w shapeCasts_S128x768_S128x768) _)
  · refine (Ideal.matmul_plain_apply (M := 256) (K := 32) (N := 768) none _ _ _ r n).trans ?_
    refine (congrArg (· + _) (Ideal.ofBits_zero_f32 : (constant S256x768 .f32 0x00000000#32 : FVec Ideal S256x768 .f32) (ix2 r n) = 0)).trans ((zero_add _).trans ?_)
    exact Finset.sum_congr rfl fun k _ => congrArg₂ (fun a b : EReal => a * b) (ht k) (congrFun (shapeCast_self p shapeCasts_S32x768_S32x768) _)
  · refine (Ideal.matmul_plain_apply (M := 256) (K := 32) (N := 768) none _ _ _ r n).trans ?_
    refine (congrArg (· + _) (Ideal.ofBits_zero_f32 : (constant S256x768 .f32 0x00000000#32 : FVec Ideal S256x768 .f32) (ix2 r n) = 0)).trans ((zero_add _).trans ?_)
    exact Finset.sum_congr rfl fun k _ => congrArg₂ (fun a b : EReal => a * b) (congrArg₂ (fun a b : EReal => a - b) (ht k) (ht k)) (congrFun (shapeCast_self p shapeCasts_S32x768_S32x768) _)

/-- The stored values. -/
theorem value_apply (v0 : Vec Ideal S1x256x416 .f32) (v29 : Vec Ideal S1x128 .f32) (w : Vec Ideal S128x384 .bf16) (u : Fin 1) (r : Fin 256) (n : Fin 384) :
    k0_pay9 (k0_pay4 v0 v29) w (ix3 u r n)
      = ∑ k : Fin 128, normed 0x43000000#32 (fun k : Fin 128 => v0 (ix3 (0 : Fin 1) r ⟨256 + k.val, by omega⟩)) (fun k => v29 (ix2 (0 : Fin 1) k)) k * w (ix2 k n) := by
  unfold k0_pay9
  refine (ValueIdx.shapeCast_ab_1ab_apply _ shapeCasts_S256x384_S1x256x384 u r n).trans ?_
  refine (Ideal.matmul_plain_apply (M := 256) (K := 128) (N := 384) none _ _ _ r n).trans ?_
  refine (congrArg (· + _) (Ideal.ofBits_zero_f32 : (constant S256x384 .f32 0x00000000#32 : FVec Ideal S256x384 .f32) (ix2 r n) = 0)).trans ((zero_add _).trans ?_)
  exact Finset.sum_congr rfl fun k _ => congrArg₂ (fun a b : EReal => a * b) (latent_apply v0 v29 r k) (congrFun (shapeCast_self w shapeCasts_S128x384_S128x384) _)

/-- The rows normed head by head, from their squares. -/
def normedRows (X Q : FVec Ideal S256x768 .f32) (H : FVec Ideal S768x768 .bf16) (G : FVec Ideal S1x768 .f32) : FVec Ideal S256x768 .f32 :=
  mulf (mulf X (rsqrt (addf (mulf (addf
    (matmul dot_S256x768_S768x768_S256x768_1_0_0_1_n_n none (truncf .bf16 Q bitsLt_bf16_f32) H (constant S256x768 .f32 0x00000000#32))
    (matmul dot_S256x768_S768x768_S256x768_1_0_0_1_n_n none (truncf .bf16 (subf Q (extf .f32 (truncf .bf16 Q bitsLt_bf16_f32) bitsLt_bf16_f32)) bitsLt_bf16_f32) H (constant S256x768 .f32 0x00000000#32)))
    (broadcast S256x768 (Named.named κ "inv_qk" (φ := .f32) 0x3C2AAAAB#32))) (broadcast S256x768 (Scalar.ofBits (F := Ideal) .f32 0x358637BD#32)))))
    (broadcastTo S256x768 G broadcasts_S1x768_S256x768)

/-- The reciprocal of 96. -/
theorem inv_qk : (Named.named (F := Ideal) κ "inv_qk" (φ := .f32) 0x3C2AAAAB#32 : EReal) = ((1 / 96 : ℝ) : EReal) :=
  IdealRules.named_const.ideal_named_scalar _ _ _ _ rfl

theorem normedRows_apply (X : FVec Ideal S256x768 .f32) (H : FVec Ideal S768x768 .bf16) (G : FVec Ideal S1x768 .f32) (r : Fin 256) (c : Fin 768) :
    normedRows X (k0_pay19 X) H G (ix2 r c)
      = laneNormed (fun k c => H (ix2 k c)) ((1 / 96 : ℝ) : EReal) (fun c => X (ix2 r c)) (fun c => G (ix2 (0 : Fin 1) c)) c := by
  unfold normedRows laneNormed
  refine congrArg₂ (fun a b : EReal => a * b) (congrArg₂ (fun a b : EReal => a * b) rfl (congrArg Ideal.rsqrt (congrArg₂ (fun a b : EReal => a + b)
    (congrArg₂ (fun a b : EReal => a * b) (congrArg₂ (fun a b : EReal => a + b) ?_ ?_) inv_qk) rfl))) ?_
  · refine (Ideal.matmul_plain_apply (M := 256) (K := 768) (N := 768) none _ _ _ r c).trans ?_
    exact (congrArg (· + _) (Ideal.ofBits_zero_f32 : (constant S256x768 .f32 0x00000000#32 : FVec Ideal S256x768 .f32) (ix2 r c) = 0)).trans (zero_add _)
  · refine (Ideal.matmul_plain_apply (M := 256) (K := 768) (N := 768) none _ _ _ r c).trans ?_
    exact (congrArg (· + _) (Ideal.ofBits_zero_f32 : (constant S256x768 .f32 0x00000000#32 : FVec Ideal S256x768 .f32) (ix2 r c) = 0)).trans (zero_add _)
  · exact ValueIdx.broadcastTo_1b_ab_apply _ broadcasts_S1x768_S256x768 r c

/-- Which partner a lane turns with. -/
def firstHalf : IVec S256x768 1 := k0_pay16 (Scalar.select (Scalar.cmpi .eq 16#32 0#32) 1#32 16#32) k0_pay13 k0_pay14 k0_pay15

theorem firstHalf_row : ∀ c : Fin 768, firstHalf (ix2 (0 : Fin 256) c) = if (c.val + 1728) % 16 < 8 then 1#1 else 0#1 := by decide +kernel
theorem firstHalf_apply (r : Fin 256) (c : Fin 768) : firstHalf (ix2 r c) = if (c.val + 1728) % 16 < 8 then 1#1 else 0#1 :=
  Eq.trans rfl (firstHalf_row c)

/-- The turned rows. -/
def turnedRows (Y C S : FVec Ideal S256x768 .f32) : FVec Ideal S256x768 .f32 :=
  addf (mulf Y C) (mulf (select firstHalf (dynamicRotate 1 760#32 none Y rotates_S256x768_d1) (dynamicRotate 1 8#32 none Y rotates_S256x768_d1)) S)

theorem turnedRows_apply (Y C S : FVec Ideal S256x768 .f32) (r : Fin 256) (c : Fin 768) :
    turnedRows Y C S (ix2 r c) = laneTurned (fun c => C (ix2 r c)) (fun c => S (ix2 r c)) (fun c => Y (ix2 r c)) c := by
  unfold turnedRows laneTurned
  refine congrArg₂ (fun a b : EReal => a + b) rfl (congrArg₂ (fun a b : EReal => a * b) ?_ rfl)
  show Scalar.select (firstHalf (ix2 r c)) _ _ = _
  rw [firstHalf_apply]
  by_cases h : (c.val + 1728) % 16 < 8
  · rw [if_pos h, if_pos h]
    refine (dynamicRotate_apply (1 : Fin 2) 760#32 Y rotates_S256x768_d1 (ix2 r c) (ix2 r ⟨(c.val + 8) % 768, Nat.mod_lt _ (by decide)⟩) fun b => ?_)
    match b with
    | ⟨0, _⟩ => rfl
    | ⟨1, _⟩ => show (c.val + 8) % 768 = (c.val + 768 - 760 % 768) % 768; congr 1
  · rw [if_neg h, if_neg h]
    refine (dynamicRotate_apply (1 : Fin 2) 8#32 Y rotates_S256x768_d1 (ix2 r c) (ix2 r ⟨(c.val + 760) % 768, Nat.mod_lt _ (by decide)⟩) fun b => ?_)
    match b with
    | ⟨0, _⟩ => rfl
    | ⟨1, _⟩ => show (c.val + 760) % 768 = (c.val + 768 - 8 % 768) % 768; congr 1

/-- The stored key rows at a row and a lane. -/
theorem storedKey_apply (X : FVec Ideal S256x768 .f32) (H : FVec Ideal S768x768 .bf16) (C S : FVec Ideal S256x768 .f32) (G : FVec Ideal S1x768 .f32) (u : Fin 1) (r : Fin 256) (c : Fin 768) :
    k0_pay1 X H C S firstHalf G (k0_pay19 X) (ix3 u r c)
      = laneTurned (fun c => C (ix2 r c)) (fun c => S (ix2 r c))
          (laneNormed (fun k c => H (ix2 k c)) ((1 / 96 : ℝ) : EReal) (fun c => X (ix2 r c)) (fun c => G (ix2 (0 : Fin 1) c))) c := by
  unfold k0_pay1
  refine (ValueIdx.shapeCast_ab_1ab_apply _ shapeCasts_S256x768_S1x256x768 u r c).trans ?_
  refine (turnedRows_apply (normedRows X (k0_pay19 X) H G) C S r c).trans ?_
  exact congrArg (fun Y => laneTurned _ _ Y c) (funext fun c => normedRows_apply X H G r c)

/-- The stored query rows at a row and a lane. -/
theorem storedQuery_apply (X : FVec Ideal S256x768 .f32) (H : FVec Ideal S768x768 .bf16) (C S : FVec Ideal S256x768 .f32) (G : Vec Ideal S1x768 .f32) (u : Fin 1) (r : Fin 256) (c : Fin 768) :
    k0_pay17 X H C S (Scalar.select (Scalar.cmpi .eq 16#32 0#32) 1#32 16#32) k0_pay13 k0_pay14 k0_pay15 G (ix3 u r c)
      = laneTurned (fun c => C (ix2 r c)) (fun c => S (ix2 r c))
          (laneNormed (fun k c => H (ix2 k c)) ((1 / 96 : ℝ) : EReal) (fun c => X (ix2 r c)) (fun c => G (ix2 (0 : Fin 1) c))) c * Ideal.ofBits FTy.f32 0x3DD105EC#32 := by
  unfold k0_pay17
  rw [shapeCast_self G shapeCasts_S1x768_S1x768]
  refine (ValueIdx.shapeCast_ab_1ab_apply _ shapeCasts_S256x768_S1x256x768 u r c).trans ?_
  refine congrArg₂ (fun a b : EReal => a * b) ?_ rfl
  refine (turnedRows_apply (normedRows X (k0_pay19 X) H G) C S r c).trans ?_
  exact congrArg (fun Y => laneTurned _ _ Y c) (funext fun c => normedRows_apply X H G r c)

/-- What the body leaves in the query block. -/
theorem out12_eq (x0 : Vec Ideal S1x256x416 .f32) (x1 : Vec Ideal S1x256 .f32) (x2 : Vec Ideal S256x768 .bf16) (x3 : Vec Ideal S1x128 .f32) (x4 : Vec Ideal S128x768 .bf16)
    (x5 : Vec Ideal S128x384 .bf16) (x6 : Vec Ideal S32x768 .bf16) (x7 x8 : Vec Ideal S1x768 .f32) (x9 : Vec Ideal S768x768 .bf16) (x10 x11 : Vec Ideal S256x768 .f32) (y : S1x256x768.Idx) :
    out0_12 x0 x1 x2 x3 x4 x5 x6 x7 x8 x9 x10 x11 y
      = laneTurned (fun c => x10 (ix2 (y 1) c)) (fun c => x11 (ix2 (y 1) c))
          (laneNormed (fun k c => x9 (ix2 k c)) ((1 / 96 : ℝ) : EReal) (fun c => k0_pay5 x0 x1 x2 (ix2 (y 1) c)) (fun c => x7 (ix2 (0 : Fin 1) c))) (y 2)
        * Ideal.ofBits FTy.f32 0x3DD105EC#32 := by
  have hz : (![0, 0, 0] : Fin 3 → ℕ) = fun _ => 0 := by decide
  have hz' : (![0, 0] : Fin 2 → ℕ) = fun _ => 0 := by decide
  unfold_out out0_12
  unfold k0_pay10 k0_pay11 k0_pay12
  rw [View.ld_unit_zero hz, View.ld_unit_zero hz', View.ld_unit_zero hz', View.ld_unit_zero hz', View.ld_unit_zero hz', View.ld_unit_zero hz', View.ld_unit_zero hz',
    View.canon_unit_zero hz]
  rw [shapeCast_self x9 shapeCasts_S768x768_S768x768, shapeCast_self x10 shapeCasts_S256x768_S256x768, shapeCast_self x11 shapeCasts_S256x768_S256x768]
  exact (congrArg _ (ValueIdx.eq_ix3 y)).trans (storedQuery_apply _ x9 x10 x11 x7 (y 0) (y 1) (y 2))

/-- What the body leaves in the key block. -/
theorem out13_eq (x0 : Vec Ideal S1x256x416 .f32) (x1 : Vec Ideal S1x256 .f32) (x2 : Vec Ideal S256x768 .bf16) (x3 : Vec Ideal S1x128 .f32) (x4 : Vec Ideal S128x768 .bf16)
    (x5 : Vec Ideal S128x384 .bf16) (x6 : Vec Ideal S32x768 .bf16) (x7 x8 : Vec Ideal S1x768 .f32) (x9 : Vec Ideal S768x768 .bf16) (x10 x11 : Vec Ideal S256x768 .f32) (y : S1x256x768.Idx) :
    out0_13 x0 x1 x2 x3 x4 x5 x6 x7 x8 x9 x10 x11 y
      = laneTurned (fun c => x10 (ix2 (y 1) c)) (fun c => x11 (ix2 (y 1) c))
          (laneNormed (fun k c => x9 (ix2 k c)) ((1 / 96 : ℝ) : EReal) (fun c => k0_pay8 (k0_pay3 x0) (k0_pay6 x0 x3) (k0_pay7 x4) x6 (ix2 (y 1) c)) (fun c => x8 (ix2 (0 : Fin 1) c))) (y 2) := by
  have hz : (![0, 0, 0] : Fin 3 → ℕ) = fun _ => 0 := by decide
  have hz' : (![0, 0] : Fin 2 → ℕ) = fun _ => 0 := by decide
  unfold_out out0_13
  unfold k0_pay10 k0_pay11 k0_pay12 k0_pay18
  rw [View.ld_unit_zero hz, View.ld_unit_zero hz', View.ld_unit_zero hz', View.ld_unit_zero hz', View.ld_unit_zero hz', View.ld_unit_zero hz', View.ld_unit_zero hz', View.ld_unit_zero hz',
    View.canon_unit_zero hz]
  rw [shapeCast_self x9 shapeCasts_S768x768_S768x768, shapeCast_self x10 shapeCasts_S256x768_S256x768, shapeCast_self x11 shapeCasts_S256x768_S256x768,
    shapeCast_self x8 shapeCasts_S1x768_S1x768]
  exact (congrArg _ (ValueIdx.eq_ix3 y)).trans (storedKey_apply _ x9 x10 x11 x8 (y 0) (y 1) (y 2))

/-- What the body leaves in the value block. -/
theorem out14_eq (x0 : Vec Ideal S1x256x416 .f32) (x1 : Vec Ideal S1x256 .f32) (x2 : Vec Ideal S256x768 .bf16) (x3 : Vec Ideal S1x128 .f32) (x4 : Vec Ideal S128x768 .bf16)
    (x5 : Vec Ideal S128x384 .bf16) (x6 : Vec Ideal S32x768 .bf16) (x7 x8 : Vec Ideal S1x768 .f32) (x9 : Vec Ideal S768x768 .bf16) (x10 x11 : Vec Ideal S256x768 .f32) (y : S1x256x384.Idx) :
    out0_14 x0 x1 x2 x3 x4 x5 x6 x7 x8 x9 x10 x11 y
      = ∑ k : Fin 128, normed 0x43000000#32 (fun k : Fin 128 => x0 (ix3 (0 : Fin 1) (y 1) ⟨256 + k.val, by omega⟩)) (fun k => x3 (ix2 (0 : Fin 1) k)) k * x5 (ix2 k (y 2)) := by
  have hz : (![0, 0, 0] : Fin 3 → ℕ) = fun _ => 0 := by decide
  have hz' : (![0, 0] : Fin 2 → ℕ) = fun _ => 0 := by decide
  unfold_out out0_14
  rw [View.ld_unit_zero hz, View.ld_unit_zero hz', View.ld_unit_zero hz', View.canon_unit_zero hz]
  exact (congrArg _ (ValueIdx.eq_ix3 y)).trans (value_apply x0 x3 x5 (y 0) (y 1) (y 2))

end Cert.Proof.LatentBlock

end
-- ==== Proof.LatentPick.lean ====
/-
  What the host code prepares for the latent up-projection's call: weights and gains laid out on 768 lanes, the two
  tables of zeros and ones, and the cosines and sines of every position and lane.
-/
module

public import proofs.«01_k».proof.Proof.LatentMath
public import proofs.«01_k».proof.Proof.Gen.LatentIdeal.Value
public import Idealize.ShloMosaic.Lib.StableHlo.ReadAt
public import Idealize.ShloMosaic.Lib.ValueLayout
public import Idealize.ShloMosaic.Lib.Pipeline.ValueKit

@[expose] public section

noncomputable section

namespace Cert.Proof.LatentHost

open Cert.LatentIdeal Cert.LatentIdeal.Gen Idealize.ShloMosaic Idealize.ShloMosaic.TcCoe Idealize.SL.Sem

/-- Columns picked from a table of two columns: the start index is read signed and held to the table. -/
theorem pick2_apply {α : Type} (x : S4096x2.Idx → α) (idx : IVec S128x1 32) (i : Fin 4096) (l : Fin 128) :
    Host.gather gather_S4096x2_S128x1_S4096x128_0_1_n_n_1_1_40961 x idx (ix2 i l)
      = x (ix2 i ⟨min (idx (ix2 l (0 : Fin 1))).toInt.toNat 1, by omega⟩) := by
  unfold Host.gather
  congr 1
  funext a
  refine Fin.ext ?_
  show GatherDims.start _ (ix2 i l) idx a + GatherDims.batchCoord _ (ix2 i l) a + GatherDims.offCoord _ (ix2 i l) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide)]
    refine ((congrArg (0 + 0 + ·) (dif_pos (by decide +kernel))).trans (Nat.zero_add _)).trans ?_
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x2_S128x1_S4096x128_0_1_n_n_1_1_40961.startIndexMap from List.mem_singleton.mpr rfl)]
    have hsi : gather_S4096x2_S128x1_S4096x128_0_1_n_n_1_1_40961.siIdx (ix2 i l) ⟨List.idxOf (1 : Fin 2) gather_S4096x2_S128x1_S4096x128_0_1_n_n_1_1_40961.startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl

/-- Entries picked from eight. -/
theorem pick8_apply {α : Type} (x : S8.Idx → α) (idx : IVec S128x1 32) (l : Fin 128) :
    Host.gather gather_S8_S128x1_S128_n_0_n_n_0_1_1 x idx (ix1 l)
      = x (ix1 ⟨min (idx (ix2 l (0 : Fin 1))).toInt.toNat 7, by omega⟩) := by
  unfold Host.gather
  congr 1
  funext a
  obtain rfl : a = 0 := Subsingleton.elim _ _
  refine Fin.ext ?_
  show GatherDims.start _ (ix1 l) idx 0 + GatherDims.batchCoord _ (ix1 l) 0 + GatherDims.offCoord _ (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S128x1_S128_n_0_n_n_0_1_1.startIndexMap from List.mem_singleton.mpr rfl)]
  have hsi : gather_S8_S128x1_S128_n_0_n_n_0_1_1.siIdx (ix1 l) ⟨List.idxOf (0 : Fin 1) gather_S8_S128x1_S128_n_0_n_n_0_1_1.startIndexMap,
      List.idxOf_lt_length_iff.2 (List.mem_singleton.mpr rfl)⟩ = ix2 l (0 : Fin 1) := by
    funext b; refine Fin.ext ?_
    match b with
    | ⟨0, _⟩ => rfl
    | ⟨1, _⟩ => rfl
  rw [hsi]
  rfl

end Cert.Proof.LatentHost

end
-- ==== Proof.LatentWord.lean ====
/-
  What the host code prepares for the latent up-projection's call: weights and gains laid out on 768 lanes, the two
  tables of zeros and ones, and the cosines and sines of every position and lane.
-/
module

public import proofs.«01_k».proof.Proof.LatentMath
public import proofs.«01_k».proof.Proof.Gen.LatentIdeal.Value
public import Idealize.ShloMosaic.Lib.StableHlo.ReadAt
public import Idealize.ShloMosaic.Lib.ValueLayout
public import Idealize.ShloMosaic.Lib.Pipeline.ValueKit

@[expose] public section

noncomputable section

namespace Cert.Proof.LatentHost

open Cert.LatentIdeal Cert.LatentIdeal.Gen Idealize.ShloMosaic Idealize.ShloMosaic.TcCoe Idealize.SL.Sem

/-- The quotient rounded down, as the words compute it. -/
def floorWord (x d : BitVec 32) : BitVec 32 :=
  Scalar.select
    (IntOp.andi
      (IntOp.cmpi CmpIPredicate.ne (if x = 0 then (0 : BitVec 32) else if x.msb = true then -1 else 1) (if d = 0 then 0 else if d.msb = true then -1 else 1))
      (IntOp.cmpi CmpIPredicate.ne (IntOp.remsi ArithUnit.host x d) 0#32))
    (IntOp.subi (IntOp.divsi ArithUnit.host x d) 1#32) (IntOp.divsi ArithUnit.host x d)

/-- The remainder of the rounded-down quotient, as the words compute it. -/
def modWord (x d : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq d 0#32) (1#32) d)) 0#32)
        (IntOp.cmpi CmpIPredicate.slt (Scalar.select (IntOp.cmpi CmpIPredicate.eq d 0#32) (1#32) d) 0#32))
      (IntOp.cmpi CmpIPredicate.ne (IntOp.remsi ArithUnit.host x (Scalar.select (IntOp.cmpi CmpIPredicate.eq d 0#32) (1#32) d)) 0#32))
    (IntOp.addi (IntOp.remsi ArithUnit.host x (Scalar.select (IntOp.cmpi CmpIPredicate.eq d 0#32) (1#32) d)) (Scalar.select (IntOp.cmpi CmpIPredicate.eq d 0#32) (1#32) d))
    (IntOp.remsi ArithUnit.host x (Scalar.select (IntOp.cmpi CmpIPredicate.eq d 0#32) (1#32) d))

theorem floorWord_lane : ∀ c : Fin 768, floorWord (BitVec.ofNat 32 c.val) 128#32 = BitVec.ofNat 32 (c.val / 128) := by decide +kernel
theorem modWord_lane : ∀ c : Fin 768, modWord (BitVec.ofNat 32 c.val) 128#32 = BitVec.ofNat 32 (c.val % 128) := by decide +kernel
theorem floorWord_token : ∀ i : Fin 4096, floorWord (BitVec.ofNat 32 i.val) 64#32 = BitVec.ofNat 32 (i.val / 64) := by decide +kernel
theorem modWord_token : ∀ i : Fin 4096, modWord (BitVec.ofNat 32 i.val) 64#32 = BitVec.ofNat 32 (i.val % 64) := by decide +kernel

theorem sameHead : ∀ a b : Fin 6, IntOp.cmpi CmpIPredicate.eq (BitVec.ofNat 32 a.val) (BitVec.ofNat 32 b.val) = if a.val = b.val then 1#1 else 0#1 := by
  decide +kernel
theorem placed : ∀ (l : Fin 128) (j : Fin 32),
    IntOp.cmpi CmpIPredicate.eq (IntOp.subi (BitVec.ofNat 32 l.val) 64#32) (BitVec.ofNat 32 j.val) = if l.val = 64 + j.val then 1#1 else 0#1 := by
  decide +kernel

/-- A truth value as a number. -/
theorem truth (p : Prop) [Decidable p] : (FloatOps.uitofp (F := Ideal) FTy.bf16 (if p then 1#1 else 0#1 : BitVec 1) : EReal) = if p then 1 else 0 := by
  by_cases h : p
  · rw [if_pos h, if_pos h]; show (((1#1 : BitVec 1).toNat : ℝ) : EReal) = 1; norm_num
  · rw [if_neg h, if_neg h]; show (((0#1 : BitVec 1).toNat : ℝ) : EReal) = 0; norm_num

/-- The word of zero as a number. -/
theorem zeroWord : (FloatOps.sitofp (F := Ideal) FTy.f32 0#32 : EReal) = 0 := by
  show (((0#32 : BitVec 32).toInt : ℝ) : EReal) = 0
  norm_num

end Cert.Proof.LatentHost

end
-- ==== Proof.LatentHost.lean ====
/-
  What the host code prepares for the latent up-projection's call: weights and gains laid out on 768 lanes, the two
  tables of zeros and ones, and the cosines and sines of every position and lane.
-/
module

public import proofs.«01_k».proof.Proof.LatentMath
public import proofs.«01_k».proof.Proof.LatentPick
public import proofs.«01_k».proof.Proof.LatentWord
public import proofs.«01_k».proof.Proof.Gen.LatentIdeal.Value
public import Idealize.ShloMosaic.Lib.StableHlo.ReadAt
public import Idealize.ShloMosaic.Lib.ValueLayout
public import Idealize.ShloMosaic.Lib.Pipeline.ValueKit

@[expose] public section

noncomputable section

namespace Cert.Proof.LatentHost

open Cert.LatentIdeal Cert.LatentIdeal.Gen Idealize.ShloMosaic Idealize.ShloMosaic.TcCoe Idealize.SL.Sem

/-- Equal columns read the same entry. -/
theorem column_eq (X : Vec Ideal S128x768 .f32) (k : Fin 128) (a b : Fin 768) (h : a.val = b.val) : X (ix2 k a) = X (ix2 k b) := by
  rw [Fin.ext h]

/-- An entry below 96 is its own. -/
theorem entry_eq (X : Vec Ideal S96 .f32) (l : ℕ) (h : l < 96) : X (ix1 ⟨l, h⟩) = X (ix1 (LatentMath.ent l)) := by
  congr 2
  exact Fin.ext (Nat.mod_eq_of_lt h).symm

variable (m : (ℓ : Loc nD τ sig) → Buf (Elt Ideal) ℓ)

/-- The query weight on lanes. -/
theorem wq_apply (c : Dev nD) (k : Fin 256) (n : Fin 768) :
    (V m c main_v3 : Vec Ideal S256x768 .bf16) (ix2 k n)
      = if h : n.val % 128 < 96 then (m ((c : Thread nD τ).loc main_arg2) : Vec Ideal S256x576 .f32) (ix2 k ⟨n.val / 128 * 96 + n.val % 128, by omega⟩) else (0 : EReal) := by
  unfold V
  after_reads_at
  by_cases h : n.val % 128 < 96
  · refine (dif_pos ⟨by omega, h⟩).trans ?_
    refine Eq.trans ?_ (dif_pos h).symm
    rfl
  · refine (dif_neg (fun e => h e.2)).trans ?_
    refine Eq.trans ?_ (dif_neg h).symm
    exact zeroWord

/-- The key weight on lanes. -/
theorem wk_apply (c : Dev nD) (k : Fin 128) (n : Fin 768) :
    (V m c main_v10 : Vec Ideal S128x768 .bf16) (ix2 k n)
      = if n.val % 128 < 64 then (m ((c : Thread nD τ).loc main_arg4) : Vec Ideal S128x768 .f32) (ix2 k n) else (0 : EReal) := by
  unfold V
  after_reads_at
  by_cases h : n.val % 128 < 64
  · refine (dif_pos ⟨by omega, h⟩).trans ?_
    refine Eq.trans ?_ (if_pos h).symm
    refine column_eq _ k _ _ ?_
    show (n.val / 128 * 64 + n.val % 128) / 64 * 128 + (n.val / 128 * 64 + n.val % 128) % 64 = n.val
    omega
  · refine (dif_neg (fun e => h e.2)).trans ?_
    refine Eq.trans ?_ (if_neg h).symm
    exact zeroWord

/-- The value weight. -/
theorem wv_apply (c : Dev nD) (k : Fin 128) (n : Fin 384) :
    (V m c main_v13 : Vec Ideal S128x384 .bf16) (ix2 k n)
      = (m ((c : Thread nD τ).loc main_arg4) : Vec Ideal S128x768 .f32) (ix2 k ⟨n.val / 64 * 128 + (64 + n.val % 64), by omega⟩) := by
  unfold V
  after_reads_at

/-- The table of the numbers 0 to 31, as a column. -/
theorem number_word (i : S32x1.Idx) : lit0 (S32x1.rowMajor i) = BitVec.ofNat 32 (i 0).val := by
  have h : S32x1.rowMajor i = (⟨(i 0).val, (i 0).isLt⟩ : Fin 32) := Fin.ext (by
    have h1 : (i 1).val < 1 := (i 1).isLt
    rw [Shape.rowMajor_val_two]
    show (i 0).val * 1 + (i 1).val = (i 0).val
    omega)
  exact (congrArg lit0 h).trans ((by decide +kernel : ∀ j : Fin 32, lit0 j = BitVec.ofNat 32 j.val) _)

/-- The table that places 32 numbers at lanes 64 to 95. -/
theorem place_apply (c : Dev nD) (j : Fin 32) (n : Fin 768) :
    (V m c main_v22 : Vec Ideal S32x768 .bf16) (ix2 j n) = if n.val % 128 = 64 + j.val then (1 : EReal) else 0 := by
  unfold V
  after_reads_at
  refine Eq.trans (congrArg₂ (fun a b : BitVec 32 => FloatOps.uitofp (F := Ideal) FTy.bf16
    (IntOp.cmpi CmpIPredicate.eq (IntOp.subi a 64#32) b)) (modWord_lane n) (number_word (ix2 j 0))) ?_
  refine Eq.trans (congrArg (FloatOps.uitofp (F := Ideal) FTy.bf16) (placed ⟨n.val % 128, Nat.mod_lt _ (by decide)⟩ j)) ?_
  exact truth _

/-- The table that marks lanes of one head. -/
theorem hsum_apply (c : Dev nD) (k n : Fin 768) :
    (V m c main_v30 : Vec Ideal S768x768 .bf16) (ix2 k n) = if k.val / 128 = n.val / 128 then (1 : EReal) else 0 := by
  unfold V
  after_reads_at
  refine Eq.trans (congrArg₂ (fun a b : BitVec 32 => FloatOps.uitofp (F := Ideal) FTy.bf16
    (IntOp.cmpi CmpIPredicate.eq a b)) (floorWord_lane k) (floorWord_lane n)) ?_
  beta_reduce
  rw [sameHead ⟨k.val / 128, by omega⟩ ⟨n.val / 128, by omega⟩]
  exact truth _

/-- The query gain on lanes. -/
theorem gq_apply (c : Dev nD) (n : Fin 768) :
    (V m c main_v85 : Vec Ideal S1x768 .f32) (ix2 (0 : Fin 1) n)
      = if n.val % 128 < 96 then (m ((c : Thread nD τ).loc main_arg5) : Vec Ideal S96 .f32) (ix1 (LatentMath.ent (n.val % 128))) else (0 : EReal) := by
  unfold V
  after_reads_at
  by_cases h : n.val % 128 < 96
  · refine (dif_pos h).trans ?_
    refine Eq.trans ?_ (if_pos h).symm
    exact entry_eq _ _ h
  · refine (dif_neg h).trans ?_
    refine Eq.trans ?_ (if_neg h).symm
    exact zeroWord

/-- The key gain on lanes. -/
theorem gk_apply (c : Dev nD) (n : Fin 768) :
    (V m c main_v90 : Vec Ideal S1x768 .f32) (ix2 (0 : Fin 1) n)
      = if n.val % 128 < 96 then (m ((c : Thread nD τ).loc main_arg6) : Vec Ideal S96 .f32) (ix1 (LatentMath.ent (n.val % 128))) else (0 : EReal) := by
  unfold V
  after_reads_at
  by_cases h : n.val % 128 < 96
  · refine (dif_pos h).trans ?_
    refine Eq.trans ?_ (if_pos h).symm
    exact entry_eq _ _ h
  · refine (dif_neg h).trans ?_
    refine Eq.trans ?_ (if_neg h).symm
    exact zeroWord

/-- The query norm's gain. -/
theorem qn_apply (c : Dev nD) (k : Fin 256) :
    (V m c main_v79 : Vec Ideal S1x256 .f32) (ix2 (0 : Fin 1) k) = (m ((c : Thread nD τ).loc main_arg1) : Vec Ideal S256 .f32) (ix1 k) := by
  unfold V
  after_reads_at

/-- The latent norm's gain. -/
theorem kvn_apply (c : Dev nD) (k : Fin 128) :
    (V m c main_v80 : Vec Ideal S1x128 .f32) (ix2 (0 : Fin 1) k) = (m ((c : Thread nD τ).loc main_arg3) : Vec Ideal S128 .f32) (ix1 k) := by
  unfold V
  after_reads_at

end Cert.Proof.LatentHost

end
-- ==== Proof.LatentRope.lean ====
/-
  The cosines and sines the host prepares for every position and lane.
-/
module

public import proofs.«01_k».proof.Proof.LatentHost
public import Idealize.ShloMosaic.Lib.Pipeline.Value

@[expose] public section

noncomputable section

namespace Cert.Proof.LatentHost

open Cert.LatentIdeal Cert.LatentIdeal.Gen Idealize.ShloMosaic Idealize.ShloMosaic.TcCoe Idealize.SL.Sem

/-- The frequency of a pair: ten thousand to the power of minus twice its number over sixteen. -/
def inv (f : Fin 8) : EReal :=
  (Host.powf (broadcastInDim S8 ![] bcast_S_S8 (constant S_ FTy.f32 1176256512#32))
    (Host.divf
      (Host.negf
        (addf (broadcastInDim S8 ![] bcast_S_S8 (constant S_ FTy.f32 0#32))
          (mulf (broadcastInDim S8 ![] bcast_S_S8 (constant S_ FTy.f32 1073741824#32)) (sitofp FTy.f32 (iotaInDim S8 32 0)))))
      (broadcastInDim S8 ![] bcast_S_S8 (constant S_ FTy.f32 1098907648#32))) : FVec Ideal S8 .f32) (ix1 f)

/-- A token's coordinate along an axis of the square, as a word. -/
def coordWord (i : Fin 4096) (a : Fin 2) : BitVec 32 := BitVec.ofNat 32 (if a.val = 0 then i.val / 64 else i.val % 64)

/-- The angle a pair turns by. -/
def angle (i : Fin 4096) (a : Fin 2) (f : Fin 8) : EReal := FloatOps.sitofp (F := Ideal) FTy.f32 (coordWord i a) * inv f

theorem inv_at (a b : Fin 8) (h : a = b) :
  (Host.powf (broadcastInDim S8 ![] bcast_S_S8 (constant S_ FTy.f32 1176256512#32))
    (Host.divf
      (Host.negf
        (addf (broadcastInDim S8 ![] bcast_S_S8 (constant S_ FTy.f32 0#32))
          (mulf (broadcastInDim S8 ![] bcast_S_S8 (constant S_ FTy.f32 1073741824#32)) (sitofp FTy.f32 (iotaInDim S8 32 0)))))
      (broadcastInDim S8 ![] bcast_S_S8 (constant S_ FTy.f32 1098907648#32))) : FVec Ideal S8 .f32) (ix1 a) = inv b := by
  rw [h]; rfl

/-- Two columns side by side. -/
theorem coord_at (A B : IVec S4096x1 32) (hA : ∀ i, A (ix2 i (0 : Fin 1)) = BitVec.ofNat 32 (i.val / 64))
    (hB : ∀ i, B (ix2 i (0 : Fin 1)) = BitVec.ofNat 32 (i.val % 64)) (i : Fin 4096) (a b : Fin 2) (h : a = b) :
    concatenate S4096x2 1 [⟨S4096x1, A⟩, ⟨S4096x1, B⟩] concatenates_S4096x1_S4096x1_S4096x2_d1 (ix2 i a) = coordWord i b := by
  subst h
  match a with
  | ⟨0, _⟩ =>
    refine (concatenate_pair_apply_left (1 : Fin 2) A B _ (ix2 i (0 : Fin 2)) rfl (ix2 i (0 : Fin 1)) ?_).trans (hA i)
    intro b
    match b with
    | ⟨0, _⟩ => rfl
    | ⟨1, _⟩ => rfl
  | ⟨1, _⟩ =>
    refine (concatenate_pair_apply_right (1 : Fin 2) A B _ (ix2 i (1 : Fin 2)) rfl rfl (ix2 i (0 : Fin 1)) ?_ ?_).trans (hB i)
    · intro b hb
      match b with
      | ⟨0, _⟩ => rfl
      | ⟨1, _⟩ => exact absurd rfl hb
    · rfl

theorem rm (l : Fin 128) : S128.rowMajor (ix1 l) = l := Fin.ext (Shape.rowMajor_val_one _)

/-- A vector laid as a column. -/
theorem column1 {α : Type} (x : S128.Idx → α) (l : Fin 128) : broadcastInDim S128x1 ![0] bcast_S128_S128x1_0 x (ix2 l (0 : Fin 1)) = x (ix1 l) :=
  congrArg x (funext fun a => match a with | ⟨0, _⟩ => rfl)

/-- A vector laid as a row. -/
theorem row1 {α : Type} (x : S128.Idx → α) (l : Fin 128) : broadcastInDim S1x128 ![1] bcast_S128_S1x128_1 x (ix2 (0 : Fin 1) l) = x (ix1 l) :=
  congrArg x (funext fun a => match a with | ⟨0, _⟩ => rfl)

/-- The word of one. -/
theorem one_word : Ideal.ofBits FTy.f32 1065353216#32 = 1 := by
  simp [Ideal.ofBits, Ideal.ieee]
  rw [← EReal.coe_mul]
  norm_num

/-- The word of minus one. -/
theorem minus_word : Ideal.ofBits FTy.f32 3212836864#32 = -1 := by
  simp [Ideal.ofBits, Ideal.ieee]
  rw [← EReal.coe_mul]
  norm_num

theorem mask_word : ∀ l : Fin 128, IntOp.andi (lit3 l) 1#1 = if 64 ≤ l.val ∧ l.val < 96 then 1#1 else 0#1 := by decide +kernel
theorem axis_word : ∀ l : Fin 128, 64 ≤ l.val ∧ l.val < 96 →
    min (Scalar.select 0#1 (IntOp.addi (lit1 l) 2#32) (lit1 l)).toInt.toNat 1 = (l.val - 64) / 16 % 2 := by decide +kernel
theorem freq_word : ∀ l : Fin 128, 64 ≤ l.val ∧ l.val < 96 →
    min (Scalar.select 0#1 (IntOp.addi (lit2 l) 8#32) (lit2 l)).toInt.toNat 7 = (l.val - 64) % 8 := by decide +kernel
theorem sign_word : ∀ l : Fin 128, 64 ≤ l.val ∧ l.val < 96 → lit4 l = if (l.val - 64) % 16 < 8 then 1#1 else 0#1 := by decide +kernel

theorem select_one {α : Type} (w : BitVec 1) (h : w = 1#1) (a b : α) : Scalar.select w a b = a := by rw [h]; rfl
theorem select_zero {α : Type} (w : BitVec 1) (h : w = 0#1) (a b : α) : Scalar.select w a b = b := by rw [h]; rfl

theorem mask_in (l : Fin 128) (h : 64 ≤ l.val ∧ l.val < 96) : IntOp.andi (lit3 (S128.rowMajor (ix1 l))) 1#1 = 1#1 := by
  rw [rm, mask_word, if_pos h]
theorem mask_out (l : Fin 128) (h : ¬ (64 ≤ l.val ∧ l.val < 96)) : IntOp.andi (lit3 (S128.rowMajor (ix1 l))) 1#1 = 0#1 := by
  rw [rm, mask_word, if_neg h]

theorem axis_at (l : Fin 128) (h : 64 ≤ l.val ∧ l.val < 96) :
    min (broadcastInDim S128x1 ![0] bcast_S128_S128x1_0 (select (constantI S128 1 0#1)
      (addi (fun i => lit1 (S128.rowMajor i)) (broadcastInDim S128 ![] bcast_S_S128 (constantI S_ 32 2#32)))
      fun i => lit1 (S128.rowMajor i)) (ix2 l (0 : Fin 1))).toInt.toNat 1 = (l.val - 64) / 16 % 2 := by
  have e : broadcastInDim S128x1 ![0] bcast_S128_S128x1_0 (select (constantI S128 1 0#1)
      (addi (fun i => lit1 (S128.rowMajor i)) (broadcastInDim S128 ![] bcast_S_S128 (constantI S_ 32 2#32)))
      fun i => lit1 (S128.rowMajor i)) (ix2 l (0 : Fin 1)) = Scalar.select 0#1 (IntOp.addi (lit1 (S128.rowMajor (ix1 l))) 2#32) (lit1 (S128.rowMajor (ix1 l))) := by
    exact column1 _ l
  rw [e, rm]
  exact axis_word l h

theorem freq_at (l : Fin 128) (h : 64 ≤ l.val ∧ l.val < 96) :
    min (broadcastInDim S128x1 ![0] bcast_S128_S128x1_0 (select (constantI S128 1 0#1)
      (addi (fun i => lit2 (S128.rowMajor i)) (broadcastInDim S128 ![] bcast_S_S128 (constantI S_ 32 8#32)))
      fun i => lit2 (S128.rowMajor i)) (ix2 l (0 : Fin 1))).toInt.toNat 7 = (l.val - 64) % 8 := by
  have e : broadcastInDim S128x1 ![0] bcast_S128_S128x1_0 (select (constantI S128 1 0#1)
      (addi (fun i => lit2 (S128.rowMajor i)) (broadcastInDim S128 ![] bcast_S_S128 (constantI S_ 32 8#32)))
      fun i => lit2 (S128.rowMajor i)) (ix2 l (0 : Fin 1)) = Scalar.select 0#1 (IntOp.addi (lit2 (S128.rowMajor (ix1 l))) 8#32) (lit2 (S128.rowMajor (ix1 l))) := by
    exact column1 _ l
  rw [e, rm]
  exact freq_word l h

variable (m : (ℓ : Loc nD τ sig) → Buf (Elt Ideal) ℓ)

/-- The cosines: of the rotated lanes; one elsewhere. -/
theorem cos_apply (c : Dev nD) (i : Fin 4096) (n : Fin 768) :
    (V m c main_v75 : Vec Ideal S4096x768 .f32) (ix2 i n)
      = if 64 ≤ n.val % 128 ∧ n.val % 128 < 96 then
          Ideal.cos (angle i ⟨(n.val % 128 - 64) / 16 % 2, Nat.mod_lt _ (by decide)⟩ ⟨(n.val % 128 - 64) % 8, Nat.mod_lt _ (by decide)⟩)
        else (1 : EReal) := by
  unfold V
  after_reads_at
  rw [pick2_apply, pick8_apply]
  by_cases h : 64 ≤ n.val % 128 ∧ n.val % 128 < 96
  · refine (select_one _ (mask_in _ h) _ _).trans (Eq.trans ?_ (if_pos h).symm)
    refine congrArg Ideal.cos (congrArg₂ (fun a b : EReal => a * b) (congrArg (FloatOps.sitofp (F := Ideal) FTy.f32) (coord_at _ _ ?_ ?_ i _ _ (Fin.ext (axis_at _ h)))) (inv_at _ _ (Fin.ext (freq_at _ h))))
    · intro i
      after_reads_at
      exact floorWord_token i
    · intro i
      after_reads_at
      exact modWord_token i
  · refine (select_zero _ (mask_out _ h) _ _).trans (Eq.trans ?_ (if_neg h).symm)
    exact one_word

/-- The sign at a rotated lane: minus one in the first half of an axis' lanes. -/
theorem sign_at (l : Fin 128) (h : 64 ≤ l.val ∧ l.val < 96) :
    (id (broadcastInDim S1x128 ![1] bcast_S128_S1x128_1 (select (fun i => lit4 (S128.rowMajor i))
      (broadcastInDim S128 ![] bcast_S_S128 (constant S_ FTy.f32 3212836864#32))
      (broadcastInDim S128 ![] bcast_S_S128 (constant S_ FTy.f32 1065353216#32))) : FVec Ideal S1x128 .f32) (ix2 (0 : Fin 1) l) : EReal)
      = if (l.val - 64) % 16 < 8 then -1 else 1 := by
  refine (row1 _ l).trans ?_
  show Scalar.select (lit4 (S128.rowMajor (ix1 l))) (Ideal.ofBits FTy.f32 3212836864#32) (Ideal.ofBits FTy.f32 1065353216#32) = _
  rw [rm, sign_word l h, one_word, minus_word]
  by_cases h' : (l.val - 64) % 16 < 8
  · rw [if_pos h', if_pos h']; rfl
  · rw [if_neg h', if_neg h']; rfl

/-- The signed sines: of the rotated lanes; zero elsewhere. -/
theorem sin_apply (c : Dev nD) (i : Fin 4096) (n : Fin 768) :
    (V m c main_v78 : Vec Ideal S4096x768 .f32) (ix2 i n)
      = if 64 ≤ n.val % 128 ∧ n.val % 128 < 96 then
          Ideal.sin (angle i ⟨(n.val % 128 - 64) / 16 % 2, Nat.mod_lt _ (by decide)⟩ ⟨(n.val % 128 - 64) % 8, Nat.mod_lt _ (by decide)⟩)
            * (if (n.val % 128 - 64) % 16 < 8 then -1 else 1)
        else (0 : EReal) := by
  unfold V
  after_reads_at
  rw [pick2_apply, pick8_apply]
  by_cases h : 64 ≤ n.val % 128 ∧ n.val % 128 < 96
  · refine (select_one _ (mask_in _ h) _ _).trans (Eq.trans ?_ (if_pos h).symm)
    refine congrArg₂ (fun a b : EReal => a * b) (congrArg Ideal.sin (congrArg₂ (fun a b : EReal => a * b)
      (congrArg (FloatOps.sitofp (F := Ideal) FTy.f32) (coord_at _ _ ?_ ?_ i _ _ (Fin.ext (axis_at _ h)))) (inv_at _ _ (Fin.ext (freq_at _ h))))) (sign_at _ h)
    · intro i
      after_reads_at
      exact floorWord_token i
    · intro i
      after_reads_at
      exact modWord_token i
  · refine (select_zero _ (mask_out _ h) _ _).trans (Eq.trans ?_ (if_neg h).symm)
    exact Ideal.ofBits_zero_f32

end Cert.Proof.LatentHost

end
-- ==== Proof.Latent.lean ====
/-
  The latent up-projection: what the kernel's three result arrays hold, index by index. A grid point takes 256 tokens of
  one sample; each token's normed latents are multiplied by the weights, normed head by head and turned by its position.
-/
module

public import proofs.«01_k».proof.Proof.LatentBlock
public import proofs.«01_k».proof.Proof.LatentRope

@[expose] public section

noncomputable section

namespace Cert.Proof.Latent

open Cert.LatentIdeal Cert.LatentIdeal.Gen Cert.Proof.LatentMath Idealize.ShloMosaic Idealize.ShloMosaic.TcCoe Idealize.SL.Sem
open scoped BigOperators

/-- A token's normed key and value latents. -/
def latentRow (p : Vec Ideal S2x4096x416 .f32) (kvn : Vec Ideal S128 .f32) (b : Fin 2) (i : Fin 4096) (k : Fin 128) : EReal :=
  normed 0x43000000#32 (fun k : Fin 128 => p (ix3 b i ⟨256 + k.val, by omega⟩)) (fun k => kvn (ix1 k)) k

/-- A token's normed query latents. -/
def queryLatent (p : Vec Ideal S2x4096x416 .f32) (qn : Vec Ideal S256 .f32) (b : Fin 2) (i : Fin 4096) (k : Fin 256) : EReal :=
  normed 0x43800000#32 (fun k : Fin 256 => p (ix3 b i ⟨k.val, by omega⟩)) (fun k => qn (ix1 k)) k

/-- A token's query in a head, before the head's norm. -/
def queryRow (p : Vec Ideal S2x4096x416 .f32) (qn : Vec Ideal S256 .f32) (w : Vec Ideal S256x576 .f32) (b : Fin 2) (i : Fin 4096) (h : Fin 6) (d : Fin 96) : EReal :=
  ∑ k : Fin 256, queryLatent p qn b i k * w (ix2 k ⟨h.val * 96 + d.val, by omega⟩)

/-- A token's key and value product at a column. -/
def keyValue (p : Vec Ideal S2x4096x416 .f32) (kvn : Vec Ideal S128 .f32) (w : Vec Ideal S128x768 .f32) (b : Fin 2) (i : Fin 4096) (n : Fin 768) : EReal :=
  ∑ k : Fin 128, latentRow p kvn b i k * w (ix2 k n)

/-- A token's key in a head, before the head's norm: 64 entries of the product, 32 shared by the heads. -/
def keyRow (p : Vec Ideal S2x4096x416 .f32) (kvn : Vec Ideal S128 .f32) (w : Vec Ideal S128x768 .f32) (b : Fin 2) (i : Fin 4096) (h : Fin 6) (d : Fin 96) : EReal :=
  if d.val < 64 then keyValue p kvn w b i ⟨h.val * 128 + d.val, by omega⟩ else p (ix3 b i ⟨384 + (d.val - 64), by omega⟩)

/-- The cosines and sines of a token. -/
def cs (i : Fin 4096) (a : Fin 2) (f : Fin 8) : EReal := Ideal.cos (LatentHost.angle i a f)
def sn (i : Fin 4096) (a : Fin 2) (f : Fin 8) : EReal := Ideal.sin (LatentHost.angle i a f)

/-- A head's row normed and turned. -/
def headRow (i : Fin 4096) (x : Fin 96 → EReal) (g : Vec Ideal S96 .f32) (d : ℕ) : EReal :=
  turned (cs i) (sn i) (normed 0x42C00000#32 x fun d => g (ix1 d)) d

/-- The stored query at a lane. -/
def outQuery (p : Vec Ideal S2x4096x416 .f32) (qn : Vec Ideal S256 .f32) (w : Vec Ideal S256x576 .f32) (g : Vec Ideal S96 .f32) (b : Fin 2) (i : Fin 4096) (c : Fin 768) : EReal :=
  if c.val % 128 < 96 then headRow i (queryRow p qn w b i ⟨c.val / 128, by omega⟩) g (c.val % 128) * Ideal.ofBits FTy.f32 0x3DD105EC#32 else 0

/-- The stored key at a lane. -/
def outKey (p : Vec Ideal S2x4096x416 .f32) (kvn : Vec Ideal S128 .f32) (w : Vec Ideal S128x768 .f32) (g : Vec Ideal S96 .f32) (b : Fin 2) (i : Fin 4096) (c : Fin 768) : EReal :=
  if c.val % 128 < 96 then headRow i (keyRow p kvn w b i ⟨c.val / 128, by omega⟩) g (c.val % 128) else 0

/-- The stored value at a column. -/
def outValue (p : Vec Ideal S2x4096x416 .f32) (kvn : Vec Ideal S128 .f32) (w : Vec Ideal S128x768 .f32) (b : Fin 2) (i : Fin 4096) (n : Fin 384) : EReal :=
  keyValue p kvn w b i ⟨n.val / 64 * 128 + (64 + n.val % 64), by omega⟩

/-- Every entry of an array is a real number. -/
def AllReal {s : Shape} {φ : FTy} (x : FVec Ideal s φ) : Prop := ∀ y, ∃ r : ℝ, (x y : EReal) = (r : EReal)

theorem word256 : Ideal.ofBits FTy.f32 0x43800000#32 = ((256 : ℝ) : EReal) := by
  simp [Ideal.ofBits, Ideal.ieee]
  rw [← EReal.coe_mul]
  norm_num

theorem word128 : Ideal.ofBits FTy.f32 0x43000000#32 = ((128 : ℝ) : EReal) := by
  simp [Ideal.ofBits, Ideal.ieee]
  rw [← EReal.coe_mul]
  norm_num

/-- A sum of products of reals is real. -/
theorem sum_real {n : ℕ} (x y : Fin n → EReal) (hx : ∀ k, ∃ r : ℝ, x k = (r : EReal)) (hy : ∀ k, ∃ r : ℝ, y k = (r : EReal)) :
    ∃ r : ℝ, (∑ k, x k * y k) = (r : EReal) := by
  choose a ha using hx
  choose b hb using hy
  refine ⟨∑ k, a k * b k, ?_⟩
  rw [Softmax.coe_sum]
  exact Finset.sum_congr rfl fun k _ => by rw [ha k, hb k]; exact (EReal.coe_mul _ _).symm

theorem latentRow_real (p : Vec Ideal S2x4096x416 .f32) (kvn : Vec Ideal S128 .f32) (hp : AllReal (φ := .f32) p) (hk : AllReal (φ := .f32) kvn) (b : Fin 2) (i : Fin 4096) (k : Fin 128) :
    ∃ r : ℝ, latentRow p kvn b i k = (r : EReal) :=
  normed_real _ 128 (by norm_num) word128 _ _ (fun _ => hp _) (fun _ => hk _) k

theorem queryLatent_real (p : Vec Ideal S2x4096x416 .f32) (qn : Vec Ideal S256 .f32) (hp : AllReal (φ := .f32) p) (hk : AllReal (φ := .f32) qn) (b : Fin 2) (i : Fin 4096) (k : Fin 256) :
    ∃ r : ℝ, queryLatent p qn b i k = (r : EReal) :=
  normed_real _ 256 (by norm_num) word256 _ _ (fun _ => hp _) (fun _ => hk _) k

theorem queryRow_real (p : Vec Ideal S2x4096x416 .f32) (qn : Vec Ideal S256 .f32) (w : Vec Ideal S256x576 .f32) (hp : AllReal (φ := .f32) p) (hk : AllReal (φ := .f32) qn) (hw : AllReal (φ := .f32) w)
    (b : Fin 2) (i : Fin 4096) (h : Fin 6) (d : Fin 96) : ∃ r : ℝ, queryRow p qn w b i h d = (r : EReal) :=
  sum_real _ _ (fun k => queryLatent_real p qn hp hk b i k) (fun _ => hw _)

theorem keyRow_real (p : Vec Ideal S2x4096x416 .f32) (kvn : Vec Ideal S128 .f32) (w : Vec Ideal S128x768 .f32) (hp : AllReal (φ := .f32) p) (hk : AllReal (φ := .f32) kvn) (hw : AllReal (φ := .f32) w)
    (b : Fin 2) (i : Fin 4096) (h : Fin 6) (d : Fin 96) : ∃ r : ℝ, keyRow p kvn w b i h d = (r : EReal) := by
  unfold keyRow
  split
  · exact sum_real _ _ (fun k => latentRow_real p kvn hp hk b i k) (fun _ => hw _)
  · exact hp _

/-- The query product on lanes. -/
theorem queryLanes (p : Vec Ideal S2x4096x416 .f32) (qn : Vec Ideal S256 .f32) (w : Vec Ideal S256x576 .f32) (b : Fin 2) (i : Fin 4096) (r : Fin 256)
    (x0 : Vec Ideal S1x256x416 .f32) (x1 : Vec Ideal S1x256 .f32) (x2 : Vec Ideal S256x768 .bf16)
    (h0 : ∀ l, x0 (ix3 (0 : Fin 1) r l) = p (ix3 b i l)) (h1 : ∀ l, x1 (ix2 (0 : Fin 1) l) = qn (ix1 l))
    (h2 : ∀ (k : Fin 256) (n : Fin 768), x2 (ix2 k n) = if h : n.val % 128 < 96 then w (ix2 k ⟨n.val / 128 * 96 + n.val % 128, by omega⟩) else (0 : EReal)) (c : Fin 768) :
    k0_pay5 x0 x1 x2 (ix2 r c) = padded (queryRow p qn w b i) c := by
  rw [LatentBlock.query_apply]
  unfold padded
  by_cases h : c.val % 128 < 96
  · rw [if_pos h]
    unfold queryRow queryLatent
    refine Finset.sum_congr rfl fun k _ => congrArg₂ (fun a b : EReal => a * b) ?_ (((h2 k c).trans (dif_pos h)).trans ?_)
    · exact congrArg₂ (fun x g => normed 0x43800000#32 x g k) (funext fun k => h0 _) (funext h1)
    · refine congrArg w (congrArg (ix2 k) (Fin.ext ?_))
      show c.val / 128 * 96 + c.val % 128 = c.val / 128 * 96 + c.val % 128 % 96
      rw [Nat.mod_eq_of_lt h]
  · rw [if_neg h]
    exact Finset.sum_eq_zero fun k _ => by rw [(h2 k c).trans (dif_neg h), mul_zero]

/-- The key product and the shared part on lanes. -/
theorem keyLanes (p : Vec Ideal S2x4096x416 .f32) (kvn : Vec Ideal S128 .f32) (w : Vec Ideal S128x768 .f32) (hp : AllReal (φ := .f32) p) (b : Fin 2) (i : Fin 4096) (r : Fin 256)
    (x0 : Vec Ideal S1x256x416 .f32) (x3 : Vec Ideal S1x128 .f32) (x4 : Vec Ideal S128x768 .bf16) (x6 : Vec Ideal S32x768 .bf16)
    (h0 : ∀ l, x0 (ix3 (0 : Fin 1) r l) = p (ix3 b i l)) (h3 : ∀ l, x3 (ix2 (0 : Fin 1) l) = kvn (ix1 l))
    (h4 : ∀ (k : Fin 128) (n : Fin 768), x4 (ix2 k n) = if n.val % 128 < 64 then w (ix2 k n) else (0 : EReal))
    (h6 : ∀ (j : Fin 32) (n : Fin 768), x6 (ix2 j n) = if n.val % 128 = 64 + j.val then (1 : EReal) else 0) (c : Fin 768) :
    k0_pay8 (k0_pay3 x0) (k0_pay6 x0 x3) (k0_pay7 x4) x6 (ix2 r c) = padded (keyRow p kvn w b i) c := by
  rw [LatentBlock.key_apply]
  have hz : (∑ j : Fin 32, (x0 (ix3 (0 : Fin 1) r ⟨384 + j.val, by omega⟩) - x0 (ix3 (0 : Fin 1) r ⟨384 + j.val, by omega⟩) : EReal) * x6 (ix2 j c)) = 0 := by
    refine Finset.sum_eq_zero fun j _ => ?_
    obtain ⟨t, ht⟩ := hp (ix3 b i ⟨384 + j.val, by omega⟩)
    rw [(h0 _).trans ht]
    have e : ((t : EReal) - (t : EReal)) = 0 := by rw [← EReal.coe_sub, sub_self]; rfl
    rw [e, zero_mul]
  have hs : (∑ j : Fin 32, (x0 (ix3 (0 : Fin 1) r ⟨384 + j.val, by omega⟩) : EReal) * x6 (ix2 j c))
      = if h : 64 ≤ c.val % 128 ∧ c.val % 128 < 96 then p (ix3 b i ⟨384 + (c.val % 128 - 64), by omega⟩) else 0 := by
    refine Eq.trans (Finset.sum_congr rfl fun j _ => ?_) (sum_place (fun j => p (ix3 b i ⟨384 + j.val, by omega⟩)) c)
    exact congrArg₂ (fun a b : EReal => a * b) (h0 _) (h6 j c)
  have ha : c.val % 128 < 64 → (∑ k : Fin 128, normed 0x43000000#32 (fun k : Fin 128 => x0 (ix3 (0 : Fin 1) r ⟨256 + k.val, by omega⟩)) (fun k => x3 (ix2 (0 : Fin 1) k)) k * x4 (ix2 k c))
      = keyValue p kvn w b i c := fun h => by
    unfold keyValue latentRow
    refine Finset.sum_congr rfl fun k _ => congrArg₂ (fun a b : EReal => a * b) ?_ ((h4 k c).trans (if_pos h))
    exact congrArg₂ (fun x g => normed 0x43000000#32 x g k) (funext fun k => h0 _) (funext h3)
  have ha' : ¬ c.val % 128 < 64 → (∑ k : Fin 128, normed 0x43000000#32 (fun k : Fin 128 => x0 (ix3 (0 : Fin 1) r ⟨256 + k.val, by omega⟩)) (fun k => x3 (ix2 (0 : Fin 1) k)) k * x4 (ix2 k c))
      = 0 := fun h => Finset.sum_eq_zero fun k _ => by rw [(h4 k c).trans (if_neg h), mul_zero]
  rw [hz, hs, add_zero]
  unfold padded keyRow
  by_cases h : c.val % 128 < 64
  · have he : (ent (c.val % 128)).val = c.val % 128 := Nat.mod_eq_of_lt (by omega)
    rw [ha h, dif_neg (by omega), add_zero, if_pos (show c.val % 128 < 96 by omega), if_pos (by rw [he]; exact h)]
    refine congrArg (keyValue p kvn w b i) (Fin.ext ?_)
    show c.val = c.val / 128 * 128 + (ent (c.val % 128)).val
    rw [he]; omega
  · rw [ha' h, zero_add]
    by_cases h' : c.val % 128 < 96
    · have he : (ent (c.val % 128)).val = c.val % 128 := Nat.mod_eq_of_lt (by omega)
      rw [dif_pos ⟨by omega, h'⟩, if_pos h', if_neg (by rw [he]; exact h)]
      refine congrArg p (congrArg (ix3 b i) (Fin.ext ?_))
      show 384 + (c.val % 128 - 64) = 384 + ((ent (c.val % 128)).val - 64)
      rw [he]
    · rw [dif_neg (fun e => h' e.2), if_neg h']

/-- Lanes normed and turned are heads normed and turned. -/
theorem lanes_eq (i : Fin 4096) (x : Fin 6 → Fin 96 → EReal) (hx : ∀ h d, ∃ r : ℝ, x h d = (r : EReal)) (g : Vec Ideal S96 .f32)
    (C S G X : Fin 768 → EReal) (H : Fin 768 → Fin 768 → EReal) (hX : ∀ c, X c = padded x c)
    (hH : ∀ k c : Fin 768, H k c = if k.val / 128 = c.val / 128 then 1 else 0)
    (hG : ∀ c : Fin 768, G c = if c.val % 128 < 96 then g (ix1 (ent (c.val % 128))) else (0 : EReal))
    (hC : ∀ c : Fin 768, C c = if 64 ≤ c.val % 128 ∧ c.val % 128 < 96
      then cs i ⟨(c.val % 128 - 64) / 16 % 2, Nat.mod_lt _ (by decide)⟩ ⟨(c.val % 128 - 64) % 8, Nat.mod_lt _ (by decide)⟩ else 1)
    (hS : ∀ c : Fin 768, S c = if 64 ≤ c.val % 128 ∧ c.val % 128 < 96
      then sn i ⟨(c.val % 128 - 64) / 16 % 2, Nat.mod_lt _ (by decide)⟩ ⟨(c.val % 128 - 64) % 8, Nat.mod_lt _ (by decide)⟩
        * (if (c.val % 128 - 64) % 16 < 8 then -1 else 1) else 0) (c : Fin 768) :
    laneTurned C S (laneNormed H ((1 / 96 : ℝ) : EReal) X G) c
      = if c.val % 128 < 96 then headRow i (x ⟨c.val / 128, by omega⟩) g (c.val % 128) else 0 := by
  rw [funext hX, funext (laneNormed_eq H x (fun d => g (ix1 d)) G hx hH hG)]
  exact laneTurned_eq (cs i) (sn i) C S _ hC hS c

variable (m : (ℓ : Loc nD τ sig) → Buf (Elt Ideal) ℓ)
theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![(grid0.coords t 1).val, 0] :=
  (by decide +kernel : ∀ t : Fin grid0.N, win0_10.index t = ![(grid0.coords t 1).val, 0])
theorem index11 : ∀ t : Fin cfg0.N, win0_11.index t = ![(grid0.coords t 1).val, 0] :=
  (by decide +kernel : ∀ t : Fin grid0.N, win0_11.index t = ![(grid0.coords t 1).val, 0])
theorem index12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])
theorem index13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])
theorem index14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])

/-- The sample a grid point works on. -/
def sample (t : Fin cfg0.N) : Fin 2 := ⟨(grid0.coords t 0).val, (grid0.coords t 0).isLt⟩
/-- The token a grid point's block has at row `r`. -/
def token (t : Fin cfg0.N) (r : Fin 256) : Fin 4096 :=
  ⟨(grid0.coords t 1).val * 256 + r.val, by have : (grid0.coords t 1).val < 16 := (grid0.coords t 1).isLt; omega⟩

/-- The latents' block of a grid point, of any array. -/
theorem read0 (X : Vec Ideal S2x4096x416 .f32) (t : Fin cfg0.N) (r : Fin 256) (l : Fin 416) :
    ((win0_0.blk t).view.read (Elt Ideal) X : Vec Ideal S1x256x416 .f32) (ix3 (0 : Fin 1) r l) = X (ix3 (sample t) (token t r) l) := by
  refine congrArg X (funext fun a => Fin.ext ?_)
  refine (Pipeline.Window.rect_emb_val win0_0 t _ a).trans ?_
  match a with
  | ⟨0, _⟩ => show win0_0.index t 0 * 1 + 0 = (grid0.coords t 0).val; rw [index0]; show (grid0.coords t 0).val * 1 + 0 = _; omega
  | ⟨1, _⟩ => show win0_0.index t 1 * 256 + r.val = (grid0.coords t 1).val * 256 + r.val; rw [index0]; rfl
  | ⟨2, _⟩ => show win0_0.index t 2 * 416 + l.val = l.val; rw [index0]; show 0 * 416 + l.val = l.val; omega

/-- Input 1's block of a grid point, of any array: all of it. -/
theorem read1 (X : Vec Ideal S1x256 .f32) (t : Fin cfg0.N) (k : Fin 1) (l : Fin 256) :
    ((win0_1.blk t).view.read (Elt Ideal) X : Vec Ideal S1x256 .f32) (ix2 k l) = X (ix2 k l) := by
  refine congrArg X (funext fun a => Fin.ext ?_)
  refine (Pipeline.Window.rect_emb_val win0_1 t _ a).trans ?_
  match a with
  | ⟨0, _⟩ => show win0_1.index t 0 * 1 + k.val = k.val; rw [index1]; show 0 * 1 + k.val = _; omega
  | ⟨1, _⟩ => show win0_1.index t 1 * 256 + l.val = l.val; rw [index1]; show 0 * 256 + l.val = l.val; omega

/-- Input 2's block of a grid point, of any array: all of it. -/
theorem read2 (X : Vec Ideal S256x768 .bf16) (t : Fin cfg0.N) (k : Fin 256) (l : Fin 768) :
    ((win0_2.blk t).view.read (Elt Ideal) X : Vec Ideal S256x768 .bf16) (ix2 k l) = X (ix2 k l) := by
  refine congrArg X (funext fun a => Fin.ext ?_)
  refine (Pipeline.Window.rect_emb_val win0_2 t _ a).trans ?_
  match a with
  | ⟨0, _⟩ => show win0_2.index t 0 * 256 + k.val = k.val; rw [index2]; show 0 * 256 + k.val = _; omega
  | ⟨1, _⟩ => show win0_2.index t 1 * 768 + l.val = l.val; rw [index2]; show 0 * 768 + l.val = l.val; omega

/-- Input 3's block of a grid point, of any array: all of it. -/
theorem read3 (X : Vec Ideal S1x128 .f32) (t : Fin cfg0.N) (k : Fin 1) (l : Fin 128) :
    ((win0_3.blk t).view.read (Elt Ideal) X : Vec Ideal S1x128 .f32) (ix2 k l) = X (ix2 k l) := by
  refine congrArg X (funext fun a => Fin.ext ?_)
  refine (Pipeline.Window.rect_emb_val win0_3 t _ a).trans ?_
  match a with
  | ⟨0, _⟩ => show win0_3.index t 0 * 1 + k.val = k.val; rw [index3]; show 0 * 1 + k.val = _; omega
  | ⟨1, _⟩ => show win0_3.index t 1 * 128 + l.val = l.val; rw [index3]; show 0 * 128 + l.val = l.val; omega

/-- Input 4's block of a grid point, of any array: all of it. -/
theorem read4 (X : Vec Ideal S128x768 .bf16) (t : Fin cfg0.N) (k : Fin 128) (l : Fin 768) :
    ((win0_4.blk t).view.read (Elt Ideal) X : Vec Ideal S128x768 .bf16) (ix2 k l) = X (ix2 k l) := by
  refine congrArg X (funext fun a => Fin.ext ?_)
  refine (Pipeline.Window.rect_emb_val win0_4 t _ a).trans ?_
  match a with
  | ⟨0, _⟩ => show win0_4.index t 0 * 128 + k.val = k.val; rw [index4]; show 0 * 128 + k.val = _; omega
  | ⟨1, _⟩ => show win0_4.index t 1 * 768 + l.val = l.val; rw [index4]; show 0 * 768 + l.val = l.val; omega

/-- Input 5's block of a grid point, of any array: all of it. -/
theorem read5 (X : Vec Ideal S128x384 .bf16) (t : Fin cfg0.N) (k : Fin 128) (l : Fin 384) :
    ((win0_5.blk t).view.read (Elt Ideal) X : Vec Ideal S128x384 .bf16) (ix2 k l) = X (ix2 k l) := by
  refine congrArg X (funext fun a => Fin.ext ?_)
  refine (Pipeline.Window.rect_emb_val win0_5 t _ a).trans ?_
  match a with
  | ⟨0, _⟩ => show win0_5.index t 0 * 128 + k.val = k.val; rw [index5]; show 0 * 128 + k.val = _; omega
  | ⟨1, _⟩ => show win0_5.index t 1 * 384 + l.val = l.val; rw [index5]; show 0 * 384 + l.val = l.val; omega

/-- Input 6's block of a grid point, of any array: all of it. -/
theorem read6 (X : Vec Ideal S32x768 .bf16) (t : Fin cfg0.N) (k : Fin 32) (l : Fin 768) :
    ((win0_6.blk t).view.read (Elt Ideal) X : Vec Ideal S32x768 .bf16) (ix2 k l) = X (ix2 k l) := by
  refine congrArg X (funext fun a => Fin.ext ?_)
  refine (Pipeline.Window.rect_emb_val win0_6 t _ a).trans ?_
  match a with
  | ⟨0, _⟩ => show win0_6.index t 0 * 32 + k.val = k.val; rw [index6]; show 0 * 32 + k.val = _; omega
  | ⟨1, _⟩ => show win0_6.index t 1 * 768 + l.val = l.val; rw [index6]; show 0 * 768 + l.val = l.val; omega

/-- Input 7's block of a grid point, of any array: all of it. -/
theorem read7 (X : Vec Ideal S1x768 .f32) (t : Fin cfg0.N) (k : Fin 1) (l : Fin 768) :
    ((win0_7.blk t).view.read (Elt Ideal) X : Vec Ideal S1x768 .f32) (ix2 k l) = X (ix2 k l) := by
  refine congrArg X (funext fun a => Fin.ext ?_)
  refine (Pipeline.Window.rect_emb_val win0_7 t _ a).trans ?_
  match a with
  | ⟨0, _⟩ => show win0_7.index t 0 * 1 + k.val = k.val; rw [index7]; show 0 * 1 + k.val = _; omega
  | ⟨1, _⟩ => show win0_7.index t 1 * 768 + l.val = l.val; rw [index7]; show 0 * 768 + l.val = l.val; omega

/-- Input 8's block of a grid point, of any array: all of it. -/
theorem read8 (X : Vec Ideal S1x768 .f32) (t : Fin cfg0.N) (k : Fin 1) (l : Fin 768) :
    ((win0_8.blk t).view.read (Elt Ideal) X : Vec Ideal S1x768 .f32) (ix2 k l) = X (ix2 k l) := by
  refine congrArg X (funext fun a => Fin.ext ?_)
  refine (Pipeline.Window.rect_emb_val win0_8 t _ a).trans ?_
  match a with
  | ⟨0, _⟩ => show win0_8.index t 0 * 1 + k.val = k.val; rw [index8]; show 0 * 1 + k.val = _; omega
  | ⟨1, _⟩ => show win0_8.index t 1 * 768 + l.val = l.val; rw [index8]; show 0 * 768 + l.val = l.val; omega

/-- Input 9's block of a grid point, of any array: all of it. -/
theorem read9 (X : Vec Ideal S768x768 .bf16) (t : Fin cfg0.N) (k : Fin 768) (l : Fin 768) :
    ((win0_9.blk t).view.read (Elt Ideal) X : Vec Ideal S768x768 .bf16) (ix2 k l) = X (ix2 k l) := by
  refine congrArg X (funext fun a => Fin.ext ?_)
  refine (Pipeline.Window.rect_emb_val win0_9 t _ a).trans ?_
  match a with
  | ⟨0, _⟩ => show win0_9.index t 0 * 768 + k.val = k.val; rw [index9]; show 0 * 768 + k.val = _; omega
  | ⟨1, _⟩ => show win0_9.index t 1 * 768 + l.val = l.val; rw [index9]; show 0 * 768 + l.val = l.val; omega

/-- Input 10's block of a grid point, of any array. -/
theorem read10 (X : Vec Ideal S4096x768 .f32) (t : Fin cfg0.N) (r : Fin 256) (l : Fin 768) :
    ((win0_10.blk t).view.read (Elt Ideal) X : Vec Ideal S256x768 .f32) (ix2 r l) = X (ix2 (token t r) l) := by
  refine congrArg X (funext fun a => Fin.ext ?_)
  refine (Pipeline.Window.rect_emb_val win0_10 t _ a).trans ?_
  match a with
  | ⟨0, _⟩ => show win0_10.index t 0 * 256 + r.val = (grid0.coords t 1).val * 256 + r.val; rw [index10]; rfl
  | ⟨1, _⟩ => show win0_10.index t 1 * 768 + l.val = l.val; rw [index10]; show 0 * 768 + l.val = l.val; omega

/-- Input 11's block of a grid point, of any array. -/
theorem read11 (X : Vec Ideal S4096x768 .f32) (t : Fin cfg0.N) (r : Fin 256) (l : Fin 768) :
    ((win0_11.blk t).view.read (Elt Ideal) X : Vec Ideal S256x768 .f32) (ix2 r l) = X (ix2 (token t r) l) := by
  refine congrArg X (funext fun a => Fin.ext ?_)
  refine (Pipeline.Window.rect_emb_val win0_11 t _ a).trans ?_
  match a with
  | ⟨0, _⟩ => show win0_11.index t 0 * 256 + r.val = (grid0.coords t 1).val * 256 + r.val; rw [index11]; rfl
  | ⟨1, _⟩ => show win0_11.index t 1 * 768 + l.val = l.val; rw [index11]; show 0 * 768 + l.val = l.val; omega

/-- The query result array. -/
def resultQuery (c : Dev nD) : Vec Ideal S2x4096x768 .bf16 := fun y =>
  outQuery (m ((c : Thread nD τ).loc main_arg0)) (m ((c : Thread nD τ).loc main_arg1)) (m ((c : Thread nD τ).loc main_arg2)) (m ((c : Thread nD τ).loc main_arg5)) (y 0) (y 1) (y 2)

/-- The key result array. -/
def resultKey (c : Dev nD) : Vec Ideal S2x4096x768 .bf16 := fun y =>
  outKey (m ((c : Thread nD τ).loc main_arg0)) (m ((c : Thread nD τ).loc main_arg3)) (m ((c : Thread nD τ).loc main_arg4)) (m ((c : Thread nD τ).loc main_arg6)) (y 0) (y 1) (y 2)

/-- The value result array. -/
def resultValue (c : Dev nD) : Vec Ideal S2x4096x384 .bf16 := fun y =>
  outValue (m ((c : Thread nD τ).loc main_arg0)) (m ((c : Thread nD τ).loc main_arg3)) (m ((c : Thread nD τ).loc main_arg4)) (y 0) (y 1) (y 2)

theorem covers12 : (cfg0.win 12).Covers := by decide +kernel
theorem covers13 : (cfg0.win 13).Covers := by decide +kernel
theorem covers14 : (cfg0.win 14).Covers := by decide +kernel

/-- Where an element of a result's block lies in the array. -/
theorem place12 (t : Fin cfg0.N) (y : S1x256x768.Idx) : (((cfg0.win 12).blk t).view.emb y : S2x4096x768.Idx) = ix3 (sample t) (token t (y 1)) (y 2) := by
  blk_ext [sample, token, index12 t]
theorem place13 (t : Fin cfg0.N) (y : S1x256x768.Idx) : (((cfg0.win 13).blk t).view.emb y : S2x4096x768.Idx) = ix3 (sample t) (token t (y 1)) (y 2) := by
  blk_ext [sample, token, index13 t]
theorem place14 (t : Fin cfg0.N) (y : S1x256x384.Idx) : (((cfg0.win 14).blk t).view.emb y : S2x4096x384.Idx) = ix3 (sample t) (token t (y 1)) (y 2) := by
  blk_ext [sample, token, index14 t]

/-- The finite arguments. -/
structure Finite (c : Dev nD) : Prop where
  p : AllReal (φ := .f32) (s := S2x4096x416) (m ((c : Thread nD τ).loc main_arg0))
  qn : AllReal (φ := .f32) (s := S256) (m ((c : Thread nD τ).loc main_arg1))
  wq : AllReal (φ := .f32) (s := S256x576) (m ((c : Thread nD τ).loc main_arg2))
  kvn : AllReal (φ := .f32) (s := S128) (m ((c : Thread nD τ).loc main_arg3))
  wkv : AllReal (φ := .f32) (s := S128x768) (m ((c : Thread nD τ).loc main_arg4))

/-- A grid point's query block. -/
theorem block12 (c : Dev nD) (hf : Finite m c) (t : Fin cfg0.N) (r : Fin 256) (n : Fin 768) :
    laneTurned (fun n => (iblk m c 10 t : Vec Ideal S256x768 .f32) (ix2 r n)) (fun n => (iblk m c 11 t : Vec Ideal S256x768 .f32) (ix2 r n))
        (laneNormed (fun k n => (iblk m c 9 t : Vec Ideal S768x768 .bf16) (ix2 k n)) ((1 / 96 : ℝ) : EReal)
          (fun n => k0_pay5 (iblk m c 0 t : Vec Ideal S1x256x416 .f32) (iblk m c 1 t : Vec Ideal S1x256 .f32) (iblk m c 2 t : Vec Ideal S256x768 .bf16) (ix2 r n))
          (fun n => (iblk m c 7 t : Vec Ideal S1x768 .f32) (ix2 (0 : Fin 1) n))) n * Ideal.ofBits FTy.f32 0x3DD105EC#32
      = resultQuery m c (ix3 (sample t) (token t r) n) := by
  refine (congrArg (· * Ideal.ofBits FTy.f32 0x3DD105EC#32) (lanes_eq (token t r)
    (queryRow (m ((c : Thread nD τ).loc main_arg0)) (m ((c : Thread nD τ).loc main_arg1)) (m ((c : Thread nD τ).loc main_arg2)) (sample t) (token t r))
    (queryRow_real _ _ _ hf.p hf.qn hf.wq _ _) (m ((c : Thread nD τ).loc main_arg5)) _ _ _ _ _ ?_ ?_ ?_ ?_ ?_ n)).trans ?_
  · refine queryLanes _ _ _ _ _ _ _ _ _ (fun l => ?_) (fun l => ?_) (fun k n => ?_)
    · exact (read0 (V m c main_arg0) t r l).trans (congrFun (V_main_arg0 m c) _)
    · exact (read1 (V m c main_v79) t 0 l).trans (LatentHost.qn_apply m c l)
    · exact (read2 (V m c main_v3) t k n).trans (LatentHost.wq_apply m c k n)
  · exact fun k n => (read9 (V m c main_v30) t k n).trans (LatentHost.hsum_apply m c k n)
  · exact fun n => (read7 (V m c main_v85) t 0 n).trans (LatentHost.gq_apply m c n)
  · exact fun n => (read10 (V m c main_v75) t r n).trans (LatentHost.cos_apply m c (token t r) n)
  · exact fun n => (read11 (V m c main_v78) t r n).trans (LatentHost.sin_apply m c (token t r) n)
  · show _ = outQuery _ _ _ _ (sample t) (token t r) n
    unfold outQuery
    by_cases h : n.val % 128 < 96
    · rw [if_pos h, if_pos h]
    · rw [if_neg h, if_neg h, zero_mul]

/-- A grid point's key block. -/
theorem block13 (c : Dev nD) (hf : Finite m c) (t : Fin cfg0.N) (r : Fin 256) (n : Fin 768) :
    laneTurned (fun n => (iblk m c 10 t : Vec Ideal S256x768 .f32) (ix2 r n)) (fun n => (iblk m c 11 t : Vec Ideal S256x768 .f32) (ix2 r n))
        (laneNormed (fun k n => (iblk m c 9 t : Vec Ideal S768x768 .bf16) (ix2 k n)) ((1 / 96 : ℝ) : EReal)
          (fun n => k0_pay8 (k0_pay3 (iblk m c 0 t : Vec Ideal S1x256x416 .f32)) (k0_pay6 (iblk m c 0 t : Vec Ideal S1x256x416 .f32) (iblk m c 3 t : Vec Ideal S1x128 .f32))
            (k0_pay7 (iblk m c 4 t : Vec Ideal S128x768 .bf16)) (iblk m c 6 t : Vec Ideal S32x768 .bf16) (ix2 r n))
          (fun n => (iblk m c 8 t : Vec Ideal S1x768 .f32) (ix2 (0 : Fin 1) n))) n
      = resultKey m c (ix3 (sample t) (token t r) n) := by
  refine lanes_eq (token t r)
    (keyRow (m ((c : Thread nD τ).loc main_arg0)) (m ((c : Thread nD τ).loc main_arg3)) (m ((c : Thread nD τ).loc main_arg4)) (sample t) (token t r))
    (keyRow_real _ _ _ hf.p hf.kvn hf.wkv _ _) (m ((c : Thread nD τ).loc main_arg6)) _ _ _ _ _ ?_ ?_ ?_ ?_ ?_ n
  · refine keyLanes _ _ _ hf.p _ _ _ _ _ _ _ (fun l => ?_) (fun l => ?_) (fun k n => ?_) (fun j n => ?_)
    · exact (read0 (V m c main_arg0) t r l).trans (congrFun (V_main_arg0 m c) _)
    · exact (read3 (V m c main_v80) t 0 l).trans (LatentHost.kvn_apply m c l)
    · exact (read4 (V m c main_v10) t k n).trans (LatentHost.wk_apply m c k n)
    · exact (read6 (V m c main_v22) t j n).trans (LatentHost.place_apply m c j n)
  · exact fun k n => (read9 (V m c main_v30) t k n).trans (LatentHost.hsum_apply m c k n)
  · exact fun n => (read8 (V m c main_v90) t 0 n).trans (LatentHost.gk_apply m c n)
  · exact fun n => (read10 (V m c main_v75) t r n).trans (LatentHost.cos_apply m c (token t r) n)
  · exact fun n => (read11 (V m c main_v78) t r n).trans (LatentHost.sin_apply m c (token t r) n)

/-- A grid point's value block. -/
theorem block14 (c : Dev nD) (t : Fin cfg0.N) (r : Fin 256) (n : Fin 384) :
    (∑ k : Fin 128, normed 0x43000000#32 (fun k : Fin 128 => (iblk m c 0 t : Vec Ideal S1x256x416 .f32) (ix3 (0 : Fin 1) r ⟨256 + k.val, by omega⟩))
        (fun k => (iblk m c 3 t : Vec Ideal S1x128 .f32) (ix2 (0 : Fin 1) k)) k * (iblk m c 5 t : Vec Ideal S128x384 .bf16) (ix2 k n))
      = resultValue m c (ix3 (sample t) (token t r) n) := by
  show _ = keyValue _ _ _ (sample t) (token t r) _
  unfold keyValue latentRow
  refine Finset.sum_congr rfl fun k _ => congrArg₂ (fun a b : EReal => a * b) ?_ ?_
  · refine congrArg₂ (fun x g => normed 0x43000000#32 x g k) (funext fun l => ?_) (funext fun l => ?_)
    · exact (read0 (V m c main_arg0) t r _).trans (congrFun (V_main_arg0 m c) _)
    · exact (read3 (V m c main_v80) t 0 l).trans (LatentHost.kvn_apply m c l)
  · exact (read5 (V m c main_v13) t k n).trans (LatentHost.wv_apply m c k n)

/-- After the run the query result array is `resultQuery`. -/
theorem final12 (c : Dev nD) (hf : Finite m c) : (dats m 0 c).arrAt 12 cfg0.N = resultQuery m c := by
  refine (dats m 0 c).arrAt_eq_of_covers 12 _ covers12 fun t _ y => ?_
  blk_simp
  rw [after0_12]
  exact (LatentBlock.out12_eq _ _ _ _ _ _ _ _ _ _ _ _ y).trans ((block12 m c hf t (y 1) (y 2)).trans (congrArg (resultQuery m c) (place12 t y)).symm)

/-- After the run the key result array is `resultKey`. -/
theorem final13 (c : Dev nD) (hf : Finite m c) : (dats m 0 c).arrAt 13 cfg0.N = resultKey m c := by
  refine (dats m 0 c).arrAt_eq_of_covers 13 _ covers13 fun t _ y => ?_
  blk_simp
  rw [after0_13]
  exact (LatentBlock.out13_eq _ _ _ _ _ _ _ _ _ _ _ _ y).trans ((block13 m c hf t (y 1) (y 2)).trans (congrArg (resultKey m c) (place13 t y)).symm)

/-- After the run the value result array is `resultValue`. -/
theorem final14 (c : Dev nD) : (dats m 0 c).arrAt 14 cfg0.N = resultValue m c := by
  refine (dats m 0 c).arrAt_eq_of_covers 14 _ covers14 fun t _ y => ?_
  blk_simp
  rw [after0_14]
  exact (LatentBlock.out14_eq _ _ _ _ _ _ _ _ _ _ _ _ y).trans ((block14 m c t (y 1) (y 2)).trans (congrArg (resultValue m c) (place14 t y)).symm)

end Cert.Proof.Latent

end
-- ==== Proof.LatentReference.lean ====
/-
  The latent up-projection: what the plain reference's three results hold, index by index. They are the functions the
  kernel's results were read as: the normed latents times the weights, normed head by head and turned by the position.
-/
module

public import proofs.«01_k».proof.Proof.Latent
public import proofs.«01_k».proof.Proof.Gen.LatentReferenceIdeal.Read

@[expose] public section

noncomputable section

namespace Cert.Proof.Latent.Reference

open Cert.LatentReferenceIdeal Cert.LatentReferenceIdeal.Gen Cert.LatentReferenceIdeal.Read Cert.Proof.LatentMath Idealize.ShloMosaic Idealize.SL.Sem
open scoped BigOperators

/-- The normed query latents. -/
theorem query_latent (p : Vec Ideal S2x4096x416 .f32) (qn : Vec Ideal S256 .f32) (b : Fin 2) (i : Fin 4096) (k : Fin 256) :
    val_main_v15 (F := Ideal) p qn (ix3 b i k) = queryLatent p qn b i k := by
  have hv : ∀ k : Fin 256, val_main_v0 (F := Ideal) p (ix3 b i k) = p (ix3 b i ⟨k.val, by omega⟩) := fun k =>
    (val_main_v0_apply p _).trans (congrArg p (funext fun a => match a with | ⟨0, _⟩ => rfl | ⟨1, _⟩ => rfl | ⟨2, _⟩ => rfl))
  have hs : val_main_v4 (F := Ideal) p (ix2 b i) = ∑ k : Fin 256, (p (ix3 b i ⟨k.val, by omega⟩) : EReal) * p (ix3 b i ⟨k.val, by omega⟩) := by
    rw [val_main_v4_apply]
    refine (congrArg₂ (fun a b : EReal => a + b) Ideal.ofBits_zero_f32 (Finset.sum_congr rfl fun k _ => ?_)).trans (zero_add _)
    have e : idx_main_v4 (ix2 b i) k = ix3 b i k := funext fun a => match a with | ⟨0, _⟩ => rfl | ⟨1, _⟩ => rfl | ⟨2, _⟩ => rfl
    rw [e, val_main_v3_apply, hv]
    rfl
  have hf : val_main_v10 (F := Ideal) p (ix3 b i (0 : Fin 1)) = factor 0x43800000#32 (fun k : Fin 256 => p (ix3 b i ⟨k.val, by omega⟩)) := by
    have e : idx_main_v5 (ix3 b i (0 : Fin 1)) = ix2 b i := funext fun a => match a with | ⟨0, _⟩ => rfl | ⟨1, _⟩ => rfl
    rw [val_main_v10_apply, val_main_v9_apply, val_main_v7_apply, val_main_v5_apply, e, hs, val_main_v6_apply, val_main_v8_apply]
    rfl
  have e : idx_main_v11 (ix3 b i k) = ix3 b i (0 : Fin 1) := funext fun a => match a with | ⟨0, _⟩ => rfl | ⟨1, _⟩ => rfl | ⟨2, _⟩ => rfl
  have e' : idx_main_v13 (idx_main_v14 (ix3 b i k)) = ix1 k := funext fun a => match a with | ⟨0, _⟩ => rfl
  rw [val_main_v15_apply, val_main_v12_apply, val_main_v11_apply, val_main_v14_apply, val_main_v13_apply, e, e', hf, hv]
  rfl

/-- The normed key and value latents. -/
theorem key_latent (p : Vec Ideal S2x4096x416 .f32) (kvn : Vec Ideal S128 .f32) (b : Fin 2) (i : Fin 4096) (k : Fin 128) :
    val_main_v30 (F := Ideal) p kvn (ix3 b i k) = latentRow p kvn b i k := by
  have hv : ∀ k : Fin 128, val_main_v1 (F := Ideal) p (ix3 b i k) = p (ix3 b i ⟨256 + k.val, by omega⟩) := fun k =>
    (val_main_v1_apply p _).trans (congrArg p (funext fun a => match a with | ⟨0, _⟩ => rfl | ⟨1, _⟩ => rfl | ⟨2, _⟩ => rfl))
  have hs : val_main_v19 (F := Ideal) p (ix2 b i) = ∑ k : Fin 128, (p (ix3 b i ⟨256 + k.val, by omega⟩) : EReal) * p (ix3 b i ⟨256 + k.val, by omega⟩) := by
    rw [val_main_v19_apply]
    refine (congrArg₂ (fun a b : EReal => a + b) Ideal.ofBits_zero_f32 (Finset.sum_congr rfl fun k _ => ?_)).trans (zero_add _)
    have e : idx_main_v19 (ix2 b i) k = ix3 b i k := funext fun a => match a with | ⟨0, _⟩ => rfl | ⟨1, _⟩ => rfl | ⟨2, _⟩ => rfl
    rw [e, val_main_v18_apply, hv]
    rfl
  have hf : val_main_v25 (F := Ideal) p (ix3 b i (0 : Fin 1)) = factor 0x43000000#32 (fun k : Fin 128 => p (ix3 b i ⟨256 + k.val, by omega⟩)) := by
    have e : idx_main_v20 (ix3 b i (0 : Fin 1)) = ix2 b i := funext fun a => match a with | ⟨0, _⟩ => rfl | ⟨1, _⟩ => rfl
    rw [val_main_v25_apply, val_main_v24_apply, val_main_v22_apply, val_main_v20_apply, e, hs, val_main_v21_apply, val_main_v23_apply]
    rfl
  have e : idx_main_v26 (ix3 b i k) = ix3 b i (0 : Fin 1) := funext fun a => match a with | ⟨0, _⟩ => rfl | ⟨1, _⟩ => rfl | ⟨2, _⟩ => rfl
  have e' : idx_main_v28 (idx_main_v29 (ix3 b i k)) = ix1 k := funext fun a => match a with | ⟨0, _⟩ => rfl
  rw [val_main_v30_apply, val_main_v27_apply, val_main_v26_apply, val_main_v29_apply, val_main_v28_apply, e, e', hf, hv]
  rfl

/-- The queries, head by head. -/
theorem query_rows (p : Vec Ideal S2x4096x416 .f32) (qn : Vec Ideal S256 .f32) (w : Vec Ideal S256x576 .f32) (b : Fin 2) (i : Fin 4096) (h : Fin 6) (d : Fin 96) :
    val_main_v17 (F := Ideal) p qn w (ix4 b i h d) = queryRow p qn w b i h d := by
  have e : idx_main_v17 (ix4 b i h d) = ix3 b i ⟨h.val * 96 + d.val, by omega⟩ := funext fun a => Fin.ext (match a with
    | ⟨0, _⟩ => by show (((b.val * 4096 + i.val) * 6 + h.val) * 96 + d.val) / 2359296 = b.val; omega
    | ⟨1, _⟩ => by show (((b.val * 4096 + i.val) * 6 + h.val) * 96 + d.val) / 576 % 4096 = i.val; omega
    | ⟨2, _⟩ => by show (((b.val * 4096 + i.val) * 6 + h.val) * 96 + d.val) % 576 = h.val * 96 + d.val; omega)
  rw [val_main_v17_apply, e, val_main_v16_apply]
  unfold queryRow
  refine Finset.sum_congr rfl fun k _ => congrArg₂ (fun a b : EReal => a * b) ?_ (congrArg w (funext fun a => match a with | ⟨0, _⟩ => rfl | ⟨1, _⟩ => rfl))
  have e' : lidx_main_v16 (ix3 b i ⟨h.val * 96 + d.val, by omega⟩) k = ix3 b i k := funext fun a => match a with | ⟨0, _⟩ => rfl | ⟨1, _⟩ => rfl | ⟨2, _⟩ => rfl
  exact (congrArg (val_main_v15 (F := Ideal) p qn) e').trans (query_latent p qn b i k)

/-- The keys and values, before they are parted. -/
theorem key_values (p : Vec Ideal S2x4096x416 .f32) (kvn : Vec Ideal S128 .f32) (w : Vec Ideal S128x768 .f32) (b : Fin 2) (i : Fin 4096) (h : Fin 6) (d : Fin 128) :
    val_main_v32 (F := Ideal) p kvn w (ix4 b i h d) = keyValue p kvn w b i ⟨h.val * 128 + d.val, by omega⟩ := by
  have e : idx_main_v32 (ix4 b i h d) = ix3 b i ⟨h.val * 128 + d.val, by omega⟩ := funext fun a => Fin.ext (match a with
    | ⟨0, _⟩ => by show (((b.val * 4096 + i.val) * 6 + h.val) * 128 + d.val) / 3145728 = b.val; omega
    | ⟨1, _⟩ => by show (((b.val * 4096 + i.val) * 6 + h.val) * 128 + d.val) / 768 % 4096 = i.val; omega
    | ⟨2, _⟩ => by show (((b.val * 4096 + i.val) * 6 + h.val) * 128 + d.val) % 768 = h.val * 128 + d.val; omega)
  rw [val_main_v32_apply, e, val_main_v31_apply]
  unfold keyValue
  refine Finset.sum_congr rfl fun k _ => congrArg₂ (fun a b : EReal => a * b) ?_ (congrArg w (funext fun a => match a with | ⟨0, _⟩ => rfl | ⟨1, _⟩ => rfl))
  have e' : lidx_main_v31 (ix3 b i ⟨h.val * 128 + d.val, by omega⟩) k = ix3 b i k := funext fun a => match a with | ⟨0, _⟩ => rfl | ⟨1, _⟩ => rfl | ⟨2, _⟩ => rfl
  exact (congrArg (val_main_v30 (F := Ideal) p kvn) e').trans (key_latent p kvn b i k)

/-- The heads of 64 entries and of 32 side by side. -/
theorem heads_pair (A : Vec Ideal S2x4096x6x64 .f32) (B : Vec Ideal S2x4096x6x32 .f32) (b : Fin 2) (i : Fin 4096) (h : Fin 6) (d : Fin 96) :
    concatenate S2x4096x6x96 3 [⟨S2x4096x6x64, A⟩, ⟨S2x4096x6x32, B⟩] concatenates_S2x4096x6x64_S2x4096x6x32_S2x4096x6x96_d3 (ix4 b i h d)
      = if l : d.val < 64 then A (ix4 b i h ⟨d.val, l⟩) else B (ix4 b i h ⟨d.val - 64, by omega⟩) := by
  by_cases l : d.val < 64
  · refine Eq.trans ?_ (dif_pos l).symm
    refine concatenate_pair_apply_left (3 : Fin 4) A B _ (ix4 b i h d) rfl (ix4 b i h ⟨d.val, l⟩) fun a => ?_
    match a with
    | ⟨0, _⟩ => rfl
    | ⟨1, _⟩ => rfl
    | ⟨2, _⟩ => rfl
    | ⟨3, _⟩ => rfl
  · refine Eq.trans ?_ (dif_neg l).symm
    refine concatenate_pair_apply_right (3 : Fin 4) A B _ (ix4 b i h d) rfl rfl (ix4 b i h ⟨d.val - 64, by omega⟩) ?_ ?_
    · intro a ha
      match a with
      | ⟨0, _⟩ => rfl
      | ⟨1, _⟩ => rfl
      | ⟨2, _⟩ => rfl
      | ⟨3, _⟩ => exact absurd rfl ha
    · show d.val - 64 + 64 = d.val
      omega

/-- The two halves of the pairs side by side. -/
theorem halves_pair (A B : Vec Ideal S2x4096x6x2x8 .f32) (b : Fin 2) (i : Fin 4096) (h : Fin 6) (a : Fin 2) (j : Fin 16) :
    concatenate S2x4096x6x2x16 4 [⟨S2x4096x6x2x8, A⟩, ⟨S2x4096x6x2x8, B⟩] concatenates_S2x4096x6x2x8_S2x4096x6x2x8_S2x4096x6x2x16_d4 (ix5 b i h a j)
      = if l : j.val < 8 then A (ix5 b i h a ⟨j.val, l⟩) else B (ix5 b i h a ⟨j.val - 8, by omega⟩) := by
  by_cases l : j.val < 8
  · refine Eq.trans ?_ (dif_pos l).symm
    refine concatenate_pair_apply_left (4 : Fin 5) A B _ (ix5 b i h a j) rfl (ix5 b i h a ⟨j.val, l⟩) fun a => ?_
    match a with
    | ⟨0, _⟩ => rfl
    | ⟨1, _⟩ => rfl
    | ⟨2, _⟩ => rfl
    | ⟨3, _⟩ => rfl
    | ⟨4, _⟩ => rfl
  · refine Eq.trans ?_ (dif_neg l).symm
    refine concatenate_pair_apply_right (4 : Fin 5) A B _ (ix5 b i h a j) rfl rfl (ix5 b i h a ⟨j.val - 8, by omega⟩) ?_ ?_
    · intro a ha
      match a with
      | ⟨0, _⟩ => rfl
      | ⟨1, _⟩ => rfl
      | ⟨2, _⟩ => rfl
      | ⟨3, _⟩ => rfl
      | ⟨4, _⟩ => exact absurd rfl ha
    · show j.val - 8 + 8 = j.val
      omega

/-- The keys, head by head. -/
theorem key_rows (p : Vec Ideal S2x4096x416 .f32) (kvn : Vec Ideal S128 .f32) (w : Vec Ideal S128x768 .f32) (b : Fin 2) (i : Fin 4096) (h : Fin 6) (d : Fin 96) :
    val_main_v36 (F := Ideal) p kvn w (ix4 b i h d) = keyRow p kvn w b i h d := by
  refine (heads_pair _ _ b i h d).trans ?_
  unfold keyRow
  by_cases l : d.val < 64
  · refine (dif_pos l).trans (Eq.trans ?_ (if_pos l).symm)
    have e : idx_main_v33 (ix4 b i h ⟨d.val, l⟩) = ix4 b i h ⟨d.val, by omega⟩ := funext fun a => match a with | ⟨0, _⟩ => rfl | ⟨1, _⟩ => rfl | ⟨2, _⟩ => rfl | ⟨3, _⟩ => rfl
    rw [val_main_v33_apply, e, key_values]
  · refine (dif_neg l).trans (Eq.trans ?_ (if_neg l).symm)
    rw [val_main_v35_apply, val_main_v34_apply, val_main_v2_apply]
    exact congrArg p (funext fun a => match a with | ⟨0, _⟩ => rfl | ⟨1, _⟩ => rfl | ⟨2, _⟩ => rfl)

/-- A query head normed. -/
theorem query_normed (p : Vec Ideal S2x4096x416 .f32) (qn : Vec Ideal S256 .f32) (w : Vec Ideal S256x576 .f32) (g : Vec Ideal S96 .f32) (b : Fin 2) (i : Fin 4096) (h : Fin 6) (d : Fin 96) :
    val_main_v50 (F := Ideal) p qn w g (ix4 b i h d) = normed 0x42C00000#32 (fun d => val_main_v17 (F := Ideal) p qn w (ix4 b i h d)) (fun d => g (ix1 d)) d := by
  have hs : val_main_v39 (F := Ideal) p qn w (ix3 b i h) = ∑ d : Fin 96, (val_main_v17 (F := Ideal) p qn w (ix4 b i h d) : EReal) * val_main_v17 (F := Ideal) p qn w (ix4 b i h d) := by
    rw [val_main_v39_apply]
    refine (congrArg₂ (fun a b : EReal => a + b) Ideal.ofBits_zero_f32 (Finset.sum_congr rfl fun d _ => ?_)).trans (zero_add _)
    have e : idx_main_v39 (ix3 b i h) d = ix4 b i h d := funext fun a => match a with | ⟨0, _⟩ => rfl | ⟨1, _⟩ => rfl | ⟨2, _⟩ => rfl | ⟨3, _⟩ => rfl
    rw [e, val_main_v38_apply]
    rfl
  have hf : val_main_v45 (F := Ideal) p qn w (ix4 b i h (0 : Fin 1)) = factor 0x42C00000#32 (fun d => val_main_v17 (F := Ideal) p qn w (ix4 b i h d)) := by
    have e : idx_main_v40 (ix4 b i h (0 : Fin 1)) = ix3 b i h := funext fun a => match a with | ⟨0, _⟩ => rfl | ⟨1, _⟩ => rfl | ⟨2, _⟩ => rfl
    rw [val_main_v45_apply, val_main_v44_apply, val_main_v42_apply, val_main_v40_apply, e, hs, val_main_v41_apply, val_main_v43_apply]
    rfl
  have e : idx_main_v46 (ix4 b i h d) = ix4 b i h (0 : Fin 1) := funext fun a => match a with | ⟨0, _⟩ => rfl | ⟨1, _⟩ => rfl | ⟨2, _⟩ => rfl | ⟨3, _⟩ => rfl
  have e' : idx_main_v48 (idx_main_v49 (ix4 b i h d)) = ix1 d := funext fun a => match a with | ⟨0, _⟩ => rfl
  rw [val_main_v50_apply, val_main_v47_apply, val_main_v46_apply, val_main_v49_apply, val_main_v48_apply, e, e', hf]
  rfl

/-- A key head normed. -/
theorem key_normed (p : Vec Ideal S2x4096x416 .f32) (kvn : Vec Ideal S128 .f32) (w : Vec Ideal S128x768 .f32) (g : Vec Ideal S96 .f32) (b : Fin 2) (i : Fin 4096) (h : Fin 6) (d : Fin 96) :
    val_main_v63 (F := Ideal) p kvn w g (ix4 b i h d) = normed 0x42C00000#32 (fun d => val_main_v36 (F := Ideal) p kvn w (ix4 b i h d)) (fun d => g (ix1 d)) d := by
  have hs : val_main_v52 (F := Ideal) p kvn w (ix3 b i h) = ∑ d : Fin 96, (val_main_v36 (F := Ideal) p kvn w (ix4 b i h d) : EReal) * val_main_v36 (F := Ideal) p kvn w (ix4 b i h d) := by
    rw [val_main_v52_apply]
    refine (congrArg₂ (fun a b : EReal => a + b) Ideal.ofBits_zero_f32 (Finset.sum_congr rfl fun d _ => ?_)).trans (zero_add _)
    have e : idx_main_v52 (ix3 b i h) d = ix4 b i h d := funext fun a => match a with | ⟨0, _⟩ => rfl | ⟨1, _⟩ => rfl | ⟨2, _⟩ => rfl | ⟨3, _⟩ => rfl
    rw [e, val_main_v51_apply]
    rfl
  have hf : val_main_v58 (F := Ideal) p kvn w (ix4 b i h (0 : Fin 1)) = factor 0x42C00000#32 (fun d => val_main_v36 (F := Ideal) p kvn w (ix4 b i h d)) := by
    have e : idx_main_v53 (ix4 b i h (0 : Fin 1)) = ix3 b i h := funext fun a => match a with | ⟨0, _⟩ => rfl | ⟨1, _⟩ => rfl | ⟨2, _⟩ => rfl
    rw [val_main_v58_apply, val_main_v57_apply, val_main_v55_apply, val_main_v53_apply, e, hs, val_main_v54_apply, val_main_v56_apply]
    rfl
  have e : idx_main_v59 (ix4 b i h d) = ix4 b i h (0 : Fin 1) := funext fun a => match a with | ⟨0, _⟩ => rfl | ⟨1, _⟩ => rfl | ⟨2, _⟩ => rfl | ⟨3, _⟩ => rfl
  have e' : idx_main_v61 (idx_main_v62 (ix4 b i h d)) = ix1 d := funext fun a => match a with | ⟨0, _⟩ => rfl
  rw [val_main_v63_apply, val_main_v60_apply, val_main_v59_apply, val_main_v62_apply, val_main_v61_apply, e, e', hf]
  rfl

/-- The words of a token's coordinates. -/
theorem coord_apply (i : Fin 4096) (a : Fin 2) : val_main_v82 (F := Ideal) (ix2 i a) = LatentHost.coordWord i a := by
  refine LatentHost.coord_at _ _ (fun i => ?_) (fun i => ?_) i a a rfl
  · rw [val_main_v80_apply, val_main_v78_apply, val_main_v66_apply]
    rfl
  · rw [val_main_v81_apply, val_main_v79_apply, val_main_v67_apply]
    rfl

/-- The angle a pair turns by. -/
theorem angle_apply (i : Fin 4096) (a : Fin 2) (f : Fin 8) : val_main_v88 (F := Ideal) (ix3 i a f) = LatentHost.angle i a f := by
  have e : idx_main_v84 (idx_main_v86 (ix3 i a f)) = ix2 i a := funext fun a => match a with | ⟨0, _⟩ => rfl | ⟨1, _⟩ => rfl
  have e' : idx_main_v85 (idx_main_v87 (ix3 i a f)) = ix1 f := funext fun a => match a with | ⟨0, _⟩ => rfl
  rw [val_main_v88_apply, val_main_v86_apply, val_main_v84_apply, e, val_main_v83_apply, coord_apply, val_main_v87_apply, val_main_v85_apply, e']
  rfl

/-- A query head: the first entries of the pairs. -/
theorem query_fst (p : Vec Ideal S2x4096x416 .f32) (qn : Vec Ideal S256 .f32) (w : Vec Ideal S256x576 .f32) (g : Vec Ideal S96 .f32) (b : Fin 2) (i : Fin 4096) (h : Fin 6) (a : Fin 2) (f : Fin 8) :
    val_main_v94 (F := Ideal) p qn w g (ix5 b i h a f) = val_main_v50 (F := Ideal) p qn w g (ix4 b i h ⟨64 + (a.val * 16 + f.val), by omega⟩) := by
  have e : idx_main_v92 (idx_main_v93 (idx_main_v94 (ix5 b i h a f))) = ix4 b i h ⟨64 + (a.val * 16 + f.val), by omega⟩ := funext fun x => Fin.ext (match x with
    | ⟨0, _⟩ => by show ((((b.val * 4096 + i.val) * 6 + h.val) * 2 + a.val) * 16 + f.val) / 786432 = b.val; omega
    | ⟨1, _⟩ => by show ((((b.val * 4096 + i.val) * 6 + h.val) * 2 + a.val) * 16 + f.val) / 192 % 4096 = i.val; omega
    | ⟨2, _⟩ => by show ((((b.val * 4096 + i.val) * 6 + h.val) * 2 + a.val) * 16 + f.val) / 32 % 6 = h.val; omega
    | ⟨3, _⟩ => by show 64 + ((((b.val * 4096 + i.val) * 6 + h.val) * 2 + a.val) * 16 + f.val) % 32 = 64 + (a.val * 16 + f.val); omega)
  rw [val_main_v94_apply, val_main_v93_apply, val_main_v92_apply, e]

/-- A query head: the second entries of the pairs. -/
theorem query_snd (p : Vec Ideal S2x4096x416 .f32) (qn : Vec Ideal S256 .f32) (w : Vec Ideal S256x576 .f32) (g : Vec Ideal S96 .f32) (b : Fin 2) (i : Fin 4096) (h : Fin 6) (a : Fin 2) (f : Fin 8) :
    val_main_v95 (F := Ideal) p qn w g (ix5 b i h a f) = val_main_v50 (F := Ideal) p qn w g (ix4 b i h ⟨64 + (a.val * 16 + (8 + f.val)), by omega⟩) := by
  have e : idx_main_v92 (idx_main_v93 (idx_main_v95 (ix5 b i h a f))) = ix4 b i h ⟨64 + (a.val * 16 + (8 + f.val)), by omega⟩ := funext fun x => Fin.ext (match x with
    | ⟨0, _⟩ => by show ((((b.val * 4096 + i.val) * 6 + h.val) * 2 + a.val) * 16 + (8 + f.val)) / 786432 = b.val; omega
    | ⟨1, _⟩ => by show ((((b.val * 4096 + i.val) * 6 + h.val) * 2 + a.val) * 16 + (8 + f.val)) / 192 % 4096 = i.val; omega
    | ⟨2, _⟩ => by show ((((b.val * 4096 + i.val) * 6 + h.val) * 2 + a.val) * 16 + (8 + f.val)) / 32 % 6 = h.val; omega
    | ⟨3, _⟩ => by show 64 + ((((b.val * 4096 + i.val) * 6 + h.val) * 2 + a.val) * 16 + (8 + f.val)) % 32 = 64 + (a.val * 16 + (8 + f.val)); omega)
  rw [val_main_v95_apply, val_main_v93_apply, val_main_v92_apply, e]

/-- A query head: the pairs turned, first entries. -/
theorem query_turned_fst (p : Vec Ideal S2x4096x416 .f32) (qn : Vec Ideal S256 .f32) (w : Vec Ideal S256x576 .f32) (g : Vec Ideal S96 .f32) (b : Fin 2) (i : Fin 4096) (h : Fin 6) (a : Fin 2) (f : Fin 8) :
    val_main_v102 (F := Ideal) p qn w g (ix5 b i h a f) = val_main_v50 (F := Ideal) p qn w g (ix4 b i h ⟨64 + (a.val * 16 + f.val), by omega⟩) * cs i a f
      - val_main_v50 (F := Ideal) p qn w g (ix4 b i h ⟨64 + (a.val * 16 + (8 + f.val)), by omega⟩) * sn i a f := by
  have e : idx_main_v96 (idx_main_v98 (ix5 b i h a f)) = ix3 i a f := funext fun a => match a with | ⟨0, _⟩ => rfl | ⟨1, _⟩ => rfl | ⟨2, _⟩ => rfl
  have e' : idx_main_v97 (idx_main_v100 (ix5 b i h a f)) = ix3 i a f := funext fun a => match a with | ⟨0, _⟩ => rfl | ⟨1, _⟩ => rfl | ⟨2, _⟩ => rfl
  rw [val_main_v102_apply, val_main_v99_apply, val_main_v101_apply, query_fst, query_snd, val_main_v98_apply, val_main_v96_apply, e,
    val_main_v100_apply, val_main_v97_apply, e', val_main_v89_apply, val_main_v90_apply, angle_apply]
  rfl

/-- A query head: the pairs turned, second entries. -/
theorem query_turned_snd (p : Vec Ideal S2x4096x416 .f32) (qn : Vec Ideal S256 .f32) (w : Vec Ideal S256x576 .f32) (g : Vec Ideal S96 .f32) (b : Fin 2) (i : Fin 4096) (h : Fin 6) (a : Fin 2) (f : Fin 8) :
    val_main_v107 (F := Ideal) p qn w g (ix5 b i h a f) = val_main_v50 (F := Ideal) p qn w g (ix4 b i h ⟨64 + (a.val * 16 + (8 + f.val)), by omega⟩) * cs i a f
      + val_main_v50 (F := Ideal) p qn w g (ix4 b i h ⟨64 + (a.val * 16 + f.val), by omega⟩) * sn i a f := by
  have e : idx_main_v96 (idx_main_v103 (ix5 b i h a f)) = ix3 i a f := funext fun a => match a with | ⟨0, _⟩ => rfl | ⟨1, _⟩ => rfl | ⟨2, _⟩ => rfl
  have e' : idx_main_v97 (idx_main_v105 (ix5 b i h a f)) = ix3 i a f := funext fun a => match a with | ⟨0, _⟩ => rfl | ⟨1, _⟩ => rfl | ⟨2, _⟩ => rfl
  rw [val_main_v107_apply, val_main_v104_apply, val_main_v106_apply, query_fst, query_snd, val_main_v103_apply, val_main_v96_apply, e,
    val_main_v105_apply, val_main_v97_apply, e', val_main_v89_apply, val_main_v90_apply, angle_apply]
  rfl

/-- A query head turned. -/
theorem query_turned (p : Vec Ideal S2x4096x416 .f32) (qn : Vec Ideal S256 .f32) (w : Vec Ideal S256x576 .f32) (g : Vec Ideal S96 .f32) (b : Fin 2) (i : Fin 4096) (h : Fin 6) (d : Fin 96) :
    val_main_v110 (F := Ideal) p qn w g (ix4 b i h d) = turned (cs i) (sn i) (fun d => val_main_v50 (F := Ideal) p qn w g (ix4 b i h d)) d.val := by
  refine (heads_pair _ _ b i h d).trans ?_
  have hd := d.isLt
  unfold turned
  by_cases l : d.val < 64
  · refine (dif_pos l).trans (Eq.trans ?_ (if_pos l).symm)
    rw [val_main_v91_apply]
    refine congrArg (val_main_v50 (F := Ideal) p qn w g) (funext fun x => Fin.ext (match x with
    | ⟨0, _⟩ => rfl
    | ⟨1, _⟩ => rfl
    | ⟨2, _⟩ => rfl
    | ⟨3, _⟩ => by show d.val = d.val % 96; omega))
  · refine (dif_neg l).trans (Eq.trans ?_ (if_neg l).symm)
    have e : idx_main_v109 (ix4 b i h ⟨d.val - 64, by omega⟩) = ix5 b i h ⟨(d.val - 64) / 16 % 2, Nat.mod_lt _ (by decide)⟩ ⟨(d.val - 64) % 16, Nat.mod_lt _ (by decide)⟩ := funext fun x => Fin.ext (match x with
    | ⟨0, _⟩ => by show (((b.val * 4096 + i.val) * 6 + h.val) * 32 + (d.val - 64)) / 786432 = b.val; omega
    | ⟨1, _⟩ => by show (((b.val * 4096 + i.val) * 6 + h.val) * 32 + (d.val - 64)) / 192 % 4096 = i.val; omega
    | ⟨2, _⟩ => by show (((b.val * 4096 + i.val) * 6 + h.val) * 32 + (d.val - 64)) / 32 % 6 = h.val; omega
    | ⟨3, _⟩ => by show (((b.val * 4096 + i.val) * 6 + h.val) * 32 + (d.val - 64)) / 16 % 2 = (d.val - 64) / 16 % 2; omega
    | ⟨4, _⟩ => by show (((b.val * 4096 + i.val) * 6 + h.val) * 32 + (d.val - 64)) % 16 = (d.val - 64) % 16; omega)
    rw [val_main_v109_apply, e]
    refine (halves_pair _ _ b i h _ _).trans ?_
    by_cases q : (d.val - 64) % 16 < 8
    · refine (dif_pos q).trans (Eq.trans ?_ (if_pos q).symm)
      have f : (⟨(d.val - 64) % 16, q⟩ : Fin 8) = ⟨(d.val - 64) % 8, Nat.mod_lt _ (by decide)⟩ := Fin.ext (by show (d.val - 64) % 16 = (d.val - 64) % 8; omega)
      rw [query_turned_fst]
      refine congrArg₂ (fun x y : EReal => x - y) (congrArg₂ (fun x y : EReal => x * y) ?_ (congrArg (cs i _) f)) (congrArg₂ (fun x y : EReal => x * y) ?_ (congrArg (sn i _) f))
      · refine congrArg (val_main_v50 (F := Ideal) p qn w g) (congrArg (ix4 b i h) (Fin.ext ?_))
        show 64 + ((d.val - 64) / 16 % 2 * 16 + (d.val - 64) % 16) = d.val % 96
        omega
      · refine congrArg (val_main_v50 (F := Ideal) p qn w g) (congrArg (ix4 b i h) (Fin.ext ?_))
        show 64 + ((d.val - 64) / 16 % 2 * 16 + (8 + (d.val - 64) % 16)) = (d.val + 8) % 96
        omega
    · refine (dif_neg q).trans (Eq.trans ?_ (if_neg q).symm)
      have f : (⟨(d.val - 64) % 16 - 8, by omega⟩ : Fin 8) = ⟨(d.val - 64) % 8, Nat.mod_lt _ (by decide)⟩ := Fin.ext (by show (d.val - 64) % 16 - 8 = (d.val - 64) % 8; omega)
      rw [query_turned_snd]
      refine congrArg₂ (fun x y : EReal => x + y) (congrArg₂ (fun x y : EReal => x * y) ?_ (congrArg (cs i _) f)) (congrArg₂ (fun x y : EReal => x * y) ?_ (congrArg (sn i _) f))
      · refine congrArg (val_main_v50 (F := Ideal) p qn w g) (congrArg (ix4 b i h) (Fin.ext ?_))
        show 64 + ((d.val - 64) / 16 % 2 * 16 + (8 + ((d.val - 64) % 16 - 8))) = d.val % 96
        omega
      · refine congrArg (val_main_v50 (F := Ideal) p qn w g) (congrArg (ix4 b i h) (Fin.ext ?_))
        show 64 + ((d.val - 64) / 16 % 2 * 16 + ((d.val - 64) % 16 - 8)) = (d.val - 8) % 96
        omega

/-- A key head: the first entries of the pairs. -/
theorem key_fst (p : Vec Ideal S2x4096x416 .f32) (kvn : Vec Ideal S128 .f32) (w : Vec Ideal S128x768 .f32) (g : Vec Ideal S96 .f32) (b : Fin 2) (i : Fin 4096) (h : Fin 6) (a : Fin 2) (f : Fin 8) :
    val_main_v114 (F := Ideal) p kvn w g (ix5 b i h a f) = val_main_v63 (F := Ideal) p kvn w g (ix4 b i h ⟨64 + (a.val * 16 + f.val), by omega⟩) := by
  have e : idx_main_v112 (idx_main_v113 (idx_main_v114 (ix5 b i h a f))) = ix4 b i h ⟨64 + (a.val * 16 + f.val), by omega⟩ := funext fun x => Fin.ext (match x with
    | ⟨0, _⟩ => by show ((((b.val * 4096 + i.val) * 6 + h.val) * 2 + a.val) * 16 + f.val) / 786432 = b.val; omega
    | ⟨1, _⟩ => by show ((((b.val * 4096 + i.val) * 6 + h.val) * 2 + a.val) * 16 + f.val) / 192 % 4096 = i.val; omega
    | ⟨2, _⟩ => by show ((((b.val * 4096 + i.val) * 6 + h.val) * 2 + a.val) * 16 + f.val) / 32 % 6 = h.val; omega
    | ⟨3, _⟩ => by show 64 + ((((b.val * 4096 + i.val) * 6 + h.val) * 2 + a.val) * 16 + f.val) % 32 = 64 + (a.val * 16 + f.val); omega)
  rw [val_main_v114_apply, val_main_v113_apply, val_main_v112_apply, e]

/-- A key head: the second entries of the pairs. -/
theorem key_snd (p : Vec Ideal S2x4096x416 .f32) (kvn : Vec Ideal S128 .f32) (w : Vec Ideal S128x768 .f32) (g : Vec Ideal S96 .f32) (b : Fin 2) (i : Fin 4096) (h : Fin 6) (a : Fin 2) (f : Fin 8) :
    val_main_v115 (F := Ideal) p kvn w g (ix5 b i h a f) = val_main_v63 (F := Ideal) p kvn w g (ix4 b i h ⟨64 + (a.val * 16 + (8 + f.val)), by omega⟩) := by
  have e : idx_main_v112 (idx_main_v113 (idx_main_v115 (ix5 b i h a f))) = ix4 b i h ⟨64 + (a.val * 16 + (8 + f.val)), by omega⟩ := funext fun x => Fin.ext (match x with
    | ⟨0, _⟩ => by show ((((b.val * 4096 + i.val) * 6 + h.val) * 2 + a.val) * 16 + (8 + f.val)) / 786432 = b.val; omega
    | ⟨1, _⟩ => by show ((((b.val * 4096 + i.val) * 6 + h.val) * 2 + a.val) * 16 + (8 + f.val)) / 192 % 4096 = i.val; omega
    | ⟨2, _⟩ => by show ((((b.val * 4096 + i.val) * 6 + h.val) * 2 + a.val) * 16 + (8 + f.val)) / 32 % 6 = h.val; omega
    | ⟨3, _⟩ => by show 64 + ((((b.val * 4096 + i.val) * 6 + h.val) * 2 + a.val) * 16 + (8 + f.val)) % 32 = 64 + (a.val * 16 + (8 + f.val)); omega)
  rw [val_main_v115_apply, val_main_v113_apply, val_main_v112_apply, e]

/-- A key head: the pairs turned, first entries. -/
theorem key_turned_fst (p : Vec Ideal S2x4096x416 .f32) (kvn : Vec Ideal S128 .f32) (w : Vec Ideal S128x768 .f32) (g : Vec Ideal S96 .f32) (b : Fin 2) (i : Fin 4096) (h : Fin 6) (a : Fin 2) (f : Fin 8) :
    val_main_v122 (F := Ideal) p kvn w g (ix5 b i h a f) = val_main_v63 (F := Ideal) p kvn w g (ix4 b i h ⟨64 + (a.val * 16 + f.val), by omega⟩) * cs i a f
      - val_main_v63 (F := Ideal) p kvn w g (ix4 b i h ⟨64 + (a.val * 16 + (8 + f.val)), by omega⟩) * sn i a f := by
  have e : idx_main_v116 (idx_main_v118 (ix5 b i h a f)) = ix3 i a f := funext fun a => match a with | ⟨0, _⟩ => rfl | ⟨1, _⟩ => rfl | ⟨2, _⟩ => rfl
  have e' : idx_main_v117 (idx_main_v120 (ix5 b i h a f)) = ix3 i a f := funext fun a => match a with | ⟨0, _⟩ => rfl | ⟨1, _⟩ => rfl | ⟨2, _⟩ => rfl
  rw [val_main_v122_apply, val_main_v119_apply, val_main_v121_apply, key_fst, key_snd, val_main_v118_apply, val_main_v116_apply, e,
    val_main_v120_apply, val_main_v117_apply, e', val_main_v89_apply, val_main_v90_apply, angle_apply]
  rfl

/-- A key head: the pairs turned, second entries. -/
theorem key_turned_snd (p : Vec Ideal S2x4096x416 .f32) (kvn : Vec Ideal S128 .f32) (w : Vec Ideal S128x768 .f32) (g : Vec Ideal S96 .f32) (b : Fin 2) (i : Fin 4096) (h : Fin 6) (a : Fin 2) (f : Fin 8) :
    val_main_v127 (F := Ideal) p kvn w g (ix5 b i h a f) = val_main_v63 (F := Ideal) p kvn w g (ix4 b i h ⟨64 + (a.val * 16 + (8 + f.val)), by omega⟩) * cs i a f
      + val_main_v63 (F := Ideal) p kvn w g (ix4 b i h ⟨64 + (a.val * 16 + f.val), by omega⟩) * sn i a f := by
  have e : idx_main_v116 (idx_main_v123 (ix5 b i h a f)) = ix3 i a f := funext fun a => match a with | ⟨0, _⟩ => rfl | ⟨1, _⟩ => rfl | ⟨2, _⟩ => rfl
  have e' : idx_main_v117 (idx_main_v125 (ix5 b i h a f)) = ix3 i a f := funext fun a => match a with | ⟨0, _⟩ => rfl | ⟨1, _⟩ => rfl | ⟨2, _⟩ => rfl
  rw [val_main_v127_apply, val_main_v124_apply, val_main_v126_apply, key_fst, key_snd, val_main_v123_apply, val_main_v116_apply, e,
    val_main_v125_apply, val_main_v117_apply, e', val_main_v89_apply, val_main_v90_apply, angle_apply]
  rfl

/-- A key head turned. -/
theorem key_turned (p : Vec Ideal S2x4096x416 .f32) (kvn : Vec Ideal S128 .f32) (w : Vec Ideal S128x768 .f32) (g : Vec Ideal S96 .f32) (b : Fin 2) (i : Fin 4096) (h : Fin 6) (d : Fin 96) :
    val_main_v130 (F := Ideal) p kvn w g (ix4 b i h d) = turned (cs i) (sn i) (fun d => val_main_v63 (F := Ideal) p kvn w g (ix4 b i h d)) d.val := by
  refine (heads_pair _ _ b i h d).trans ?_
  have hd := d.isLt
  unfold turned
  by_cases l : d.val < 64
  · refine (dif_pos l).trans (Eq.trans ?_ (if_pos l).symm)
    rw [val_main_v111_apply]
    refine congrArg (val_main_v63 (F := Ideal) p kvn w g) (funext fun x => Fin.ext (match x with
    | ⟨0, _⟩ => rfl
    | ⟨1, _⟩ => rfl
    | ⟨2, _⟩ => rfl
    | ⟨3, _⟩ => by show d.val = d.val % 96; omega))
  · refine (dif_neg l).trans (Eq.trans ?_ (if_neg l).symm)
    have e : idx_main_v129 (ix4 b i h ⟨d.val - 64, by omega⟩) = ix5 b i h ⟨(d.val - 64) / 16 % 2, Nat.mod_lt _ (by decide)⟩ ⟨(d.val - 64) % 16, Nat.mod_lt _ (by decide)⟩ := funext fun x => Fin.ext (match x with
    | ⟨0, _⟩ => by show (((b.val * 4096 + i.val) * 6 + h.val) * 32 + (d.val - 64)) / 786432 = b.val; omega
    | ⟨1, _⟩ => by show (((b.val * 4096 + i.val) * 6 + h.val) * 32 + (d.val - 64)) / 192 % 4096 = i.val; omega
    | ⟨2, _⟩ => by show (((b.val * 4096 + i.val) * 6 + h.val) * 32 + (d.val - 64)) / 32 % 6 = h.val; omega
    | ⟨3, _⟩ => by show (((b.val * 4096 + i.val) * 6 + h.val) * 32 + (d.val - 64)) / 16 % 2 = (d.val - 64) / 16 % 2; omega
    | ⟨4, _⟩ => by show (((b.val * 4096 + i.val) * 6 + h.val) * 32 + (d.val - 64)) % 16 = (d.val - 64) % 16; omega)
    rw [val_main_v129_apply, e]
    refine (halves_pair _ _ b i h _ _).trans ?_
    by_cases q : (d.val - 64) % 16 < 8
    · refine (dif_pos q).trans (Eq.trans ?_ (if_pos q).symm)
      have f : (⟨(d.val - 64) % 16, q⟩ : Fin 8) = ⟨(d.val - 64) % 8, Nat.mod_lt _ (by decide)⟩ := Fin.ext (by show (d.val - 64) % 16 = (d.val - 64) % 8; omega)
      rw [key_turned_fst]
      refine congrArg₂ (fun x y : EReal => x - y) (congrArg₂ (fun x y : EReal => x * y) ?_ (congrArg (cs i _) f)) (congrArg₂ (fun x y : EReal => x * y) ?_ (congrArg (sn i _) f))
      · refine congrArg (val_main_v63 (F := Ideal) p kvn w g) (congrArg (ix4 b i h) (Fin.ext ?_))
        show 64 + ((d.val - 64) / 16 % 2 * 16 + (d.val - 64) % 16) = d.val % 96
        omega
      · refine congrArg (val_main_v63 (F := Ideal) p kvn w g) (congrArg (ix4 b i h) (Fin.ext ?_))
        show 64 + ((d.val - 64) / 16 % 2 * 16 + (8 + (d.val - 64) % 16)) = (d.val + 8) % 96
        omega
    · refine (dif_neg q).trans (Eq.trans ?_ (if_neg q).symm)
      have f : (⟨(d.val - 64) % 16 - 8, by omega⟩ : Fin 8) = ⟨(d.val - 64) % 8, Nat.mod_lt _ (by decide)⟩ := Fin.ext (by show (d.val - 64) % 16 - 8 = (d.val - 64) % 8; omega)
      rw [key_turned_snd]
      refine congrArg₂ (fun x y : EReal => x + y) (congrArg₂ (fun x y : EReal => x * y) ?_ (congrArg (cs i _) f)) (congrArg₂ (fun x y : EReal => x * y) ?_ (congrArg (sn i _) f))
      · refine congrArg (val_main_v63 (F := Ideal) p kvn w g) (congrArg (ix4 b i h) (Fin.ext ?_))
        show 64 + ((d.val - 64) / 16 % 2 * 16 + (8 + ((d.val - 64) % 16 - 8))) = d.val % 96
        omega
      · refine congrArg (val_main_v63 (F := Ideal) p kvn w g) (congrArg (ix4 b i h) (Fin.ext ?_))
        show 64 + ((d.val - 64) / 16 % 2 * 16 + ((d.val - 64) % 16 - 8)) = (d.val - 8) % 96
        omega

/-- A head's 96 entries followed by 32 zeros. -/
theorem pad_heads (A : Vec Ideal S2x4096x6x96 .f32) (v : Vec Ideal S_ .f32) (hv : v (Shape.Idx.first h_S_) = (0 : EReal)) (b : Fin 2) (i : Fin 4096) (h : Fin 6) (l : Fin 128) :
    pad S2x4096x6x128 ![0, 0, 0, 0] ![0, 0, 0, 32] ![0, 0, 0, 0] A v pads_S2x4096x6x96_S2x4096x6x128_000_000_000_0320 h_S_ (ix4 b i h l)
      = if q : l.val < 96 then A (ix4 b i h ⟨l.val, q⟩) else (0 : EReal) := by
  by_cases q : l.val < 96
  · refine Eq.trans ?_ (dif_pos q).symm
    refine pad_apply_of_inside _ _ _ A v _ _ (ix4 b i h l) (ix4 b i h ⟨l.val, q⟩) fun a => ?_
    match a with
    | ⟨0, _⟩ => show b.val = 0 + b.val * (0 + 1); omega
    | ⟨1, _⟩ => show i.val = 0 + i.val * (0 + 1); omega
    | ⟨2, _⟩ => show h.val = 0 + h.val * (0 + 1); omega
    | ⟨3, _⟩ => show l.val = 0 + l.val * (0 + 1); omega
  · refine Eq.trans ?_ (dif_neg q).symm
    refine (pad_apply_of_not_inside _ _ _ A v _ _ (ix4 b i h l) (3 : Fin 4) ?_).trans hv
    show ¬ (0 ≤ l.val ∧ (l.val - 0) % (0 + 1) = 0 ∧ (l.val - 0) / (0 + 1) < 96)
    omega

/-- The word of the padding. -/
theorem zero_pad : (FloatOps.sitofp (F := Ideal) FTy.f32 0#32 : EReal) = 0 := by
  show (((0#32 : BitVec 32).toInt : ℝ) : EReal) = 0
  simp

/-- The reference's stored queries. -/
theorem query_result (p : Vec Ideal S2x4096x416 .f32) (qn : Vec Ideal S256 .f32) (w : Vec Ideal S256x576 .f32) (g : Vec Ideal S96 .f32) (b : Fin 2) (i : Fin 4096) (c : Fin 768) :
    val_main_v135 (F := Ideal) p qn w g (ix3 b i c) = outQuery p qn w g b i c := by
  have e : idx_main_v134 (ix3 b i c) = ix4 b i ⟨c.val / 128, by omega⟩ ⟨c.val % 128, Nat.mod_lt _ (by decide)⟩ := funext fun x => Fin.ext (match x with
    | ⟨0, _⟩ => by show ((b.val * 4096 + i.val) * 768 + c.val) / 3145728 = b.val; omega
    | ⟨1, _⟩ => by show ((b.val * 4096 + i.val) * 768 + c.val) / 768 % 4096 = i.val; omega
    | ⟨2, _⟩ => by show ((b.val * 4096 + i.val) * 768 + c.val) / 128 % 6 = c.val / 128; omega
    | ⟨3, _⟩ => by show ((b.val * 4096 + i.val) * 768 + c.val) % 128 = c.val % 128; omega)
  have s : val_main_v134 (F := Ideal) p qn w g (ix3 b i c) = outQuery p qn w g b i c := by
    rw [val_main_v134_apply, e]
    refine (pad_heads _ _ zero_pad b i _ _).trans ?_
    unfold outQuery headRow
    by_cases q : c.val % 128 < 96
    · refine (dif_pos q).trans (Eq.trans ?_ (if_pos q).symm)
      rw [val_main_v132_apply, val_main_v131_apply, query_turned]
      refine congrArg₂ (fun x y : EReal => x * y) ?_ rfl
      exact congrArg (fun x => turned (cs i) (sn i) x (c.val % 128)) (funext fun d =>
        (query_normed p qn w g b i _ d).trans (congrArg (fun x => normed 0x42C00000#32 x (fun d => g (ix1 d)) d) (funext fun d => query_rows p qn w b i _ d)))
    · exact (dif_neg q).trans (if_neg q).symm
  exact s

/-- The reference's stored keys. -/
theorem key_result (p : Vec Ideal S2x4096x416 .f32) (kvn : Vec Ideal S128 .f32) (w : Vec Ideal S128x768 .f32) (g : Vec Ideal S96 .f32) (b : Fin 2) (i : Fin 4096) (c : Fin 768) :
    val_main_v138 (F := Ideal) p kvn w g (ix3 b i c) = outKey p kvn w g b i c := by
  have e : idx_main_v137 (ix3 b i c) = ix4 b i ⟨c.val / 128, by omega⟩ ⟨c.val % 128, Nat.mod_lt _ (by decide)⟩ := funext fun x => Fin.ext (match x with
    | ⟨0, _⟩ => by show ((b.val * 4096 + i.val) * 768 + c.val) / 3145728 = b.val; omega
    | ⟨1, _⟩ => by show ((b.val * 4096 + i.val) * 768 + c.val) / 768 % 4096 = i.val; omega
    | ⟨2, _⟩ => by show ((b.val * 4096 + i.val) * 768 + c.val) / 128 % 6 = c.val / 128; omega
    | ⟨3, _⟩ => by show ((b.val * 4096 + i.val) * 768 + c.val) % 128 = c.val % 128; omega)
  have s : val_main_v137 (F := Ideal) p kvn w g (ix3 b i c) = outKey p kvn w g b i c := by
    rw [val_main_v137_apply, e]
    refine (pad_heads _ _ zero_pad b i _ _).trans ?_
    unfold outKey headRow
    by_cases q : c.val % 128 < 96
    · refine (dif_pos q).trans (Eq.trans ?_ (if_pos q).symm)
      refine (key_turned p kvn w g b i _ _).trans ?_
      exact congrArg (fun x => turned (cs i) (sn i) x (c.val % 128)) (funext fun d =>
        (key_normed p kvn w g b i _ d).trans (congrArg (fun x => normed 0x42C00000#32 x (fun d => g (ix1 d)) d) (funext fun d => key_rows p kvn w b i _ d)))
    · exact (dif_neg q).trans (if_neg q).symm
  exact s

/-- The reference's stored values. -/
theorem value_result (p : Vec Ideal S2x4096x416 .f32) (kvn : Vec Ideal S128 .f32) (w : Vec Ideal S128x768 .f32) (b : Fin 2) (i : Fin 4096) (n : Fin 384) :
    val_main_v140 (F := Ideal) p kvn w (ix3 b i n) = outValue p kvn w b i n := by
  have e : idx_main_v37 (idx_main_v139 (ix3 b i n)) = ix4 b i ⟨n.val / 64, by omega⟩ ⟨64 + n.val % 64, by omega⟩ := funext fun x => Fin.ext (match x with
    | ⟨0, _⟩ => by show ((b.val * 4096 + i.val) * 384 + n.val) / 1572864 = b.val; omega
    | ⟨1, _⟩ => by show ((b.val * 4096 + i.val) * 384 + n.val) / 384 % 4096 = i.val; omega
    | ⟨2, _⟩ => by show ((b.val * 4096 + i.val) * 384 + n.val) / 64 % 6 = n.val / 64; omega
    | ⟨3, _⟩ => by show 64 + ((b.val * 4096 + i.val) * 384 + n.val) % 64 = 64 + n.val % 64; omega)
  have s : val_main_v139 (F := Ideal) p kvn w (ix3 b i n) = outValue p kvn w b i n := by
    rw [val_main_v139_apply, val_main_v37_apply, e, key_values]
    rfl
  exact s

end Cert.Proof.Latent.Reference
-- ==== Proof.LatentClaim.lean ====
/-
  The latent up-projection's claims: on finite latents, gains and weights the kernel's three results are the plain
  reference's.
-/
module

public import proofs.«01_k».proof.Defs
public import proofs.«01_k».proof.Proof.Attention
public import proofs.«01_k».proof.Proof.LatentReference
public import proofs.«01_k».proof.Proof.Gen.LatentIdeal.Value
public import proofs.«01_k».proof.Proof.Gen.Latent.Frame
public import proofs.«01_k».proof.Proof.Gen.LatentReferenceIdeal.Run
public import Idealize.ShloMosaic.Lib.Quiescent

@[expose] public section

noncomputable section

namespace Cert.Proof.Latent

open Cert.LatentReferenceIdeal Cert.LatentReferenceIdeal.Read Idealize.ShloMosaic Idealize.ShloMosaic.TcCoe Idealize.SL.Sem

/-- The precondition's side conditions. -/
theorem preFacts : Cert.Pre_finite_latents.Facts := ⟨by decide, by decide, by decide, by decide, by decide⟩

/-- What the precondition says: the latents, the two gains and the two weights hold reals. -/
theorem finite_of_pre (m : (ℓ : Loc Cert.LatentIdeal.nD Cert.LatentIdeal.τ Cert.LatentIdeal.sig) → Buf (Elt Ideal) ℓ)
    (h : Cert.Pre_LatentIdeal_finite_latents (hPre_finite_latents := preFacts) m) (c : Dev Cert.LatentIdeal.nD) : Finite m c :=
  ⟨Attention.real_of_mask _ _ (fun _ => Attention.inf_top) (h c).1, Attention.real_of_mask _ _ (fun _ => Attention.inf_top) (h c).2.1,
    Attention.real_of_mask _ _ (fun _ => Attention.inf_top) (h c).2.2.1, Attention.real_of_mask _ _ (fun _ => Attention.inf_top) (h c).2.2.2.1,
    Attention.real_of_mask _ _ (fun _ => Attention.inf_top) (h c).2.2.2.2⟩

theorem query_eq (m : (ℓ : Loc Cert.LatentIdeal.nD Cert.LatentIdeal.τ Cert.LatentIdeal.sig) → Buf (Elt Ideal) ℓ) (c : Dev Cert.LatentIdeal.nD) :
    val_main_v135 (F := Ideal) (m ((c.tc : Thread Cert.LatentIdeal.nD Cert.LatentIdeal.τ).loc Cert.LatentIdeal.main_arg0))
      (m ((c.tc : Thread Cert.LatentIdeal.nD Cert.LatentIdeal.τ).loc Cert.LatentIdeal.main_arg1))
      (m ((c.tc : Thread Cert.LatentIdeal.nD Cert.LatentIdeal.τ).loc Cert.LatentIdeal.main_arg2))
      (m ((c.tc : Thread Cert.LatentIdeal.nD Cert.LatentIdeal.τ).loc Cert.LatentIdeal.main_arg5)) = resultQuery m c :=
  funext fun y => (congrArg _ (eq_ix3 y)).trans (Reference.query_result _ _ _ _ (y 0) (y 1) (y 2))

theorem key_eq (m : (ℓ : Loc Cert.LatentIdeal.nD Cert.LatentIdeal.τ Cert.LatentIdeal.sig) → Buf (Elt Ideal) ℓ) (c : Dev Cert.LatentIdeal.nD) :
    val_main_v138 (F := Ideal) (m ((c.tc : Thread Cert.LatentIdeal.nD Cert.LatentIdeal.τ).loc Cert.LatentIdeal.main_arg0))
      (m ((c.tc : Thread Cert.LatentIdeal.nD Cert.LatentIdeal.τ).loc Cert.LatentIdeal.main_arg3))
      (m ((c.tc : Thread Cert.LatentIdeal.nD Cert.LatentIdeal.τ).loc Cert.LatentIdeal.main_arg4))
      (m ((c.tc : Thread Cert.LatentIdeal.nD Cert.LatentIdeal.τ).loc Cert.LatentIdeal.main_arg6)) = resultKey m c :=
  funext fun y => (congrArg _ (eq_ix3 y)).trans (Reference.key_result _ _ _ _ (y 0) (y 1) (y 2))

theorem value_eq (m : (ℓ : Loc Cert.LatentIdeal.nD Cert.LatentIdeal.τ Cert.LatentIdeal.sig) → Buf (Elt Ideal) ℓ) (c : Dev Cert.LatentIdeal.nD) :
    val_main_v140 (F := Ideal) (m ((c.tc : Thread Cert.LatentIdeal.nD Cert.LatentIdeal.τ).loc Cert.LatentIdeal.main_arg0))
      (m ((c.tc : Thread Cert.LatentIdeal.nD Cert.LatentIdeal.τ).loc Cert.LatentIdeal.main_arg3))
      (m ((c.tc : Thread Cert.LatentIdeal.nD Cert.LatentIdeal.τ).loc Cert.LatentIdeal.main_arg4)) = resultValue m c :=
  funext fun y => (congrArg _ (eq_ix3 y)).trans (Reference.value_result _ _ _ (y 0) (y 1) (y 2))

/-- The naming of 1/96. -/
theorem preserves : Cert.preserves_Latent_LatentIdeal := IdealRules.named_const.statement Cert.LatentIdeal.κ "inv_qk" .f32 0x3C2AAAAB#32 ((1 / 96 : ℝ) : EReal) rfl

theorem algebraic : Cert.algebraic_LatentIdeal_LatentReferenceIdeal_pre_finite_latents (hLatentIdeal := Cert.LatentIdeal.Gen.facts)
    (hLatentReferenceIdeal := Cert.LatentReferenceIdeal.Gen.facts) (hPre_finite_latents := preFacts) := by
  intro m g m' g' hpre hagree
  refine ⟨fun c => resultQuery m c, fun c => resultKey m c, fun c => resultValue m c, ?_, ?_⟩
  · exact (θ_run Cert.LatentIdeal.defs _ _).mono (fun _ h c => ⟨(h c).1.trans (final12 m c (finite_of_pre m hpre c)),
        (h c).2.1.trans (final13 m c (finite_of_pre m hpre c)), (h c).2.2.1.trans (final14 m c), (h c).2.2.2⟩)
      (Cert.LatentIdeal.Value.run_blocks m g)
  · refine (θ_run Cert.LatentReferenceIdeal.defs _ _).mono
      (fun _ h c => ⟨(h c).1.trans ((val_main_v135_eq m' c).trans ?_), (h c).2.1.trans ((val_main_v138_eq m' c).trans ?_),
        (h c).2.2.1.trans ((val_main_v140_eq _ _ _).trans ?_), (h c).2.2.2⟩) (Cert.LatentReferenceIdeal.Value.run (F := Ideal) m' g')
    · rw [(hagree c).1, (hagree c).2.1, (hagree c).2.2.1, (hagree c).2.2.2.2.2.1]
      exact query_eq m c
    · rw [(hagree c).1, (hagree c).2.2.2.1, (hagree c).2.2.2.2.1, (hagree c).2.2.2.2.2.2]
      exact key_eq m c
    · rw [(hagree c).1, (hagree c).2.2.2.1, (hagree c).2.2.2.2.1]
      exact value_eq m c

/-- The reference's frame. -/
theorem reference_frame : Cert.quiescent_LatentReferenceIdeal (hLatentReferenceIdeal := Cert.LatentReferenceIdeal.Gen.facts) := fun m ρ _ =>
  (θ_run Cert.LatentReferenceIdeal.defs _ _).mono (fun r h => ⟨fun c => (h c).2.2.2, Idealize.ShloMosaic.sem_eq_zero_of_no_sems (by decide) r.2⟩)
    (Cert.LatentReferenceIdeal.Value.run (F := Ideal) m ρ)

end Cert.Proof.Latent

end
-- ==== Proof.Conv.lean ====
/-
  The short convolution: what the kernel's result array holds, index by index. A grid point takes 512 tokens of one
  sample; each of its rows weighs the row above, itself and the row below. The row above the block's first row comes
  from the eight rows before the block, the row below its last from the eight rows after it, and outside the sample
  both are zero.
-/
module

public import proofs.«01_k».proof.Proof.Gen.ConvIdeal.Value
public import Idealize.ShloMosaic.Lib.KernelVsHost
public import Idealize.ShloMosaic.Lib.ValueLayout
public import Idealize.ShloMosaic.Lib.Pipeline.ValueKit
public import Idealize.ShloMosaic.Lib.StableHlo.ReadAt

@[expose] public section

noncomputable section

namespace Cert.Proof.Conv

open Cert.ConvIdeal Cert.ConvIdeal.Gen Idealize.ShloMosaic Idealize.ShloMosaic.TcCoe Idealize.SL.Sem
open Idealize.ShloMosaic.Pipeline (Dat)

/-- The row a rotation by one row brings to row `r`. -/
def rowAbove (r : Fin 512) : Fin 512 := ⟨(r.val + 511) % 512, Nat.mod_lt _ (by decide)⟩
/-- The row a rotation by 511 rows brings to row `r`. -/
def rowBelow (r : Fin 512) : Fin 512 := ⟨(r.val + 1) % 512, Nat.mod_lt _ (by decide)⟩

/-- The rotation's own spelling of the row it brings. -/
theorem above_val (r : Fin 512) : (rowAbove r).val = (r.val + 512 - (1#32).toNat % 512) % 512 := by
  show (r.val + 511) % 512 = (r.val + 512 - 1) % 512
  omega
/-- The rotation's own spelling of the row it brings. -/
theorem below_val (r : Fin 512) : (rowBelow r).val = (r.val + 512 - (511#32).toNat % 512) % 512 := by
  show (r.val + 1) % 512 = (r.val + 512 - 511) % 512
  omega

/-- A row's word is zero exactly at the first row. -/
theorem first_row : ∀ r : Fin 512, IntOp.cmpi .eq (BitVec.ofNat 32 r.val) 0#32 = 1#1 ↔ r.val = 0 := by decide +kernel
/-- A row's word is 511 exactly at the last row. -/
theorem last_row : ∀ r : Fin 512, IntOp.cmpi .eq (BitVec.ofNat 32 r.val) 511#32 = 1#1 ↔ r.val = 511 := by decide +kernel
/-- A block's word is zero exactly at a sample's first block. -/
theorem first_block : ∀ k : Fin 8, IntOp.cmpi .eq (BitVec.ofNat 32 k.val) 0#32 = 1#1 ↔ k.val = 0 := by decide +kernel
/-- A block's word is 7 exactly at a sample's last block. -/
theorem last_block : ∀ k : Fin 8, IntOp.cmpi .eq (BitVec.ofNat 32 k.val) 7#32 = 1#1 ↔ k.val = 7 := by decide +kernel

/-- The rows' own numbers. -/
theorem rows_apply (r : Fin 512) (l : Fin 1408) : iota .tc S512x1408 32 [0] iota_S512x1408_d0_w32 (ix2 r l) = BitVec.ofNat 32 r.val :=
  iota_single_apply .tc S512x1408 32 0 iota_S512x1408_d0_w32 (ix2 r l)

/-- A block turned by 1 row. -/
theorem turned_above (Y : FVec Ideal S512x1408 .f32) (r : Fin 512) (l : Fin 1408) :
    dynamicRotate 0 1#32 none Y rotates_S512x1408_d0 (ix2 r l) = Y (ix2 (rowAbove r) l) :=
  dynamicRotate_apply (0 : Fin 2) 1#32 Y rotates_S512x1408_d0 (ix2 r l) (ix2 (rowAbove r) l) fun b => by
    match b with
    | ⟨0, _⟩ => exact (above_val r).trans (if_pos rfl).symm
    | ⟨1, _⟩ => rfl

/-- A block turned by 511 rows. -/
theorem turned_below (Y : FVec Ideal S512x1408 .f32) (r : Fin 512) (l : Fin 1408) :
    dynamicRotate 0 511#32 none Y rotates_S512x1408_d0 (ix2 r l) = Y (ix2 (rowBelow r) l) :=
  dynamicRotate_apply (0 : Fin 2) 511#32 Y rotates_S512x1408_d0 (ix2 r l) (ix2 (rowBelow r) l) fun b => by
    match b with
    | ⟨0, _⟩ => exact (below_val r).trans (if_pos rfl).symm
    | ⟨1, _⟩ => rfl

/-- A weight's row repeated over the block's rows. -/
theorem weight_apply (w : FVec Ideal S1x1408 .f32) (r : Fin 512) (l : Fin 1408) :
    broadcastTo S512x1408 w broadcasts_S1x1408_S512x1408 (ix2 r l) = w (ix2 (0 : Fin 1) l) :=
  ValueIdx.broadcastTo_1b_ab_apply _ broadcasts_S1x1408_S512x1408 r l

/-- A row in place of the rotated block's first row, and zero in place of that row at the first block. -/
def above (i : grid0.Coords) (x : Vec Ideal S1x512x1408 .f32) (b : Vec Ideal S1x1x1408 .f32) (r : Fin 512) (l : Fin 1408) : EReal :=
  if r.val = 0 then (if (i 1).val = 0 then 0 else b (ix3 (0 : Fin 1) (0 : Fin 1) l)) else x (ix3 (0 : Fin 1) (rowAbove r) l)

/-- A row in place of the rotated block's last row, and zero in place of that row at the last block. -/
def below (i : grid0.Coords) (x : Vec Ideal S1x512x1408 .f32) (b : Vec Ideal S1x1x1408 .f32) (r : Fin 512) (l : Fin 1408) : EReal :=
  if r.val = 511 then (if (i 1).val = 7 then 0 else b (ix3 (0 : Fin 1) (0 : Fin 1) l)) else x (ix3 (0 : Fin 1) (rowBelow r) l)

/-- The row taken from the neighbouring block, or zero where there is none. -/
theorem edge_apply (p : BitVec 1) (b : Vec Ideal S1x1x1408 .f32) (r : Fin 512) (l : Fin 1408) :
    broadcastTo S512x1408 (shapeCast S1x1408 (Scalar.select p (broadcast S1x1408 (Scalar.ofBits .f32 0x00000000#32 : Ideal .f32))
        (shapeCast S1x1408 b shapeCasts_S1x1x1408_S1x1408)) shapeCasts_S1x1408_S1x1408) broadcasts_S1x1408_S512x1408 (ix2 r l)
      = if p = 1#1 then 0 else b (ix3 (0 : Fin 1) (0 : Fin 1) l) := by
  refine (ValueIdx.broadcastTo_1b_ab_apply _ broadcasts_S1x1408_S512x1408 r l).trans ?_
  rw [shapeCast_self]
  by_cases h : p = 1#1
  · rw [if_pos h, Scalar.select]
    refine (congrFun (if_pos h) _).trans ?_
    exact Ideal.ofBits_zero_f32
  · rw [if_neg h, Scalar.select]
    refine (congrFun (if_neg h) _).trans ?_
    exact ValueIdx.shapeCast_1ab_ab_apply _ shapeCasts_S1x1x1408_S1x1408 0 l

/-- The first two products of a block, at a row and a column. -/
theorem pay3_apply (i : grid0.Coords) (x : Vec Ideal S1x512x1408 .f32) (b : Vec Ideal S1x1x1408 .f32) (w₀ w₁ : Vec Ideal S1x1408 .f32) (r : Fin 512) (l : Fin 1408) :
    k0_pay3 i x b w₀ w₁ (ix2 r l)
      = above i x b r l * w₀ (ix2 (0 : Fin 1) l) + x (ix3 (0 : Fin 1) r l) * w₁ (ix2 (0 : Fin 1) l) := by
  unfold k0_pay3
  refine congrArg₂ (fun a b : EReal => a + b) (congrArg₂ (fun a b : EReal => a * b) ?_ (weight_apply w₀ r l))
    (congrArg₂ (fun a b : EReal => a * b) (ValueIdx.shapeCast_1ab_ab_apply _ shapeCasts_S1x512x1408_S512x1408 r l) (weight_apply w₁ r l))
  unfold above
  show Scalar.select (IntOp.cmpi .eq (iota .tc S512x1408 32 [0] iota_S512x1408_d0_w32 (ix2 r l)) 0#32) _ _ = _
  rw [rows_apply, Scalar.select]
  by_cases h : r.val = 0
  · rw [if_pos h]
    refine (if_pos ((first_row r).mpr h)).trans ?_
    refine (edge_apply _ b r l).trans ?_
    exact if_congr (first_block ⟨(i 1).val, (i 1).isLt⟩) rfl rfl
  · rw [if_neg h]
    refine (if_neg fun e => h ((first_row r).mp e)).trans ?_
    exact (turned_above (k0_pay2 x) r l).trans (ValueIdx.shapeCast_1ab_ab_apply _ shapeCasts_S1x512x1408_S512x1408 (rowAbove r) l)

/-- The third product of a block, at a row and a column. -/
theorem pay4_apply (i : grid0.Coords) (x : Vec Ideal S1x512x1408 .f32) (b : Vec Ideal S1x1x1408 .f32) (w₂ : Vec Ideal S1x1408 .f32) (r : Fin 512) (l : Fin 1408) :
    k0_pay4 i x b w₂ (ix2 r l) = below i x b r l * w₂ (ix2 (0 : Fin 1) l) := by
  unfold k0_pay4
  refine congrArg₂ (fun a b : EReal => a * b) ?_ (weight_apply w₂ r l)
  unfold below
  show Scalar.select (IntOp.cmpi .eq (iota .tc S512x1408 32 [0] iota_S512x1408_d0_w32 (ix2 r l)) 511#32) _ _ = _
  rw [rows_apply, Scalar.select]
  by_cases h : r.val = 511
  · rw [if_pos h]
    refine (if_pos ((last_row r).mpr h)).trans ?_
    refine (edge_apply _ b r l).trans ?_
    exact if_congr (last_block ⟨(i 1).val, (i 1).isLt⟩) rfl rfl
  · rw [if_neg h]
    refine (if_neg fun e => h ((last_row r).mp e)).trans ?_
    exact (turned_below (k0_pay2 x) r l).trans (ValueIdx.shapeCast_1ab_ab_apply _ shapeCasts_S1x512x1408_S512x1408 (rowBelow r) l)

/-- What the body leaves at a row and a column of its block. -/
def outBlock (i : grid0.Coords) (x : Vec Ideal S1x512x1408 .f32) (p q : Vec Ideal S1x8x1408 .f32) (w : Vec Ideal S3x1408 .f32) (r : Fin 512) (l : Fin 1408) : EReal :=
  above i x (View.ld p r0_1) r l * w (ix2 (0 : Fin 3) l) + x (ix3 (0 : Fin 1) r l) * w (ix2 (1 : Fin 3) l)
    + below i x (View.ld q r0_2) r l * w (ix2 (2 : Fin 3) l)

/-- The row before the block is the last of the eight. -/
theorem before_apply (p : Vec Ideal S1x8x1408 .f32) (l : Fin 1408) :
    (View.ld p r0_1 : Vec Ideal S1x1x1408 .f32) (ix3 (0 : Fin 1) (0 : Fin 1) l) = p (ix3 (0 : Fin 1) (7 : Fin 8) l) :=
  View.ld_unit_apply_of p _ _ _ _ _ fun a => match a with
    | ⟨0, _⟩ => rfl
    | ⟨1, _⟩ => rfl
    | ⟨2, _⟩ => (Nat.zero_add l.val).symm

/-- The row after the block is the first of the eight. -/
theorem after_apply (q : Vec Ideal S1x8x1408 .f32) (l : Fin 1408) :
    (View.ld q r0_2 : Vec Ideal S1x1x1408 .f32) (ix3 (0 : Fin 1) (0 : Fin 1) l) = q (ix3 (0 : Fin 1) (0 : Fin 8) l) :=
  View.ld_unit_apply_of q _ _ _ _ _ fun a => match a with
    | ⟨0, _⟩ => rfl
    | ⟨1, _⟩ => rfl
    | ⟨2, _⟩ => (Nat.zero_add l.val).symm

/-- One of the three weights' rows. -/
theorem tap_apply (w : Vec Ideal S3x1408 .f32) (k : Fin 3) (inb : ∀ a, (![k.val, 0] : Fin 2 → ℕ) a + S1x1408.size a ≤ S3x1408.size a) (l : Fin 1408) :
    (View.ld w (Rect.unit (s := S3x1408) ![k.val, 0] S1x1408.size inb) : Vec Ideal S1x1408 .f32) (ix2 (0 : Fin 1) l) = w (ix2 k l) :=
  View.ld_unit_apply_of w _ _ _ _ _ fun a => match a with
    | ⟨0, _⟩ => rfl
    | ⟨1, _⟩ => (Nat.zero_add l.val).symm

/-- What the body leaves in its block. -/
theorem out4_eq (i : grid0.Coords) (x : Vec Ideal S1x512x1408 .f32) (p q : Vec Ideal S1x8x1408 .f32) (w : Vec Ideal S3x1408 .f32) :
    out0_4 i x p q w = fun y => outBlock i x p q w (y 1) (y 2) := by
  have hz : (![0, 0, 0] : Fin 3 → ℕ) = fun _ => 0 := by decide
  unfold out0_4
  rw [View.canon_unit_zero hz, View.ld_unit_zero hz]
  funext y
  obtain ⟨u, r, l, rfl⟩ : ∃ (u : Fin 1) (r : Fin 512) (l : Fin 1408), y = ix3 u r l := ⟨y 0, y 1, y 2, ValueIdx.eq_ix3 y⟩
  unfold k0_pay1
  refine (ValueIdx.shapeCast_ab_1ab_apply _ shapeCasts_S512x1408_S1x512x1408 u r l).trans ?_
  refine congrArg₂ (fun a b : EReal => a + b) ((pay3_apply i x _ _ _ r l).trans ?_) ((pay4_apply i x _ _ r l).trans ?_)
  · exact congrArg₂ (fun a b : EReal => a + b) (congrArg (fun b : EReal => _ * b) (tap_apply w 0 _ l)) (congrArg (fun b : EReal => _ * b) (tap_apply w 1 _ l))
  · exact congrArg (fun b : EReal => _ * b) (tap_apply w 2 _ l)

variable (m : (ℓ : Loc nD τ sig) → Buf (Elt Ideal) ℓ)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, (grid0.coords t 1).val * 64 - 1, 0] :=
  (by decide +kernel : ∀ t : Fin grid0.N, win0_1.index t = ![(grid0.coords t 0).val, (grid0.coords t 1).val * 64 - 1, 0])
theorem index2 : ∀ t : Fin cfg0.N, win0_2.index t = ![(grid0.coords t 0).val, min (((grid0.coords t 1).val + 1) * 64) 511, 0] :=
  (by decide +kernel : ∀ t : Fin grid0.N, win0_2.index t = ![(grid0.coords t 0).val, min (((grid0.coords t 1).val + 1) * 64) 511, 0])
theorem index3 : ∀ t : Fin cfg0.N, win0_3.index t = ![0, 0] :=
  (by decide +kernel : ∀ t : Fin grid0.N, win0_3.index t = ![0, 0])
theorem index4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])

/-- The sample a grid point works on. -/
def sample (t : Fin cfg0.N) : Fin 2 := ⟨(grid0.coords t 0).val, (grid0.coords t 0).isLt⟩
/-- The token a grid point's block has at row `r`. -/
def token (t : Fin cfg0.N) (r : Fin 512) : Fin 4096 :=
  ⟨(grid0.coords t 1).val * 512 + r.val, by have : (grid0.coords t 1).val < 8 := (grid0.coords t 1).isLt; omega⟩

/-- The tokens' block of a grid point, of any array. -/
theorem read0 (X : Vec Ideal S2x4096x1408 .f32) (t : Fin cfg0.N) (r : Fin 512) (l : Fin 1408) :
    ((win0_0.blk t).view.read (Elt Ideal) X : Vec Ideal S1x512x1408 .f32) (ix3 (0 : Fin 1) r l) = X (ix3 (sample t) (token t r) l) := by
  refine congrArg X (funext fun a => Fin.ext ?_)
  refine (Pipeline.Window.rect_emb_val win0_0 t _ a).trans ?_
  match a with
  | ⟨0, _⟩ => show win0_0.index t 0 * 1 + 0 = (grid0.coords t 0).val; rw [index0]; show (grid0.coords t 0).val * 1 + 0 = _; omega
  | ⟨1, _⟩ => show win0_0.index t 1 * 512 + r.val = (grid0.coords t 1).val * 512 + r.val; rw [index0]; rfl
  | ⟨2, _⟩ => show win0_0.index t 2 * 1408 + l.val = l.val; rw [index0]; show 0 * 1408 + l.val = l.val; omega

/-- The eight rows before a grid point's block, where there are any. -/
theorem read1 (X : Vec Ideal S2x4096x1408 .f32) (t : Fin cfg0.N) (l : Fin 1408) (j : Fin 4096) (h : j.val + 1 = (grid0.coords t 1).val * 512) :
    ((win0_1.blk t).view.read (Elt Ideal) X : Vec Ideal S1x8x1408 .f32) (ix3 (0 : Fin 1) (7 : Fin 8) l) = X (ix3 (sample t) j l) := by
  refine congrArg X (funext fun a => Fin.ext ?_)
  refine (Pipeline.Window.rect_emb_val win0_1 t _ a).trans ?_
  match a with
  | ⟨0, _⟩ => show win0_1.index t 0 * 1 + 0 = (grid0.coords t 0).val; rw [index1]; show (grid0.coords t 0).val * 1 + 0 = _; omega
  | ⟨1, _⟩ => show win0_1.index t 1 * 8 + 7 = j.val; rw [index1]; show ((grid0.coords t 1).val * 64 - 1) * 8 + 7 = j.val; omega
  | ⟨2, _⟩ => show win0_1.index t 2 * 1408 + l.val = l.val; rw [index1]; show 0 * 1408 + l.val = l.val; omega

/-- The eight rows after a grid point's block, where there are any. -/
theorem read2 (X : Vec Ideal S2x4096x1408 .f32) (t : Fin cfg0.N) (l : Fin 1408) (j : Fin 4096) (h : j.val = ((grid0.coords t 1).val + 1) * 512) :
    ((win0_2.blk t).view.read (Elt Ideal) X : Vec Ideal S1x8x1408 .f32) (ix3 (0 : Fin 1) (0 : Fin 8) l) = X (ix3 (sample t) j l) := by
  have hj : j.val < 4096 := j.isLt
  refine congrArg X (funext fun a => Fin.ext ?_)
  refine (Pipeline.Window.rect_emb_val win0_2 t _ a).trans ?_
  match a with
  | ⟨0, _⟩ => show win0_2.index t 0 * 1 + 0 = (grid0.coords t 0).val; rw [index2]; show (grid0.coords t 0).val * 1 + 0 = _; omega
  | ⟨1, _⟩ => show win0_2.index t 1 * 8 + 0 = j.val; rw [index2]; show min (((grid0.coords t 1).val + 1) * 64) 511 * 8 + 0 = j.val; omega
  | ⟨2, _⟩ => show win0_2.index t 2 * 1408 + l.val = l.val; rw [index2]; show 0 * 1408 + l.val = l.val; omega

/-- The weights' block of a grid point, of any array: all of it. -/
theorem read3 (X : Vec Ideal S3x1408 .f32) (t : Fin cfg0.N) (k : Fin 3) (l : Fin 1408) :
    ((win0_3.blk t).view.read (Elt Ideal) X : Vec Ideal S3x1408 .f32) (ix2 k l) = X (ix2 k l) := by
  refine congrArg X (funext fun a => Fin.ext ?_)
  refine (Pipeline.Window.rect_emb_val win0_3 t _ a).trans ?_
  match a with
  | ⟨0, _⟩ => show win0_3.index t 0 * 3 + k.val = k.val; rw [index3]; show 0 * 3 + k.val = _; omega
  | ⟨1, _⟩ => show win0_3.index t 1 * 1408 + l.val = l.val; rw [index3]; show 0 * 1408 + l.val = l.val; omega

/-- A token's predecessor in its sample, zero before the first. -/
def previous (x : Vec Ideal S2x4096x1408 .f32) (b : Fin 2) (i : Fin 4096) (l : Fin 1408) : EReal :=
  if i.val = 0 then 0 else x (ix3 b ⟨i.val - 1, by omega⟩ l)

/-- A token's successor in its sample, zero after the last. -/
def following (x : Vec Ideal S2x4096x1408 .f32) (b : Fin 2) (i : Fin 4096) (l : Fin 1408) : EReal :=
  if h : i.val + 1 < 4096 then x (ix3 b ⟨i.val + 1, h⟩ l) else 0

/-- The convolution over whole arrays. -/
def convolved (x : Vec Ideal S2x4096x1408 .f32) (w : Vec Ideal S3x1408 .f32) (b : Fin 2) (i : Fin 4096) (l : Fin 1408) : EReal :=
  previous x b i l * w (ix2 (0 : Fin 3) l) + x (ix3 b i l) * w (ix2 (1 : Fin 3) l) + following x b i l * w (ix2 (2 : Fin 3) l)

/-- The row above a row of a block is the token's predecessor. -/
theorem above_eq (X : Vec Ideal S2x4096x1408 .f32) (t : Fin cfg0.N) (r : Fin 512) (l : Fin 1408) :
    above (grid0.coords t) ((win0_0.blk t).view.read (Elt Ideal) X) (View.ld ((win0_1.blk t).view.read (Elt Ideal) X : Vec Ideal S1x8x1408 .f32) r0_1) r l
      = previous X (sample t) (token t r) l := by
  have ht : (token t r).val = (grid0.coords t 1).val * 512 + r.val := rfl
  have hr : r.val < 512 := r.isLt
  unfold above previous
  by_cases h : r.val = 0
  · rw [if_pos h]
    by_cases h' : (grid0.coords t 1).val = 0
    · rw [if_pos h', if_pos (by rw [ht, h, h'])]
    · rw [if_neg h', if_neg (by omega)]
      refine (before_apply _ l).trans (read1 X t l _ ?_)
      show (token t r).val - 1 + 1 = _
      omega
  · rw [if_neg h, if_neg (by omega)]
    refine (read0 X t (rowAbove r) l).trans (congrArg (fun j => X (ix3 (sample t) j l)) (Fin.ext ?_))
    show (grid0.coords t 1).val * 512 + (r.val + 511) % 512 = (token t r).val - 1
    omega

/-- The row below a row of a block is the token's successor. -/
theorem below_eq (X : Vec Ideal S2x4096x1408 .f32) (t : Fin cfg0.N) (r : Fin 512) (l : Fin 1408) :
    below (grid0.coords t) ((win0_0.blk t).view.read (Elt Ideal) X) (View.ld ((win0_2.blk t).view.read (Elt Ideal) X : Vec Ideal S1x8x1408 .f32) r0_2) r l
      = following X (sample t) (token t r) l := by
  have ht : (token t r).val = (grid0.coords t 1).val * 512 + r.val := rfl
  have hr : r.val < 512 := r.isLt
  have hk : (grid0.coords t 1).val < 8 := (grid0.coords t 1).isLt
  unfold below following
  by_cases h : r.val = 511
  · rw [if_pos h]
    by_cases h' : (grid0.coords t 1).val = 7
    · rw [if_pos h', dif_neg (by omega)]
    · rw [if_neg h', dif_pos (by omega)]
      refine (after_apply _ l).trans (read2 X t l _ ?_)
      show (token t r).val + 1 = _
      omega
  · rw [if_neg h, dif_pos (by omega)]
    refine (read0 X t (rowBelow r) l).trans (congrArg (fun j => X (ix3 (sample t) j l)) (Fin.ext ?_))
    show (grid0.coords t 1).val * 512 + (r.val + 1) % 512 = (token t r).val + 1
    omega

/-- The result array. -/
def result4 (c : Dev nD) : Vec Ideal S2x4096x1408 .f32 := fun y =>
  convolved (m ((c : Thread nD τ).loc main_arg0)) (m ((c : Thread nD τ).loc main_arg1)) (y 0) (y 1) (y 2)

/-- The written blocks cover the result array. -/
theorem covers4 : (cfg0.win 4).Covers := by decide +kernel

/-- Where an element of the result's block lies in the array. -/
theorem place4 (t : Fin cfg0.N) (y : S1x512x1408.Idx) :
    (((cfg0.win 4).blk t).view.emb y : S2x4096x1408.Idx) = ix3 (sample t) (token t (y 1)) (y 2) := by
  blk_ext [sample, token, index4 t]

/-- A block computed from blocks of whole arrays is the convolution of those arrays. -/
theorem block_eq (X : Vec Ideal S2x4096x1408 .f32) (W : Vec Ideal S3x1408 .f32) (t : Fin cfg0.N) (r : Fin 512) (l : Fin 1408) :
    outBlock (grid0.coords t) ((win0_0.blk t).view.read (Elt Ideal) X) ((win0_1.blk t).view.read (Elt Ideal) X) ((win0_2.blk t).view.read (Elt Ideal) X)
        ((win0_3.blk t).view.read (Elt Ideal) W) r l
      = convolved X W (sample t) (token t r) l := by
  unfold outBlock convolved
  refine congrArg₂ (fun a b : EReal => a + b) (congrArg₂ (fun a b : EReal => a + b) ?_ ?_) ?_
  · exact congrArg₂ (fun a b : EReal => a * b) (above_eq X t r l) (read3 W t 0 l)
  · exact congrArg₂ (fun a b : EReal => a * b) (read0 X t r l) (read3 W t 1 l)
  · exact congrArg₂ (fun a b : EReal => a * b) (below_eq X t r l) (read3 W t 2 l)

/-- A grid point's block is the convolution at its sample and tokens. -/
theorem block4 (c : Dev nD) (t : Fin cfg0.N) (y : S1x512x1408.Idx) :
    outBlock (grid0.coords t) (iblk m c 0 t) (iblk m c 1 t) (iblk m c 2 t) (iblk m c 3 t) (y 1) (y 2)
      = result4 m c (ix3 (sample t) (token t (y 1)) (y 2)) := by
  refine (block_eq (V m c main_arg0) (V m c main_arg1) t (y 1) (y 2)).trans ?_
  rw [V_main_arg0, V_main_arg1]
  rfl

/-- After the run the result array is `result4`. -/
theorem final4 (c : Dev nD) : (dats m 0 c).arrAt 4 cfg0.N = result4 m c := by
  refine (dats m 0 c).arrAt_eq_of_covers 4 _ covers4 fun t hf y => ?_
  blk_simp
  rw [after0_4, out4_eq]
  exact (block4 m c t y).trans (congrArg (result4 m c) (place4 t y)).symm

end Cert.Proof.Conv

end
-- ==== Proof.ConvClaim.lean ====
/-
  The short convolution's claims: the reference pads each sample with a zero row at both ends and weighs the three
  shifted copies; no input is excluded.
-/
module

public import proofs.«01_k».proof.Defs
public import proofs.«01_k».proof.Proof.Conv
public import proofs.«01_k».proof.Proof.Gen.Conv.Frame
public import proofs.«01_k».proof.Proof.Gen.ConvReferenceIdeal.Run
public import proofs.«01_k».proof.Proof.Gen.ConvReferenceIdeal.Read
public import Idealize.ShloMosaic.Lib.Quiescent

@[expose] public section

noncomputable section

namespace Cert.Proof.Conv

open Cert.ConvReferenceIdeal Cert.ConvReferenceIdeal.Read Cert.ConvReferenceIdeal.Gen Idealize.ShloMosaic Idealize.ShloMosaic.TcCoe Idealize.SL.Sem

variable (x : Vec Ideal S2x4096x1408 .f32) (w : Vec Ideal S3x1408 .f32)

/-- A row of the padded sample past its first is a row of the sample. -/
theorem padded_inside (b : Fin 2) (j : Fin 4098) (i : Fin 4096) (l : Fin 1408) (h : j.val = 1 + i.val) :
    val_main_v0 (F := Ideal) x (ix3 b j l) = x (ix3 b i l) := by
  unfold val_main_v0
  refine pad_apply_of_inside _ _ _ x _ _ _ _ (ix3 b i l) fun a => ?_
  match a with
  | ⟨0, _⟩ => show b.val = 0 + b.val * (0 + 1); omega
  | ⟨1, _⟩ => show j.val = 1 + i.val * (0 + 1); omega
  | ⟨2, _⟩ => show l.val = 0 + l.val * (0 + 1); omega

/-- The padded sample's first and last rows are zero. -/
theorem padded_outside (b : Fin 2) (j : Fin 4098) (l : Fin 1408) (h : j.val = 0 ∨ j.val = 4097) :
    val_main_v0 (F := Ideal) x (ix3 b j l) = (0 : EReal) := by
  unfold val_main_v0
  refine (pad_apply_of_not_inside _ _ _ x _ _ _ _ (1 : Fin 3) ?_).trans (sitofp_zero (φ := .f32))
  show ¬(1 ≤ j.val ∧ (j.val - 1) % (0 + 1) = 0 ∧ (j.val - 1) / (0 + 1) < 4096)
  omega

/-- The first shifted copy. -/
theorem previous_apply (b : Fin 2) (i : Fin 4096) (l : Fin 1408) : val_main_v1 (F := Ideal) x (ix3 b i l) = previous x b i l := by
  have e : idx_main_v1 (ix3 b i l) = ix3 b (⟨i.val, by omega⟩ : Fin 4098) l := funext fun a => match a with | ⟨0, _⟩ => rfl | ⟨1, _⟩ => rfl | ⟨2, _⟩ => rfl
  rw [val_main_v1_apply, e]
  unfold previous
  by_cases h : i.val = 0
  · rw [if_pos h]; exact padded_outside x b _ l (.inl h)
  · rw [if_neg h]
    refine padded_inside x b _ _ l ?_
    show i.val = 1 + (i.val - 1)
    omega

/-- The second shifted copy: the sample itself. -/
theorem own_apply (b : Fin 2) (i : Fin 4096) (l : Fin 1408) : val_main_v7 (F := Ideal) x (ix3 b i l) = x (ix3 b i l) := by
  have e : idx_main_v7 (ix3 b i l) = ix3 b (⟨1 + i.val, by omega⟩ : Fin 4098) l := funext fun a => match a with | ⟨0, _⟩ => rfl | ⟨1, _⟩ => rfl | ⟨2, _⟩ => rfl
  rw [val_main_v7_apply, e]
  exact padded_inside x b _ i l rfl

/-- The third shifted copy. -/
theorem following_apply (b : Fin 2) (i : Fin 4096) (l : Fin 1408) : val_main_v14 (F := Ideal) x (ix3 b i l) = following x b i l := by
  have e : idx_main_v14 (ix3 b i l) = ix3 b (⟨2 + i.val, by omega⟩ : Fin 4098) l := funext fun a => match a with | ⟨0, _⟩ => rfl | ⟨1, _⟩ => rfl | ⟨2, _⟩ => rfl
  rw [val_main_v14_apply, e]
  unfold following
  by_cases h : i.val + 1 < 4096
  · rw [dif_pos h]
    refine padded_inside x b _ _ l ?_
    show 2 + i.val = 1 + (i.val + 1)
    omega
  · rw [dif_neg h]
    refine padded_outside x b _ l (.inr ?_)
    show 2 + i.val = 4097
    omega

/-- The first weight row, repeated. -/
theorem tap0_apply (b : Fin 2) (i : Fin 4096) (l : Fin 1408) : val_main_v5 (F := Ideal) w (ix3 b i l) = w (ix2 (0 : Fin 3) l) := by
  rw [val_main_v5_apply, val_main_v4_apply, val_main_v3_apply, val_main_v2_apply]
  refine congrArg w (funext fun a => Fin.ext ?_)
  match a with
  | ⟨0, _⟩ => rfl
  | ⟨1, _⟩ => exact Nat.mod_eq_of_lt l.isLt

/-- The second weight row, repeated. -/
theorem tap1_apply (b : Fin 2) (i : Fin 4096) (l : Fin 1408) : val_main_v11 (F := Ideal) w (ix3 b i l) = w (ix2 (1 : Fin 3) l) := by
  rw [val_main_v11_apply, val_main_v10_apply, val_main_v9_apply, val_main_v8_apply]
  refine congrArg w (funext fun a => Fin.ext ?_)
  match a with
  | ⟨0, _⟩ => rfl
  | ⟨1, _⟩ => exact Nat.mod_eq_of_lt l.isLt

/-- The third weight row, repeated. -/
theorem tap2_apply (b : Fin 2) (i : Fin 4096) (l : Fin 1408) : val_main_v18 (F := Ideal) w (ix3 b i l) = w (ix2 (2 : Fin 3) l) := by
  rw [val_main_v18_apply, val_main_v17_apply, val_main_v16_apply, val_main_v15_apply]
  refine congrArg w (funext fun a => Fin.ext ?_)
  match a with
  | ⟨0, _⟩ => rfl
  | ⟨1, _⟩ => exact Nat.mod_eq_of_lt l.isLt

/-- The reference at an index. -/
theorem reference_apply (b : Fin 2) (i : Fin 4096) (l : Fin 1408) : val_main_v20 (F := Ideal) x w (ix3 b i l) = convolved x w b i l := by
  rw [val_main_v20_apply, val_main_v13_apply, val_main_v6_apply, val_main_v12_apply, val_main_v19_apply,
    previous_apply, own_apply, following_apply, tap0_apply, tap1_apply, tap2_apply]
  rfl

/-- The results agree. -/
theorem results_eq (m : (ℓ : Loc Cert.ConvIdeal.nD Cert.ConvIdeal.τ Cert.ConvIdeal.sig) → Buf (Elt Ideal) ℓ) (c : Dev Cert.ConvIdeal.nD) :
    val_main_v20 (F := Ideal)
        (m ((c : Thread Cert.ConvIdeal.nD Cert.ConvIdeal.τ).loc Cert.ConvIdeal.main_arg0))
        (m ((c : Thread Cert.ConvIdeal.nD Cert.ConvIdeal.τ).loc Cert.ConvIdeal.main_arg1))
      = result4 m c := by
  funext y
  obtain ⟨b, i, l, rfl⟩ : ∃ (b : Fin 2) (i : Fin 4096) (l : Fin 1408), y = ix3 b i l := ⟨y 0, y 1, y 2, ValueIdx.eq_ix3 y⟩
  exact reference_apply _ _ b i l

/-- The value claim. -/
theorem algebraic : Cert.algebraic_ConvIdeal_ConvReferenceIdeal (hConvIdeal := Cert.ConvIdeal.Gen.facts)
    (hConvReferenceIdeal := Cert.ConvReferenceIdeal.Gen.facts) := by
  intro m g m' g' hpre hagree
  refine ⟨fun c => result4 m c, ?_, ?_⟩
  · exact (θ_run Cert.ConvIdeal.defs _ _).mono (fun _ h c => ⟨(h c).1.trans (final4 m c), (h c).2⟩)
      (Cert.ConvIdeal.Value.run_blocks m g)
  · refine (θ_run Cert.ConvReferenceIdeal.defs _ _).mono
      (fun _ h c => ⟨(h c).1.trans ?_, (h c).2⟩) (Cert.ConvReferenceIdeal.Value.run (F := Ideal) m' g')
    rw [(hagree c).1, (hagree c).2]
    exact results_eq m c

/-- The reference's frame. -/
theorem reference_frame : Cert.quiescent_ConvReferenceIdeal (hConvReferenceIdeal := Cert.ConvReferenceIdeal.Gen.facts) := fun m ρ _ =>
  (θ_run Cert.ConvReferenceIdeal.defs _ _).mono (fun r h => ⟨fun c => (h c).2, Idealize.ShloMosaic.sem_eq_zero_of_no_sems (by decide) r.2⟩)
    (Cert.ConvReferenceIdeal.Value.run (F := Ideal) m ρ)

end Cert.Proof.Conv

end
-- ==== Proof.lean ====
module

public import proofs.«01_k».proof.Defs
public import proofs.«01_k».proof.Proof.Attention
public import proofs.«01_k».proof.Proof.InProjClaim
public import proofs.«01_k».proof.Proof.OutProjClaim
public import proofs.«01_k».proof.Proof.LatentClaim
public import proofs.«01_k».proof.Proof.ConvClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.OutProj.Gen.facts, Cert.OutProjIdeal.Gen.facts, Cert.OutProjReferenceIdeal.Gen.facts,
    Cert.Latent.Gen.facts, Cert.LatentIdeal.Gen.facts, Cert.LatentReferenceIdeal.Gen.facts,
    Cert.Conv.Gen.facts, Cert.ConvIdeal.Gen.facts, Cert.ConvReferenceIdeal.Gen.facts,
    Attention.preFacts, Latent.preFacts,
    fun m ρ _ => Cert.Kernel.Gen.frame m ρ,
    fun m ρ _ => Cert.KernelIdeal.Gen.frame m ρ,
    fun m ρ _ => Cert.KernelIdeal.Gen.frame m ρ,
    Attention.reference_frame,
    fun m ρ _ => Attention.reference_frame m ρ trivial,
    fun m ρ _ => Cert.InProj.Gen.frame m ρ,
    fun m ρ _ => Cert.InProjIdeal.Gen.frame m ρ,
    InProj.reference_frame,
    fun m ρ _ => Cert.OutProj.Gen.frame m ρ,
    fun m ρ _ => Cert.OutProjIdeal.Gen.frame m ρ,
    OutProj.reference_frame,
    fun m ρ _ => Cert.Latent.Gen.frame m ρ,
    fun m ρ _ => Cert.LatentIdeal.Gen.frame m ρ,
    fun m ρ _ => Cert.LatentIdeal.Gen.frame m ρ,
    Latent.reference_frame,
    fun m ρ _ => Latent.reference_frame m ρ trivial,
    fun m ρ _ => Cert.Conv.Gen.frame m ρ,
    fun m ρ _ => Cert.ConvIdeal.Gen.frame m ρ,
    Conv.reference_frame,
    trivial,
    Attention.algebraic,
    trivial,
    InProj.algebraic,
    trivial,
    OutProj.algebraic,
    Latent.preserves,
    Latent.algebraic,
    trivial,
    Conv.algebraic⟩

end Cert.Proof

end
